-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v189) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S1x16384x2048 : Shape := ⟨3, ![1, 16384, 2048]⟩
abbrev S16384x2048 : Shape := ⟨2, ![16384, 2048]⟩
abbrev S16384x16x128 : Shape := ⟨3, ![16384, 16, 128]⟩
abbrev S3x512x2048 : Shape := ⟨3, ![3, 512, 2048]⟩
abbrev S3 : Shape := ⟨1, ![3]⟩
abbrev S2x512x16x128 : Shape := ⟨4, ![2, 512, 16, 128]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S512x128 : Shape := ⟨2, ![512, 128]⟩
abbrev S1x512x16x128 : Shape := ⟨4, ![1, 512, 16, 128]⟩
abbrev S512x16x128 : Shape := ⟨3, ![512, 16, 128]⟩
abbrev S512x1x128 : Shape := ⟨3, ![512, 1, 128]⟩

abbrev nBuf : Space → Nat
  | .hbm => 6
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x16x128, .i32⟩
  | .local _ .vmem, ⟨0, _⟩ => ⟨S3x512x2048, .f32⟩
  | .local _ .vmem, ⟨1, _⟩ => ⟨S3x512x2048, .f32⟩
  | .local _ .vmem, ⟨2, _⟩ => ⟨S2x512x16x128, .i32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩

abbrev nD : Nat := 1
abbrev τ : Topo := Topo.v7x

variable {F : FTy → Type} [BitOps F]

abbrev grid0 : Pipeline.Grid := .none

def k0_off1 : Fin 1 → Nat :=
  let c0_i32_18_r0 : BitVec 32 := 0#32
  let c3_i32_r0 : BitVec 32 := 3#32
  let v21_r0 : BitVec 32 := Scalar.remui c0_i32_18_r0 c3_i32_r0
  ![v21_r0.toNat]
def k0_off2 : Fin 3 → Nat :=
  let c0_i32_18_r0 : BitVec 32 := 0#32
  let c3_i32_r0 : BitVec 32 := 3#32
  let v21_r0 : BitVec 32 := Scalar.remui c0_i32_18_r0 c3_i32_r0
  let c0_i32_19_r0 : BitVec 32 := 0#32
  let c0_i32_20_r0 : BitVec 32 := 0#32
  ![v21_r0.toNat, 0, 0]
def k0_cond1 : BitVec 1 :=
  let true_34_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_33_r0 : BitVec 32 := 0#32
  let v35_r0 : BitVec 1 := Scalar.cmpi .ne v10_r0 c0_i32_33_r0
  let v36_r0 : BitVec 1 := Scalar.andi true_34_r0 v35_r0
  let true_35_r0 : BitVec 1 := 1#1
  let v37_r0 : BitVec 1 := Scalar.andi v36_r0 true_35_r0
  let v38_r0 : BitVec 32 := Scalar.extui v37_r0
  let c0_i32_36_r0 : BitVec 32 := 0#32
  let v39_r0 : BitVec 1 := Scalar.cmpi .ne v38_r0 c0_i32_36_r0
  v39_r0

def k0_off3 : Fin 1 → Nat :=
  let c0_i32_23_r0 : BitVec 32 := 0#32
  let c1_i32_24_r0 : BitVec 32 := 1#32
  let v27_r0 : BitVec 32 := Scalar.addi c0_i32_23_r0 c1_i32_24_r0
  let c3_i32_82_r0 : BitVec 32 := 3#32
  let v83_r0 : BitVec 32 := Scalar.remui v27_r0 c3_i32_82_r0
  ![v83_r0.toNat]
def k0_off4 : Fin 3 → Nat :=
  let c0_i32_23_r0 : BitVec 32 := 0#32
  let c1_i32_24_r0 : BitVec 32 := 1#32
  let v27_r0 : BitVec 32 := Scalar.addi c0_i32_23_r0 c1_i32_24_r0
  let c3_i32_82_r0 : BitVec 32 := 3#32
  let v83_r0 : BitVec 32 := Scalar.remui v27_r0 c3_i32_82_r0
  let c0_i32_84_r0 : BitVec 32 := 0#32
  let c0_i32_85_r0 : BitVec 32 := 0#32
  ![v83_r0.toNat, 0, 0]
def k0_off5 : Fin 2 → Nat :=
  let c512_i32_83_r0 : BitVec 32 := 512#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c512_i32_83_r0 v10_r0
  let c0_i32_86_r0 : BitVec 32 := 0#32
  ![v84_r0.toNat, 0]
def k0_cond2 : BitVec 1 :=
  let true_39_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_38_r0 : BitVec 32 := 0#32
  let v42_r0 : BitVec 1 := Scalar.cmpi .ne v10_r0 c0_i32_38_r0
  let v43_r0 : BitVec 1 := Scalar.andi true_39_r0 v42_r0
  let true_40_r0 : BitVec 1 := 1#1
  let v44_r0 : BitVec 1 := Scalar.andi v43_r0 true_40_r0
  let v45_r0 : BitVec 32 := Scalar.extui v44_r0
  let c0_i32_41_r0 : BitVec 32 := 0#32
  let v46_r0 : BitVec 1 := Scalar.cmpi .ne v45_r0 c0_i32_41_r0
  v46_r0

def k0_off6 : Fin 1 → Nat :=
  let c0_i32_31_r0 : BitVec 32 := 0#32
  let c1_i32_32_r0 : BitVec 32 := 1#32
  let v34_r0 : BitVec 32 := Scalar.addi c0_i32_31_r0 c1_i32_32_r0
  let c3_i32_82_r0 : BitVec 32 := 3#32
  let v83_r0 : BitVec 32 := Scalar.remui v34_r0 c3_i32_82_r0
  ![v83_r0.toNat]
def k0_off7 : Fin 3 → Nat :=
  let c0_i32_31_r0 : BitVec 32 := 0#32
  let c1_i32_32_r0 : BitVec 32 := 1#32
  let v34_r0 : BitVec 32 := Scalar.addi c0_i32_31_r0 c1_i32_32_r0
  let c3_i32_82_r0 : BitVec 32 := 3#32
  let v83_r0 : BitVec 32 := Scalar.remui v34_r0 c3_i32_82_r0
  let c0_i32_84_r0 : BitVec 32 := 0#32
  let c0_i32_85_r0 : BitVec 32 := 0#32
  ![v83_r0.toNat, 0, 0]
def k0_off8 : Fin 2 → Nat :=
  let c512_i32_83_r0 : BitVec 32 := 512#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c512_i32_83_r0 v10_r0
  let c0_i32_86_r0 : BitVec 32 := 0#32
  ![v84_r0.toNat, 0]
@[reducible] def k0_t1_loop : Scf.Loop 32 :=
  let c0_i32_48_r0 : BitVec 32 := 0#32
  let c32_i32_49_r0 : BitVec 32 := 32#32
  let v49_r0 : BitVec 32 := Scalar.addi c0_i32_48_r0 c32_i32_49_r0
  let c1_i32_50_r0 : BitVec 32 := 1#32
  ⟨c0_i32_48_r0, v49_r0, c1_i32_50_r0⟩
def k0_off9 (arg4_r0 : BitVec 32) : Fin 1 → Nat :=
  let c3_i32_233_r0 : BitVec 32 := 3#32
  let v303_r0 : BitVec 32 := Scalar.remui arg4_r0 c3_i32_233_r0
  ![v303_r0.toNat]
def k0_cond3 (k0_t1 : Fin k0_t1_loop.trips) (arg10_r0 : BitVec 32) : BitVec 1 :=
  let true_91_r0 : BitVec 1 := 1#1
  let c1_i32_90_r0 : BitVec 32 := 1#32
  let v91_r0 : BitVec 32 := Scalar.addi arg10_r0 c1_i32_90_r0
  let v92_r0 : BitVec 32 := Scalar.select true_91_r0 v91_r0 arg10_r0
  let c32_i32_92_r0 : BitVec 32 := 32#32
  let v93_r0 : BitVec 1 := Scalar.cmpi .eq v92_r0 c32_i32_92_r0
  let c0_i32_93_r0 : BitVec 32 := 0#32
  let v94_r0 : BitVec 32 := Scalar.select v93_r0 c0_i32_93_r0 v92_r0
  let c0_i32_94_r0 : BitVec 32 := 0#32
  let v95_r0 : BitVec 32 := Scalar.addi v94_r0 c0_i32_94_r0
  let true_96_r0 : BitVec 1 := 1#1
  let c1_i32_95_r0 : BitVec 32 := 1#32
  let v96_r0 : BitVec 32 := Scalar.addi v94_r0 c1_i32_95_r0
  let v97_r0 : BitVec 32 := Scalar.select true_96_r0 v96_r0 v94_r0
  let c32_i32_97_r0 : BitVec 32 := 32#32
  let v98_r0 : BitVec 1 := Scalar.cmpi .eq v97_r0 c32_i32_97_r0
  let c0_i32_98_r0 : BitVec 32 := 0#32
  let v99_r0 : BitVec 32 := Scalar.select v98_r0 c0_i32_98_r0 v97_r0
  let c0_i32_99_r0 : BitVec 32 := 0#32
  let v100_r0 : BitVec 32 := Scalar.addi v99_r0 c0_i32_99_r0
  let v106_r0 : BitVec 1 := Scalar.cmpi .ne v95_r0 v100_r0
  let c0_i32_48_r0 : BitVec 32 := 0#32
  let c1_i32_50_r0 : BitVec 32 := 1#32
  let arg3_r0 : BitVec 32 := Scf.iv c0_i32_48_r0 c1_i32_50_r0 k0_t1
  let c30_i32_r0 : BitVec 32 := 30#32
  let v107_r0 : BitVec 1 := Scalar.cmpi .sge arg3_r0 c30_i32_r0
  let true_105_r0 : BitVec 1 := 1#1
  let v108_r0 : BitVec 1 := Scalar.xori v107_r0 true_105_r0
  let v109_r0 : BitVec 1 := Scalar.andi v106_r0 v108_r0
  let true_106_r0 : BitVec 1 := 1#1
  let v110_r0 : BitVec 1 := Scalar.andi v109_r0 true_106_r0
  let v111_r0 : BitVec 32 := Scalar.extui v110_r0
  let c0_i32_107_r0 : BitVec 32 := 0#32
  let v112_r0 : BitVec 1 := Scalar.cmpi .ne v111_r0 c0_i32_107_r0
  v112_r0

def k0_off10 (arg4_r0 : BitVec 32) : Fin 3 → Nat :=
  let c3_i32_233_r0 : BitVec 32 := 3#32
  let v303_r0 : BitVec 32 := Scalar.remui arg4_r0 c3_i32_233_r0
  let c0_i32_235_r0 : BitVec 32 := 0#32
  let c0_i32_236_r0 : BitVec 32 := 0#32
  ![v303_r0.toNat, 0, 0]
def k0_off11 (arg10_r0 : BitVec 32) : Fin 2 → Nat :=
  let c512_i32_234_r0 : BitVec 32 := 512#32
  let true_96_r0 : BitVec 1 := 1#1
  let true_91_r0 : BitVec 1 := 1#1
  let c1_i32_90_r0 : BitVec 32 := 1#32
  let v91_r0 : BitVec 32 := Scalar.addi arg10_r0 c1_i32_90_r0
  let v92_r0 : BitVec 32 := Scalar.select true_91_r0 v91_r0 arg10_r0
  let c32_i32_92_r0 : BitVec 32 := 32#32
  let v93_r0 : BitVec 1 := Scalar.cmpi .eq v92_r0 c32_i32_92_r0
  let c0_i32_93_r0 : BitVec 32 := 0#32
  let v94_r0 : BitVec 32 := Scalar.select v93_r0 c0_i32_93_r0 v92_r0
  let c1_i32_95_r0 : BitVec 32 := 1#32
  let v96_r0 : BitVec 32 := Scalar.addi v94_r0 c1_i32_95_r0
  let v97_r0 : BitVec 32 := Scalar.select true_96_r0 v96_r0 v94_r0
  let c32_i32_97_r0 : BitVec 32 := 32#32
  let v98_r0 : BitVec 1 := Scalar.cmpi .eq v97_r0 c32_i32_97_r0
  let c0_i32_98_r0 : BitVec 32 := 0#32
  let v99_r0 : BitVec 32 := Scalar.select v98_r0 c0_i32_98_r0 v97_r0
  let c0_i32_99_r0 : BitVec 32 := 0#32
  let v100_r0 : BitVec 32 := Scalar.addi v99_r0 c0_i32_99_r0
  let v304_r0 : BitVec 32 := Scalar.muli c512_i32_234_r0 v100_r0
  let c0_i32_237_r0 : BitVec 32 := 0#32
  ![v304_r0.toNat, 0]
def k0_off12 (arg6_r0 : BitVec 32) : Fin 1 → Nat :=
  let c3_i32_233_r0 : BitVec 32 := 3#32
  let v303_r0 : BitVec 32 := Scalar.remui arg6_r0 c3_i32_233_r0
  ![v303_r0.toNat]
def k0_cond4 (k0_t1 : Fin k0_t1_loop.trips) (arg10_r0 : BitVec 32) : BitVec 1 :=
  let true_91_r0 : BitVec 1 := 1#1
  let c1_i32_90_r0 : BitVec 32 := 1#32
  let v91_r0 : BitVec 32 := Scalar.addi arg10_r0 c1_i32_90_r0
  let v92_r0 : BitVec 32 := Scalar.select true_91_r0 v91_r0 arg10_r0
  let c32_i32_92_r0 : BitVec 32 := 32#32
  let v93_r0 : BitVec 1 := Scalar.cmpi .eq v92_r0 c32_i32_92_r0
  let c0_i32_93_r0 : BitVec 32 := 0#32
  let v94_r0 : BitVec 32 := Scalar.select v93_r0 c0_i32_93_r0 v92_r0
  let c0_i32_94_r0 : BitVec 32 := 0#32
  let v95_r0 : BitVec 32 := Scalar.addi v94_r0 c0_i32_94_r0
  let true_96_r0 : BitVec 1 := 1#1
  let c1_i32_95_r0 : BitVec 32 := 1#32
  let v96_r0 : BitVec 32 := Scalar.addi v94_r0 c1_i32_95_r0
  let v97_r0 : BitVec 32 := Scalar.select true_96_r0 v96_r0 v94_r0
  let c32_i32_97_r0 : BitVec 32 := 32#32
  let v98_r0 : BitVec 1 := Scalar.cmpi .eq v97_r0 c32_i32_97_r0
  let c0_i32_98_r0 : BitVec 32 := 0#32
  let v99_r0 : BitVec 32 := Scalar.select v98_r0 c0_i32_98_r0 v97_r0
  let c0_i32_99_r0 : BitVec 32 := 0#32
  let v100_r0 : BitVec 32 := Scalar.addi v99_r0 c0_i32_99_r0
  let v116_r0 : BitVec 1 := Scalar.cmpi .ne v95_r0 v100_r0
  let c0_i32_48_r0 : BitVec 32 := 0#32
  let c1_i32_50_r0 : BitVec 32 := 1#32
  let arg3_r0 : BitVec 32 := Scf.iv c0_i32_48_r0 c1_i32_50_r0 k0_t1
  let c30_i32_110_r0 : BitVec 32 := 30#32
  let v117_r0 : BitVec 1 := Scalar.cmpi .sge arg3_r0 c30_i32_110_r0
  let true_111_r0 : BitVec 1 := 1#1
  let v118_r0 : BitVec 1 := Scalar.xori v117_r0 true_111_r0
  let v119_r0 : BitVec 1 := Scalar.andi v116_r0 v118_r0
  let true_112_r0 : BitVec 1 := 1#1
  let v120_r0 : BitVec 1 := Scalar.andi v119_r0 true_112_r0
  let v121_r0 : BitVec 32 := Scalar.extui v120_r0
  let c0_i32_113_r0 : BitVec 32 := 0#32
  let v122_r0 : BitVec 1 := Scalar.cmpi .ne v121_r0 c0_i32_113_r0
  v122_r0

def k0_off13 (arg6_r0 : BitVec 32) : Fin 3 → Nat :=
  let c3_i32_233_r0 : BitVec 32 := 3#32
  let v303_r0 : BitVec 32 := Scalar.remui arg6_r0 c3_i32_233_r0
  let c0_i32_235_r0 : BitVec 32 := 0#32
  let c0_i32_236_r0 : BitVec 32 := 0#32
  ![v303_r0.toNat, 0, 0]
def k0_off14 (arg10_r0 : BitVec 32) : Fin 2 → Nat :=
  let c512_i32_234_r0 : BitVec 32 := 512#32
  let true_96_r0 : BitVec 1 := 1#1
  let true_91_r0 : BitVec 1 := 1#1
  let c1_i32_90_r0 : BitVec 32 := 1#32
  let v91_r0 : BitVec 32 := Scalar.addi arg10_r0 c1_i32_90_r0
  let v92_r0 : BitVec 32 := Scalar.select true_91_r0 v91_r0 arg10_r0
  let c32_i32_92_r0 : BitVec 32 := 32#32
  let v93_r0 : BitVec 1 := Scalar.cmpi .eq v92_r0 c32_i32_92_r0
  let c0_i32_93_r0 : BitVec 32 := 0#32
  let v94_r0 : BitVec 32 := Scalar.select v93_r0 c0_i32_93_r0 v92_r0
  let c1_i32_95_r0 : BitVec 32 := 1#32
  let v96_r0 : BitVec 32 := Scalar.addi v94_r0 c1_i32_95_r0
  let v97_r0 : BitVec 32 := Scalar.select true_96_r0 v96_r0 v94_r0
  let c32_i32_97_r0 : BitVec 32 := 32#32
  let v98_r0 : BitVec 1 := Scalar.cmpi .eq v97_r0 c32_i32_97_r0
  let c0_i32_98_r0 : BitVec 32 := 0#32
  let v99_r0 : BitVec 32 := Scalar.select v98_r0 c0_i32_98_r0 v97_r0
  let c0_i32_99_r0 : BitVec 32 := 0#32
  let v100_r0 : BitVec 32 := Scalar.addi v99_r0 c0_i32_99_r0
  let v304_r0 : BitVec 32 := Scalar.muli c512_i32_234_r0 v100_r0
  let c0_i32_237_r0 : BitVec 32 := 0#32
  ![v304_r0.toNat, 0]
def k0_off15 (arg5_r0 : BitVec 32) : Fin 1 → Nat :=
  let c3_i32_234_r0 : BitVec 32 := 3#32
  let v304_r0 : BitVec 32 := Scalar.remui arg5_r0 c3_i32_234_r0
  ![v304_r0.toNat]
def k0_cond5 (k0_t1 : Fin k0_t1_loop.trips) (arg10_r0 : BitVec 32) : BitVec 1 :=
  let c0_i32_84_r0 : BitVec 32 := 0#32
  let v85_r0 : BitVec 32 := Scalar.addi arg10_r0 c0_i32_84_r0
  let true_86_r0 : BitVec 1 := 1#1
  let c1_i32_85_r0 : BitVec 32 := 1#32
  let v86_r0 : BitVec 32 := Scalar.subi arg10_r0 c1_i32_85_r0
  let v87_r0 : BitVec 32 := Scalar.select true_86_r0 v86_r0 arg10_r0
  let c_m1_i32_87_r0 : BitVec 32 := 4294967295#32
  let v88_r0 : BitVec 1 := Scalar.cmpi .eq v87_r0 c_m1_i32_87_r0
  let c31_i32_88_r0 : BitVec 32 := 31#32
  let v89_r0 : BitVec 32 := Scalar.select v88_r0 c31_i32_88_r0 v87_r0
  let c0_i32_89_r0 : BitVec 32 := 0#32
  let v90_r0 : BitVec 32 := Scalar.addi v89_r0 c0_i32_89_r0
  let v130_r0 : BitVec 1 := Scalar.cmpi .ne v85_r0 v90_r0
  let c0_i32_48_r0 : BitVec 32 := 0#32
  let c1_i32_50_r0 : BitVec 32 := 1#32
  let arg3_r0 : BitVec 32 := Scf.iv c0_i32_48_r0 c1_i32_50_r0 k0_t1
  let c0_i32_82_r0 : BitVec 32 := 0#32
  let v83_r0 : BitVec 1 := Scalar.cmpi .eq arg3_r0 c0_i32_82_r0
  let v131_r0 : BitVec 1 := Scalar.ori v130_r0 v83_r0
  let c0_i32_118_r0 : BitVec 32 := 0#32
  let v132_r0 : BitVec 1 := Scalar.cmpi .sge arg3_r0 c0_i32_118_r0
  let v133_r0 : BitVec 1 := Scalar.andi v131_r0 v132_r0
  let v134_r0 : BitVec 32 := Scalar.extui v133_r0
  let c0_i32_119_r0 : BitVec 32 := 0#32
  let v135_r0 : BitVec 1 := Scalar.cmpi .ne v134_r0 c0_i32_119_r0
  v135_r0

def k0_off16 (arg5_r0 : BitVec 32) : Fin 3 → Nat :=
  let c3_i32_234_r0 : BitVec 32 := 3#32
  let v304_r0 : BitVec 32 := Scalar.remui arg5_r0 c3_i32_234_r0
  let c0_i32_235_r0 : BitVec 32 := 0#32
  let c0_i32_236_r0 : BitVec 32 := 0#32
  ![v304_r0.toNat, 0, 0]
def k0_off17 (arg10_r0 : BitVec 32) : Fin 2 → Nat :=
  let c512_i32_233_r0 : BitVec 32 := 512#32
  let c0_i32_84_r0 : BitVec 32 := 0#32
  let v85_r0 : BitVec 32 := Scalar.addi arg10_r0 c0_i32_84_r0
  let v303_r0 : BitVec 32 := Scalar.muli c512_i32_233_r0 v85_r0
  let c0_i32_237_r0 : BitVec 32 := 0#32
  ![v303_r0.toNat, 0]
def k0_off18 (arg7_r0 : BitVec 32) : Fin 1 → Nat :=
  let c3_i32_234_r0 : BitVec 32 := 3#32
  let v304_r0 : BitVec 32 := Scalar.remui arg7_r0 c3_i32_234_r0
  ![v304_r0.toNat]
def k0_cond6 (k0_t1 : Fin k0_t1_loop.trips) (arg10_r0 : BitVec 32) : BitVec 1 :=
  let c0_i32_84_r0 : BitVec 32 := 0#32
  let v85_r0 : BitVec 32 := Scalar.addi arg10_r0 c0_i32_84_r0
  let true_86_r0 : BitVec 1 := 1#1
  let c1_i32_85_r0 : BitVec 32 := 1#32
  let v86_r0 : BitVec 32 := Scalar.subi arg10_r0 c1_i32_85_r0
  let v87_r0 : BitVec 32 := Scalar.select true_86_r0 v86_r0 arg10_r0
  let c_m1_i32_87_r0 : BitVec 32 := 4294967295#32
  let v88_r0 : BitVec 1 := Scalar.cmpi .eq v87_r0 c_m1_i32_87_r0
  let c31_i32_88_r0 : BitVec 32 := 31#32
  let v89_r0 : BitVec 32 := Scalar.select v88_r0 c31_i32_88_r0 v87_r0
  let c0_i32_89_r0 : BitVec 32 := 0#32
  let v90_r0 : BitVec 32 := Scalar.addi v89_r0 c0_i32_89_r0
  let v136_r0 : BitVec 1 := Scalar.cmpi .ne v85_r0 v90_r0
  let c0_i32_48_r0 : BitVec 32 := 0#32
  let c1_i32_50_r0 : BitVec 32 := 1#32
  let arg3_r0 : BitVec 32 := Scf.iv c0_i32_48_r0 c1_i32_50_r0 k0_t1
  let c0_i32_82_r0 : BitVec 32 := 0#32
  let v83_r0 : BitVec 1 := Scalar.cmpi .eq arg3_r0 c0_i32_82_r0
  let v137_r0 : BitVec 1 := Scalar.ori v136_r0 v83_r0
  let c0_i32_120_r0 : BitVec 32 := 0#32
  let v138_r0 : BitVec 1 := Scalar.cmpi .sge arg3_r0 c0_i32_120_r0
  let v139_r0 : BitVec 1 := Scalar.andi v137_r0 v138_r0
  let v140_r0 : BitVec 32 := Scalar.extui v139_r0
  let c0_i32_121_r0 : BitVec 32 := 0#32
  let v141_r0 : BitVec 1 := Scalar.cmpi .ne v140_r0 c0_i32_121_r0
  v141_r0

def k0_off19 (arg7_r0 : BitVec 32) : Fin 3 → Nat :=
  let c3_i32_234_r0 : BitVec 32 := 3#32
  let v304_r0 : BitVec 32 := Scalar.remui arg7_r0 c3_i32_234_r0
  let c0_i32_235_r0 : BitVec 32 := 0#32
  let c0_i32_236_r0 : BitVec 32 := 0#32
  ![v304_r0.toNat, 0, 0]
def k0_off20 (arg10_r0 : BitVec 32) : Fin 2 → Nat :=
  let c512_i32_233_r0 : BitVec 32 := 512#32
  let c0_i32_84_r0 : BitVec 32 := 0#32
  let v85_r0 : BitVec 32 := Scalar.addi arg10_r0 c0_i32_84_r0
  let v303_r0 : BitVec 32 := Scalar.muli c512_i32_233_r0 v85_r0
  let c0_i32_237_r0 : BitVec 32 := 0#32
  ![v303_r0.toNat, 0]
def k0_off21 (arg5_r0 : BitVec 32) : Fin 3 → Nat :=
  let c3_i32_124_r0 : BitVec 32 := 3#32
  let v148_r0 : BitVec 32 := Scalar.remui arg5_r0 c3_i32_124_r0
  let v151_r0 : Index := Scalar.indexCast v148_r0
  let c0_r0 : Index := 0#32
  let c0_127_r0 : Index := 0#32
  ![v151_r0.toNat, 0, 0]

def k0_chk2 (arg5_r0 : BitVec 32) : Prop :=
  (∀ a, (k0_off21 arg5_r0) a + S1x512x2048.size a ≤ S3x512x2048.size a)
theorem k0_off21_inb : ∀ (arg5_r0 : BitVec 32) (k0_hw2 : k0_chk2 arg5_r0), ∀ a, (k0_off21 arg5_r0) a + S1x512x2048.size a ≤ S3x512x2048.size a := fun arg5_r0 k0_hw2 => k0_hw2

def k0_off22 (arg7_r0 : BitVec 32) : Fin 3 → Nat :=
  let c3_i32_125_r0 : BitVec 32 := 3#32
  let v149_r0 : BitVec 32 := Scalar.remui arg7_r0 c3_i32_125_r0
  let v154_r0 : Index := Scalar.indexCast v149_r0
  let c0_128_r0 : Index := 0#32
  let c0_129_r0 : Index := 0#32
  ![v154_r0.toNat, 0, 0]

def k0_chk3 (arg7_r0 : BitVec 32) : Prop :=
  (∀ a, (k0_off22 arg7_r0) a + S1x512x2048.size a ≤ S3x512x2048.size a)
theorem k0_off22_inb : ∀ (arg7_r0 : BitVec 32) (k0_hw3 : k0_chk3 arg7_r0), ∀ a, (k0_off22 arg7_r0) a + S1x512x2048.size a ≤ S3x512x2048.size a := fun arg7_r0 k0_hw3 => k0_hw3

def k0_off23 (arg8_r0 : BitVec 32) : Fin 4 → Nat :=
  let c2_i32_126_r0 : BitVec 32 := 2#32
  let v150_r0 : BitVec 32 := Scalar.remui arg8_r0 c2_i32_126_r0
  let c0_i32_130_r0 : BitVec 32 := 0#32
  let c0_i32_131_r0 : BitVec 32 := 0#32
  let c0_i32_132_r0 : BitVec 32 := 0#32
  ![v150_r0.toNat, 0, 0, 0]

def k0_chk4 (arg8_r0 : BitVec 32) : Prop :=
  (∀ a, (k0_off23 arg8_r0) a + S1x512x16x128.size a ≤ S2x512x16x128.size a)
theorem k0_off23_inb : ∀ (arg8_r0 : BitVec 32) (k0_hw4 : k0_chk4 arg8_r0), ∀ a, (k0_off23 arg8_r0) a + S1x512x16x128.size a ≤ S2x512x16x128.size a := fun arg8_r0 k0_hw4 => k0_hw4

def k0_off24 (arg8_r0 : BitVec 32) : Fin 1 → Nat :=
  let c2_i32_233_r0 : BitVec 32 := 2#32
  let v303_r0 : BitVec 32 := Scalar.remui arg8_r0 c2_i32_233_r0
  ![v303_r0.toNat]
def k0_cond10 (k0_t1 : Fin k0_t1_loop.trips) (arg10_r0 : BitVec 32) : BitVec 1 :=
  let c0_i32_84_r0 : BitVec 32 := 0#32
  let v85_r0 : BitVec 32 := Scalar.addi arg10_r0 c0_i32_84_r0
  let true_91_r0 : BitVec 1 := 1#1
  let c1_i32_90_r0 : BitVec 32 := 1#32
  let v91_r0 : BitVec 32 := Scalar.addi arg10_r0 c1_i32_90_r0
  let v92_r0 : BitVec 32 := Scalar.select true_91_r0 v91_r0 arg10_r0
  let c32_i32_92_r0 : BitVec 32 := 32#32
  let v93_r0 : BitVec 1 := Scalar.cmpi .eq v92_r0 c32_i32_92_r0
  let c0_i32_93_r0 : BitVec 32 := 0#32
  let v94_r0 : BitVec 32 := Scalar.select v93_r0 c0_i32_93_r0 v92_r0
  let c0_i32_94_r0 : BitVec 32 := 0#32
  let v95_r0 : BitVec 32 := Scalar.addi v94_r0 c0_i32_94_r0
  let v264_r0 : BitVec 1 := Scalar.cmpi .ne v85_r0 v95_r0
  let c0_i32_48_r0 : BitVec 32 := 0#32
  let c1_i32_50_r0 : BitVec 32 := 1#32
  let arg3_r0 : BitVec 32 := Scf.iv c0_i32_48_r0 c1_i32_50_r0 k0_t1
  let c31_i32_83_r0 : BitVec 32 := 31#32
  let v84_r0 : BitVec 1 := Scalar.cmpi .eq arg3_r0 c31_i32_83_r0
  let v265_r0 : BitVec 1 := Scalar.ori v264_r0 v84_r0
  let v266_r0 : BitVec 32 := Scalar.extui v265_r0
  let c0_i32_214_r0 : BitVec 32 := 0#32
  let v267_r0 : BitVec 1 := Scalar.cmpi .ne v266_r0 c0_i32_214_r0
  v267_r0

def k0_off25 (arg10_r0 : BitVec 32) : Fin 3 → Nat :=
  let c512_i32_234_r0 : BitVec 32 := 512#32
  let c0_i32_84_r0 : BitVec 32 := 0#32
  let v85_r0 : BitVec 32 := Scalar.addi arg10_r0 c0_i32_84_r0
  let v304_r0 : BitVec 32 := Scalar.muli c512_i32_234_r0 v85_r0
  let c0_i32_235_r0 : BitVec 32 := 0#32
  let c0_i32_236_r0 : BitVec 32 := 0#32
  ![v304_r0.toNat, 0, 0]
def k0_off26 (arg8_r0 : BitVec 32) : Fin 4 → Nat :=
  let c2_i32_233_r0 : BitVec 32 := 2#32
  let v303_r0 : BitVec 32 := Scalar.remui arg8_r0 c2_i32_233_r0
  let c0_i32_237_r0 : BitVec 32 := 0#32
  let c0_i32_238_r0 : BitVec 32 := 0#32
  let c0_i32_239_r0 : BitVec 32 := 0#32
  ![v303_r0.toNat, 0, 0, 0]
def k0_off27 (arg9_r0 : BitVec 32) : Fin 1 → Nat :=
  let c2_i32_233_r0 : BitVec 32 := 2#32
  let v303_r0 : BitVec 32 := Scalar.remui arg9_r0 c2_i32_233_r0
  ![v303_r0.toNat]
def k0_cond13 (k0_t1 : Fin k0_t1_loop.trips) (arg10_r0 : BitVec 32) : BitVec 1 :=
  let c0_i32_84_r0 : BitVec 32 := 0#32
  let v85_r0 : BitVec 32 := Scalar.addi arg10_r0 c0_i32_84_r0
  let true_86_r0 : BitVec 1 := 1#1
  let c1_i32_85_r0 : BitVec 32 := 1#32
  let v86_r0 : BitVec 32 := Scalar.subi arg10_r0 c1_i32_85_r0
  let v87_r0 : BitVec 32 := Scalar.select true_86_r0 v86_r0 arg10_r0
  let c_m1_i32_87_r0 : BitVec 32 := 4294967295#32
  let v88_r0 : BitVec 1 := Scalar.cmpi .eq v87_r0 c_m1_i32_87_r0
  let c31_i32_88_r0 : BitVec 32 := 31#32
  let v89_r0 : BitVec 32 := Scalar.select v88_r0 c31_i32_88_r0 v87_r0
  let c0_i32_89_r0 : BitVec 32 := 0#32
  let v90_r0 : BitVec 32 := Scalar.addi v89_r0 c0_i32_89_r0
  let v283_r0 : BitVec 1 := Scalar.cmpi .ne v85_r0 v90_r0
  let c0_i32_48_r0 : BitVec 32 := 0#32
  let c1_i32_50_r0 : BitVec 32 := 1#32
  let arg3_r0 : BitVec 32 := Scf.iv c0_i32_48_r0 c1_i32_50_r0 k0_t1
  let c0_i32_82_r0 : BitVec 32 := 0#32
  let v83_r0 : BitVec 1 := Scalar.cmpi .eq arg3_r0 c0_i32_82_r0
  let true_223_r0 : BitVec 1 := 1#1
  let v284_r0 : BitVec 1 := Scalar.xori v83_r0 true_223_r0
  let v285_r0 : BitVec 1 := Scalar.andi v283_r0 v284_r0
  let v286_r0 : BitVec 32 := Scalar.extui v285_r0
  let c0_i32_224_r0 : BitVec 32 := 0#32
  let v287_r0 : BitVec 1 := Scalar.cmpi .ne v286_r0 c0_i32_224_r0
  v287_r0

def k0_off28 (arg10_r0 : BitVec 32) : Fin 3 → Nat :=
  let c512_i32_234_r0 : BitVec 32 := 512#32
  let true_86_r0 : BitVec 1 := 1#1
  let c1_i32_85_r0 : BitVec 32 := 1#32
  let v86_r0 : BitVec 32 := Scalar.subi arg10_r0 c1_i32_85_r0
  let v87_r0 : BitVec 32 := Scalar.select true_86_r0 v86_r0 arg10_r0
  let c_m1_i32_87_r0 : BitVec 32 := 4294967295#32
  let v88_r0 : BitVec 1 := Scalar.cmpi .eq v87_r0 c_m1_i32_87_r0
  let c31_i32_88_r0 : BitVec 32 := 31#32
  let v89_r0 : BitVec 32 := Scalar.select v88_r0 c31_i32_88_r0 v87_r0
  let c0_i32_89_r0 : BitVec 32 := 0#32
  let v90_r0 : BitVec 32 := Scalar.addi v89_r0 c0_i32_89_r0
  let v304_r0 : BitVec 32 := Scalar.muli c512_i32_234_r0 v90_r0
  let c0_i32_235_r0 : BitVec 32 := 0#32
  let c0_i32_236_r0 : BitVec 32 := 0#32
  ![v304_r0.toNat, 0, 0]
def k0_off29 (arg9_r0 : BitVec 32) : Fin 4 → Nat :=
  let c2_i32_233_r0 : BitVec 32 := 2#32
  let v303_r0 : BitVec 32 := Scalar.remui arg9_r0 c2_i32_233_r0
  let c0_i32_237_r0 : BitVec 32 := 0#32
  let c0_i32_238_r0 : BitVec 32 := 0#32
  let c0_i32_239_r0 : BitVec 32 := 0#32
  ![v303_r0.toNat, 0, 0, 0]

def k0_chk1 (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) : Prop :=
  (∀ (k0_h3 : k0_cond3 k0_t1 arg10_r0 = 1#1), ∀ a, (k0_off9 arg4_r0) a + S1.size a ≤ S3.size a) ∧
  (∀ (k0_h3 : k0_cond3 k0_t1 arg10_r0 = 1#1), ∀ a, (k0_off10 arg4_r0) a + S1x512x2048.size a ≤ S3x512x2048.size a) ∧
  (∀ (k0_h3 : k0_cond3 k0_t1 arg10_r0 = 1#1), ∀ a, (k0_off11 arg10_r0) a + S512x2048.size a ≤ S16384x2048.size a) ∧
  (∀ (k0_h4 : k0_cond4 k0_t1 arg10_r0 = 1#1), ∀ a, (k0_off12 arg6_r0) a + S1.size a ≤ S3.size a) ∧
  (∀ (k0_h4 : k0_cond4 k0_t1 arg10_r0 = 1#1), ∀ a, (k0_off13 arg6_r0) a + S1x512x2048.size a ≤ S3x512x2048.size a) ∧
  (∀ (k0_h4 : k0_cond4 k0_t1 arg10_r0 = 1#1), ∀ a, (k0_off14 arg10_r0) a + S512x2048.size a ≤ S16384x2048.size a) ∧
  (∀ (k0_h5 : k0_cond5 k0_t1 arg10_r0 = 1#1), ∀ a, (k0_off15 arg5_r0) a + S1.size a ≤ S3.size a) ∧
  (∀ (k0_h5 : k0_cond5 k0_t1 arg10_r0 = 1#1), ∀ a, (k0_off16 arg5_r0) a + S1x512x2048.size a ≤ S3x512x2048.size a) ∧
  (∀ (k0_h5 : k0_cond5 k0_t1 arg10_r0 = 1#1), ∀ a, (k0_off17 arg10_r0) a + S512x2048.size a ≤ S16384x2048.size a) ∧
  (∀ (k0_h6 : k0_cond6 k0_t1 arg10_r0 = 1#1), ∀ a, (k0_off18 arg7_r0) a + S1.size a ≤ S3.size a) ∧
  (∀ (k0_h6 : k0_cond6 k0_t1 arg10_r0 = 1#1), ∀ a, (k0_off19 arg7_r0) a + S1x512x2048.size a ≤ S3x512x2048.size a) ∧
  (∀ (k0_h6 : k0_cond6 k0_t1 arg10_r0 = 1#1), ∀ a, (k0_off20 arg10_r0) a + S512x2048.size a ≤ S16384x2048.size a) ∧
  (∀ (k0_h10 : k0_cond10 k0_t1 arg10_r0 = 1#1), ∀ a, (k0_off24 arg8_r0) a + S1.size a ≤ S2.size a) ∧
  (∀ (k0_h10 : k0_cond10 k0_t1 arg10_r0 = 1#1), ∀ a, (k0_off25 arg10_r0) a + S512x16x128.size a ≤ S16384x16x128.size a) ∧
  (∀ (k0_h10 : k0_cond10 k0_t1 arg10_r0 = 1#1), ∀ a, (k0_off26 arg8_r0) a + S1x512x16x128.size a ≤ S2x512x16x128.size a) ∧
  (∀ (k0_h13 : k0_cond13 k0_t1 arg10_r0 = 1#1), ∀ a, (k0_off27 arg9_r0) a + S1.size a ≤ S2.size a) ∧
  (∀ (k0_h13 : k0_cond13 k0_t1 arg10_r0 = 1#1), ∀ a, (k0_off28 arg10_r0) a + S512x16x128.size a ≤ S16384x16x128.size a) ∧
  (∀ (k0_h13 : k0_cond13 k0_t1 arg10_r0 = 1#1), ∀ a, (k0_off29 arg9_r0) a + S1x512x16x128.size a ≤ S2x512x16x128.size a)
theorem k0_off9_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off9 arg4_r0) a + S1.size a ≤ S3.size a := fun k0_t1 arg4_r0 arg5_r0 arg6_r0 arg7_r0 arg8_r0 arg9_r0 arg10_r0 k0_hw1 k0_h3 => k0_hw1.1 k0_h3
theorem k0_off10_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off10 arg4_r0) a + S1x512x2048.size a ≤ S3x512x2048.size a := fun k0_t1 arg4_r0 arg5_r0 arg6_r0 arg7_r0 arg8_r0 arg9_r0 arg10_r0 k0_hw1 k0_h3 => k0_hw1.2.1 k0_h3
theorem k0_off11_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off11 arg10_r0) a + S512x2048.size a ≤ S16384x2048.size a := fun k0_t1 arg4_r0 arg5_r0 arg6_r0 arg7_r0 arg8_r0 arg9_r0 arg10_r0 k0_hw1 k0_h3 => k0_hw1.2.2.1 k0_h3
theorem k0_off12_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off12 arg6_r0) a + S1.size a ≤ S3.size a := fun k0_t1 arg4_r0 arg5_r0 arg6_r0 arg7_r0 arg8_r0 arg9_r0 arg10_r0 k0_hw1 k0_h4 => k0_hw1.2.2.2.1 k0_h4
theorem k0_off13_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off13 arg6_r0) a + S1x512x2048.size a ≤ S3x512x2048.size a := fun k0_t1 arg4_r0 arg5_r0 arg6_r0 arg7_r0 arg8_r0 arg9_r0 arg10_r0 k0_hw1 k0_h4 => k0_hw1.2.2.2.2.1 k0_h4
theorem k0_off14_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h4 : k0_cond4 k0_t1 arg10_r0 = 1#1), ∀ a, (k0_off14 arg10_r0) a + S512x2048.size a ≤ S16384x2048.size a := fun k0_t1 arg4_r0 arg5_r0 arg6_r0 arg7_r0 arg8_r0 arg9_r0 arg10_r0 k0_hw1 k0_h4 => k0_hw1.2.2.2.2.2.1 k0_h4
theorem k0_off15_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h5 : k0_cond5 k0_t1 arg10_r0 = 1#1), ∀ a, (k0_off15 arg5_r0) a + S1.size a ≤ S3.size a := fun k0_t1 arg4_r0 arg5_r0 arg6_r0 arg7_r0 arg8_r0 arg9_r0 arg10_r0 k0_hw1 k0_h5 => k0_hw1.2.2.2.2.2.2.1 k0_h5
theorem k0_off16_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h5 : k0_cond5 k0_t1 arg10_r0 = 1#1), ∀ a, (k0_off16 arg5_r0) a + S1x512x2048.size a ≤ S3x512x2048.size a := fun k0_t1 arg4_r0 arg5_r0 arg6_r0 arg7_r0 arg8_r0 arg9_r0 arg10_r0 k0_hw1 k0_h5 => k0_hw1.2.2.2.2.2.2.2.1 k0_h5
theorem k0_off17_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h5 : k0_cond5 k0_t1 arg10_r0 = 1#1), ∀ a, (k0_off17 arg10_r0) a + S512x2048.size a ≤ S16384x2048.size a := fun k0_t1 arg4_r0 arg5_r0 arg6_r0 arg7_r0 arg8_r0 arg9_r0 arg10_r0 k0_hw1 k0_h5 => k0_hw1.2.2.2.2.2.2.2.2.1 k0_h5
theorem k0_off18_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h6 : k0_cond6 k0_t1 arg10_r0 = 1#1), ∀ a, (k0_off18 arg7_r0) a + S1.size a ≤ S3.size a := fun k0_t1 arg4_r0 arg5_r0 arg6_r0 arg7_r0 arg8_r0 arg9_r0 arg10_r0 k0_hw1 k0_h6 => k0_hw1.2.2.2.2.2.2.2.2.2.1 k0_h6
theorem k0_off19_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h6 : k0_cond6 k0_t1 arg10_r0 = 1#1), ∀ a, (k0_off19 arg7_r0) a + S1x512x2048.size a ≤ S3x512x2048.size a := fun k0_t1 arg4_r0 arg5_r0 arg6_r0 arg7_r0 arg8_r0 arg9_r0 arg10_r0 k0_hw1 k0_h6 => k0_hw1.2.2.2.2.2.2.2.2.2.2.1 k0_h6
theorem k0_off20_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h6 : k0_cond6 k0_t1 arg10_r0 = 1#1), ∀ a, (k0_off20 arg10_r0) a + S512x2048.size a ≤ S16384x2048.size a := fun k0_t1 arg4_r0 arg5_r0 arg6_r0 arg7_r0 arg8_r0 arg9_r0 arg10_r0 k0_hw1 k0_h6 => k0_hw1.2.2.2.2.2.2.2.2.2.2.2.1 k0_h6
theorem k0_off24_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off24 arg8_r0) a + S1.size a ≤ S2.size a := fun k0_t1 arg4_r0 arg5_r0 arg6_r0 arg7_r0 arg8_r0 arg9_r0 arg10_r0 k0_hw1 k0_h10 => k0_hw1.2.2.2.2.2.2.2.2.2.2.2.2.1 k0_h10
theorem k0_off25_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off25 arg10_r0) a + S512x16x128.size a ≤ S16384x16x128.size a := fun k0_t1 arg4_r0 arg5_r0 arg6_r0 arg7_r0 arg8_r0 arg9_r0 arg10_r0 k0_hw1 k0_h10 => k0_hw1.2.2.2.2.2.2.2.2.2.2.2.2.2.1 k0_h10
theorem k0_off26_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off26 arg8_r0) a + S1x512x16x128.size a ≤ S2x512x16x128.size a := fun k0_t1 arg4_r0 arg5_r0 arg6_r0 arg7_r0 arg8_r0 arg9_r0 arg10_r0 k0_hw1 k0_h10 => k0_hw1.2.2.2.2.2.2.2.2.2.2.2.2.2.2.1 k0_h10
theorem k0_off27_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h13 : k0_cond13 k0_t1 arg10_r0 = 1#1), ∀ a, (k0_off27 arg9_r0) a + S1.size a ≤ S2.size a := fun k0_t1 arg4_r0 arg5_r0 arg6_r0 arg7_r0 arg8_r0 arg9_r0 arg10_r0 k0_hw1 k0_h13 => k0_hw1.2.2.2.2.2.2.2.2.2.2.2.2.2.2.2.1 k0_h13
theorem k0_off28_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h13 : k0_cond13 k0_t1 arg10_r0 = 1#1), ∀ a, (k0_off28 arg10_r0) a + S512x16x128.size a ≤ S16384x16x128.size a := fun k0_t1 arg4_r0 arg5_r0 arg6_r0 arg7_r0 arg8_r0 arg9_r0 arg10_r0 k0_hw1 k0_h13 => k0_hw1.2.2.2.2.2.2.2.2.2.2.2.2.2.2.2.2.1 k0_h13
theorem k0_off29_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h13 : k0_cond13 k0_t1 arg10_r0 = 1#1), ∀ a, (k0_off29 arg9_r0) a + S1x512x16x128.size a ≤ S2x512x16x128.size a := fun k0_t1 arg4_r0 arg5_r0 arg6_r0 arg7_r0 arg8_r0 arg9_r0 arg10_r0 k0_hw1 k0_h13 => k0_hw1.2.2.2.2.2.2.2.2.2.2.2.2.2.2.2.2.2 k0_h13

def k0_off30 (v50_5_r0 : BitVec 32) : Fin 1 → Nat :=
  let c2_i32_r0 : BitVec 32 := 2#32
  let v76_r0 : BitVec 32 := Scalar.remui v50_5_r0 c2_i32_r0
  ![v76_r0.toNat]

def k0_off31 (v50_6_r0 : BitVec 32) : Fin 3 → Nat :=
  let c512_i32_r0 : BitVec 32 := 512#32
  let true_53_r0 : BitVec 1 := 1#1
  let c1_i32_52_r0 : BitVec 32 := 1#32
  let v51_r0 : BitVec 32 := Scalar.subi v50_6_r0 c1_i32_52_r0
  let v52_r0 : BitVec 32 := Scalar.select true_53_r0 v51_r0 v50_6_r0
  let c_m1_i32_54_r0 : BitVec 32 := 4294967295#32
  let v53_r0 : BitVec 1 := Scalar.cmpi .eq v52_r0 c_m1_i32_54_r0
  let c31_i32_55_r0 : BitVec 32 := 31#32
  let v54_r0 : BitVec 32 := Scalar.select v53_r0 c31_i32_55_r0 v52_r0
  let c0_i32_56_r0 : BitVec 32 := 0#32
  let v55_r0 : BitVec 32 := Scalar.addi v54_r0 c0_i32_56_r0
  let v77_r0 : BitVec 32 := Scalar.muli c512_i32_r0 v55_r0
  let c0_i32_77_r0 : BitVec 32 := 0#32
  let c0_i32_78_r0 : BitVec 32 := 0#32
  ![v77_r0.toNat, 0, 0]

def k0_chk6 (v50_6_r0 : BitVec 32) : Prop :=
  (∀ a, (k0_off31 v50_6_r0) a + S512x16x128.size a ≤ S16384x16x128.size a)
theorem k0_off31_inb : ∀ (v50_6_r0 : BitVec 32) (k0_hw6 : k0_chk6 v50_6_r0), ∀ a, (k0_off31 v50_6_r0) a + S512x16x128.size a ≤ S16384x16x128.size a := fun v50_6_r0 k0_hw6 => k0_hw6

def k0_off32 (v50_5_r0 : BitVec 32) : Fin 4 → Nat :=
  let c2_i32_r0 : BitVec 32 := 2#32
  let v76_r0 : BitVec 32 := Scalar.remui v50_5_r0 c2_i32_r0
  let c0_i32_79_r0 : BitVec 32 := 0#32
  let c0_i32_80_r0 : BitVec 32 := 0#32
  let c0_i32_81_r0 : BitVec 32 := 0#32
  ![v76_r0.toNat, 0, 0, 0]

def k0_chk5 (v50_5_r0 : BitVec 32) : Prop :=
  (∀ a, (k0_off30 v50_5_r0) a + S1.size a ≤ S2.size a) ∧
  (∀ a, (k0_off32 v50_5_r0) a + S1x512x16x128.size a ≤ S2x512x16x128.size a)
theorem k0_off30_inb : ∀ (v50_5_r0 : BitVec 32) (k0_hw5 : k0_chk5 v50_5_r0), ∀ a, (k0_off30 v50_5_r0) a + S1.size a ≤ S2.size a := fun v50_5_r0 k0_hw5 => k0_hw5.1
theorem k0_off32_inb : ∀ (v50_5_r0 : BitVec 32) (k0_hw5 : k0_chk5 v50_5_r0), ∀ a, (k0_off32 v50_5_r0) a + S1x512x16x128.size a ≤ S2x512x16x128.size a := fun v50_5_r0 k0_hw5 => k0_hw5.2
-- ==== Reference.lean ====
abbrev S1x16384x2048 : Shape := ⟨3, ![1, 16384, 2048]⟩
abbrev S16384x2048 : Shape := ⟨2, ![16384, 2048]⟩
abbrev S16384x16x128 : Shape := ⟨3, ![16384, 16, 128]⟩

abbrev nBuf : Space → Nat
  | .hbm => 8
  | .vmem => 3
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .f32⟩
  | .hbm, ⟨4, _⟩ => ⟨S16384x16x128, .f32⟩
  | .hbm, ⟨5, _⟩ => ⟨S16384x2048, .f32⟩
  | .hbm, ⟨6, _⟩ => ⟨S16384x16x128, .f32⟩
  | .hbm, ⟨7, _⟩ => ⟨S16384x16x128, .i32⟩
  | .local _ .vmem, ⟨0, _⟩ => ⟨S16384x16x128, .f32⟩
  | .local _ .vmem, ⟨1, _⟩ => ⟨S16384x16x128, .f32⟩
  | .local _ .vmem, ⟨2, _⟩ => ⟨S16384x16x128, .i32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S16384x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x16x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel2.lean ====
abbrev S8x2048x2048 : Shape := ⟨3, ![8, 2048, 2048]⟩
abbrev S8x6x2048 : Shape := ⟨3, ![8, 6, 2048]⟩
abbrev S1x2048x2048 : Shape := ⟨3, ![1, 2048, 2048]⟩
abbrev S1x2048 : Shape := ⟨2, ![1, 2048]⟩
abbrev S1x8x2x128x128 : Shape := ⟨5, ![1, 8, 2, 128, 128]⟩
abbrev S2048x2048 : Shape := ⟨2, ![2048, 2048]⟩
abbrev S2048 : Shape := ⟨1, ![2048]⟩
abbrev S8x2x128x128 : Shape := ⟨4, ![8, 2, 128, 128]⟩
abbrev S16x128x16384 : Shape := ⟨3, ![16, 128, 16384]⟩
abbrev S1x512x2048 : Shape := ⟨3, ![1, 512, 2048]⟩
abbrev S1x6x2048 : Shape := ⟨3, ![1, 6, 2048]⟩
abbrev S16x128x512 : Shape := ⟨3, ![16, 128, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x6x2048, .f32⟩
  | .hbm, ⟨3, _⟩ => ⟨S1x2048x2048, .f32⟩
  | .hbm, ⟨4, _⟩ => ⟨S1x2048, .f32⟩
  | .hbm, ⟨5, _⟩ => ⟨S1x2048x2048, .f32⟩
  | .hbm, ⟨6, _⟩ => ⟨S1x8x2x128x128, .f32⟩
  | .hbm, ⟨7, _⟩ => ⟨S2048x2048, .f32⟩
  | .hbm, ⟨8, _⟩ => ⟨S2048x2048, .bf16⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S8x2x128x128, .f32⟩
  | .hbm, ⟨14, _⟩ => ⟨S8x2x128x128, .bf16⟩
  | .hbm, ⟨15, _⟩ => ⟨S8x2048x2048, .f32⟩
  | .hbm, ⟨16, _⟩ => ⟨S8x2048x2048, .f32⟩
  | .hbm, ⟨17, _⟩ => ⟨S16x128x16384, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S8x2x128x128, .bf16⟩
  | .local _ .vmem, ⟨10, _⟩ => ⟨S1x512x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | .local _ .vmem, ⟨14, _⟩ => ⟨S16x128x512, .f32⟩
  | .local _ .vmem, ⟨15, _⟩ => ⟨S16x128x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x2048x2048 : Shape := ⟨3, ![8, 2048, 2048]⟩
abbrev S8x6x2048 : Shape := ⟨3, ![8, 6, 2048]⟩
abbrev S1x2048x2048 : Shape := ⟨3, ![1, 2048, 2048]⟩
abbrev S1x2048 : Shape := ⟨2, ![1, 2048]⟩
abbrev S1x8x2x128x128 : Shape := ⟨5, ![1, 8, 2, 128, 128]⟩
abbrev S8x1x2048 : Shape := ⟨3, ![8, 1, 2048]⟩
abbrev S8x2048 : Shape := ⟨2, ![8, 2048]⟩
abbrev S2048x2048 : Shape := ⟨2, ![2048, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x2048x8x2x128 : Shape := ⟨5, ![8, 2048, 8, 2, 128]⟩
abbrev S8x2x128x128 : Shape := ⟨4, ![8, 2, 128, 128]⟩
abbrev S8x2x128x8x2048 : Shape := ⟨5, ![8, 2, 128, 8, 2048]⟩
abbrev S16x128x16384 : Shape := ⟨3, ![16, 128, 16384]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x6x2048, .f32⟩
  | .hbm, ⟨3, _⟩ => ⟨S1x2048x2048, .f32⟩
  | .hbm, ⟨4, _⟩ => ⟨S1x2048, .f32⟩
  | .hbm, ⟨5, _⟩ => ⟨S1x2048x2048, .f32⟩
  | .hbm, ⟨6, _⟩ => ⟨S1x8x2x128x128, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x2048x2048, .f32⟩
  | .hbm, ⟨15, _⟩ => ⟨S2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S8x1x2048, .f32⟩
  | .hbm, ⟨38, _⟩ => ⟨S_, .f32⟩
  | .hbm, ⟨39, _⟩ => ⟨S8x1x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x1x2048, .f32⟩
  | .hbm, ⟨44, _⟩ => ⟨S8x2048x2048, .f32⟩
  | .hbm, ⟨45, _⟩ => ⟨S8x2048x2048, .f32⟩
  | .hbm, ⟨46, _⟩ => ⟨S2048x2048, .f32⟩
  | .hbm, ⟨47, _⟩ => ⟨S8x2048x2048, .f32⟩
  | .hbm, ⟨48, _⟩ => ⟨S8x2048x8x2x128, .f32⟩
  | .hbm, ⟨49, _⟩ => ⟨S8x2x128x128, .f32⟩
  | .hbm, ⟨50, _⟩ => ⟨S8x2x128x8x2048, .f32⟩
  | .hbm, ⟨51, _⟩ => ⟨S8x2048x8x2x128, .f32⟩
  | .hbm, ⟨52, _⟩ => ⟨S8x2x128x8x2048, .f32⟩
  | .hbm, ⟨53, _⟩ => ⟨S16x128x16384, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel3.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x4096 : Shape := ⟨3, ![1, 2048, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S2048x4096 : Shape := ⟨2, ![2048, 4096]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S1x256x2048 : Shape := ⟨3, ![1, 256, 2048]⟩
abbrev S1x6x2048 : Shape := ⟨3, ![1, 6, 2048]⟩
abbrev S264x1024 : Shape := ⟨2, ![264, 1024]⟩
abbrev S8x1024 : Shape := ⟨2, ![8, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S1x128x128 : Shape := ⟨3, ![1, 128, 128]⟩
abbrev S128x128 : Shape := ⟨2, ![128, 128]⟩
abbrev S1x256x1024 : Shape := ⟨3, ![1, 256, 1024]⟩
abbrev S128x1 : Shape := ⟨2, ![128, 1]⟩

abbrev nBuf : Space → Nat
  | .hbm => 37
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S1x2048x4096, .f32⟩
  | .hbm, ⟨4, _⟩ => ⟨S1x4x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x8x128x128, .f32⟩
  | .hbm, ⟨9, _⟩ => ⟨S1x8x128, .f32⟩
  | .hbm, ⟨10, _⟩ => ⟨S1x1024, .f32⟩
  | .hbm, ⟨11, _⟩ => ⟨S1x1024, .f32⟩
  | .hbm, ⟨12, _⟩ => ⟨S1x8x128x128, .f32⟩
  | .hbm, ⟨13, _⟩ => ⟨S1x8x128, .f32⟩
  | .hbm, ⟨14, _⟩ => ⟨S2048, .f32⟩
  | .hbm, ⟨15, _⟩ => ⟨S1x2048, .f32⟩
  | .hbm, ⟨16, _⟩ => ⟨S2048x4096, .f32⟩
  | .hbm, ⟨17, _⟩ => ⟨S2048x4096, .bf16⟩
  | .hbm, ⟨18, _⟩ => ⟨S4x1024, .f32⟩
  | .hbm, ⟨19, _⟩ => ⟨S1024, .f32⟩
  | .hbm, ⟨20, _⟩ => ⟨S1x1024, .f32⟩
  | .hbm, ⟨21, _⟩ => ⟨S8x128x128, .f32⟩
  | .hbm, ⟨22, _⟩ => ⟨S8x128x128, .bf16⟩
  | .hbm, ⟨23, _⟩ => ⟨S8x128, .f32⟩
  | .hbm, ⟨24, _⟩ => ⟨S1x1024, .f32⟩
  | .hbm, ⟨25, _⟩ => ⟨S8x128x128, .f32⟩
  | .hbm, ⟨26, _⟩ => ⟨S8x128x128, .bf16⟩
  | .hbm, ⟨27, _⟩ => ⟨S8x128, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8x128x128, .f32⟩
  | .hbm, ⟨34, _⟩ => ⟨S8x128, .f32⟩
  | .hbm, ⟨35, _⟩ => ⟨S128x8, .f32⟩
  | .hbm, ⟨36, _⟩ => ⟨S8x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4096, .bf16⟩
  | .local _ .vmem, ⟨6, _⟩ => ⟨S4x1024, .f32⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S8x128x128, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S128x8, .f32⟩
  | .local _ .vmem, ⟨16, _⟩ => ⟨S1x256x2048, .bf16⟩
  | .local _ .vmem, ⟨17, _⟩ => ⟨S1x256x2048, .bf16⟩
  | .local _ .vmem, ⟨18, _⟩ => ⟨S264x1024, .f32⟩
  | .local _ .vmem, ⟨19, _⟩ => ⟨S8x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x4096 : Shape := ⟨3, ![1, 2048, 4096]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x1x2048 : Shape := ⟨3, ![8, 1, 2048]⟩
abbrev S2048x4096 : Shape := ⟨2, ![2048, 4096]⟩
abbrev S8x2048x4096 : Shape := ⟨3, ![8, 2048, 4096]⟩
abbrev S8x2048x1024 : Shape := ⟨3, ![8, 2048, 1024]⟩
abbrev S4x1024 : Shape := ⟨2, ![4, 1024]⟩
abbrev S1024 : Shape := ⟨1, ![1024]⟩
abbrev S8x2051x1024 : Shape := ⟨3, ![8, 2051, 1024]⟩
abbrev S1x1x1024 : Shape := ⟨3, ![1, 1, 1024]⟩
abbrev S8x128x128 : Shape := ⟨3, ![8, 128, 128]⟩
abbrev S8x128 : Shape := ⟨2, ![8, 128]⟩
abbrev S8x2048x8x128 : Shape := ⟨4, ![8, 2048, 8, 128]⟩
abbrev S8x128x8x2048 : Shape := ⟨4, ![8, 128, 8, 2048]⟩
abbrev S1x1x8x128 : Shape := ⟨4, ![1, 1, 8, 128]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S2048x8x1024 : Shape := ⟨3, ![2048, 8, 1024]⟩
abbrev S8x1x1024 : Shape := ⟨3, ![8, 1, 1024]⟩
abbrev S8x1024 : Shape := ⟨2, ![8, 1024]⟩
abbrev S1x8x1024 : Shape := ⟨3, ![1, 8, 1024]⟩
abbrev S2048x8x2048 : Shape := ⟨3, ![2048, 8, 2048]⟩

abbrev nBuf : Space → Nat
  | .hbm => 301
  | .vmem => 0
  | .smem => 0
  | _ => 0

abbrev hbmTy0_0 (i : Nat) : BufTy := match i % 128 with
  | 0 => ⟨S8x2048x2048, .f32⟩
  | 1 => ⟨S8x6x2048, .f32⟩
  | 2 => ⟨S1x2048, .f32⟩
  | 3 => ⟨S1x2048x4096, .f32⟩
  | 4 => ⟨S1x4x1024, .f32⟩
  | 5 => ⟨S1x1024, .f32⟩
  | 6 => ⟨S1x8x128x128, .f32⟩
  | 7 => ⟨S1x8x128, .f32⟩
  | 8 => ⟨S1x8x128x128, .f32⟩
  | 9 => ⟨S1x8x128, .f32⟩
  | 10 => ⟨S1x1024, .f32⟩
  | 11 => ⟨S1x1024, .f32⟩
  | 12 => ⟨S1x8x128x128, .f32⟩
  | 13 => ⟨S1x8x128, .f32⟩
  | 14 => ⟨S2048, .f32⟩
  | 15 => ⟨S8x2048x2048, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x2048, .f32⟩
  | 27 => ⟨S8x2048x2048, .f32⟩
  | 28 => ⟨S1x1x2048, .f32⟩
  | 29 => ⟨S8x2048x2048, .f32⟩
  | 30 => ⟨S8x2048x2048, .f32⟩
  | 31 => ⟨S8x1x2048, .f32⟩
  | 32 => ⟨S8x2048, .f32⟩
  | 33 => ⟨S8x1x2048, .f32⟩
  | 34 => ⟨S8x2048, .f32⟩
  | 35 => ⟨S8x1x2048, .f32⟩
  | 36 => ⟨S_, .f32⟩
  | 37 => ⟨S8x1x2048, .f32⟩
  | 38 => ⟨S8x1x2048, .f32⟩
  | 39 => ⟨S8x2048x2048, .f32⟩
  | 40 => ⟨S8x2048x2048, .f32⟩
  | 41 => ⟨S8x1x2048, .f32⟩
  | 42 => ⟨S8x2048x2048, .f32⟩
  | 43 => ⟨S8x2048x2048, .f32⟩
  | 44 => ⟨S2048x4096, .f32⟩
  | 45 => ⟨S8x2048x4096, .f32⟩
  | 46 => ⟨S8x2048x1024, .f32⟩
  | 47 => ⟨S8x2048x1024, .f32⟩
  | 48 => ⟨S8x2048x1024, .f32⟩
  | 49 => ⟨S8x2048x1024, .f32⟩
  | 50 => ⟨S4x1024, .f32⟩
  | 51 => ⟨S1024, .f32⟩
  | 52 => ⟨S_, .i32⟩
  | 53 => ⟨S_, .f32⟩
  | 54 => ⟨S8x2051x1024, .f32⟩
  | 55 => ⟨S1x1024, .f32⟩
  | 56 => ⟨S1024, .f32⟩
  | 57 => ⟨S8x2048x1024, .f32⟩
  | 58 => ⟨S1x1x1024, .f32⟩
  | 59 => ⟨S8x2048x1024, .f32⟩
  | 60 => ⟨S8x2048x1024, .f32⟩
  | 61 => ⟨S1x1024, .f32⟩
  | 62 => ⟨S1024, .f32⟩
  | 63 => ⟨S8x2048x1024, .f32⟩
  | 64 => ⟨S1x1x1024, .f32⟩
  | 65 => ⟨S8x2048x1024, .f32⟩
  | 66 => ⟨S8x2048x1024, .f32⟩
  | 67 => ⟨S8x2048x1024, .f32⟩
  | 68 => ⟨S1x1024, .f32⟩
  | 69 => ⟨S1024, .f32⟩
  | 70 => ⟨S8x2048x1024, .f32⟩
  | 71 => ⟨S1x1x1024, .f32⟩
  | 72 => ⟨S8x2048x1024, .f32⟩
  | 73 => ⟨S8x2048x1024, .f32⟩
  | 74 => ⟨S8x2048x1024, .f32⟩
  | 75 => ⟨S1x1024, .f32⟩
  | 76 => ⟨S1024, .f32⟩
  | 77 => ⟨S8x2048x1024, .f32⟩
  | 78 => ⟨S1x1x1024, .f32⟩
  | 79 => ⟨S8x2048x1024, .f32⟩
  | 80 => ⟨S8x2048x1024, .f32⟩
  | 81 => ⟨S8x2048x1024, .f32⟩
  | 82 => ⟨S1x1x1024, .f32⟩
  | 83 => ⟨S8x2048x1024, .f32⟩
  | 84 => ⟨S8x2048x1024, .f32⟩
  | 85 => ⟨S8x128x128, .f32⟩
  | 86 => ⟨S8x128, .f32⟩
  | 87 => ⟨S8x128x128, .f32⟩
  | 88 => ⟨S8x128, .f32⟩
  | 89 => ⟨S1024, .f32⟩
  | 90 => ⟨S8x2048x8x128, .f32⟩
  | 91 => ⟨S8x128x8x2048, .f32⟩
  | 92 => ⟨S8x2048x8x128, .f32⟩
  | 93 => ⟨S1x1x8x128, .f32⟩
  | 94 => ⟨S8x2048x8x128, .f32⟩
  | 95 => ⟨S8x2048x8x128, .f32⟩
  | 96 => ⟨S8x2048x8x128, .f32⟩
  | 97 => ⟨S8x2048x8x128, .f32⟩
  | 98 => ⟨S_, .f32⟩
  | 99 => ⟨S8x2048x8x128, .f32⟩
  | 100 => ⟨S8x2048x8x128, .f32⟩
  | 101 => ⟨S_, .f32⟩
  | 102 => ⟨S8x2048x8x128, .f32⟩
  | 103 => ⟨S8x2048x8x128, .f32⟩
  | 104 => ⟨S8x2048x1024, .f32⟩
  | 105 => ⟨S8x128x8x2048, .f32⟩
  | 106 => ⟨S8x2048x8x128, .f32⟩
  | 107 => ⟨S1x1x8x128, .f32⟩
  | 108 => ⟨S8x2048x8x128, .f32⟩
  | 109 => ⟨S8x2048x8x128, .f32⟩
  | 110 => ⟨S8x2048x8x128, .f32⟩
  | 111 => ⟨S8x2048x8x128, .f32⟩
  | 112 => ⟨S_, .f32⟩
  | 113 => ⟨S8x2048x8x128, .f32⟩
  | 114 => ⟨S8x2048x8x128, .f32⟩
  | 115 => ⟨S_, .f32⟩
  | 116 => ⟨S8x2048x8x128, .f32⟩
  | 117 => ⟨S8x2048x8x128, .f32⟩
  | 118 => ⟨S8x2048x1024, .f32⟩
  | 119 => ⟨S_, .f32⟩
  | 120 => ⟨S8x2048x1024, .f32⟩
  | 121 => ⟨S8x2048x1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S1024, .f32⟩
  | _ => ⟨S8x2048x2048, .f32⟩

abbrev hbmTy0_1 (i : Nat) : BufTy := match i % 128 with
  | 0 => ⟨S1024, .i1⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S8x2048x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | 26 => ⟨S8x2048x1024, .f32⟩
  | 27 => ⟨S_, .f32⟩
  | 28 => ⟨S8x2048x1024, .f32⟩
  | 29 => ⟨S8x2048x1024, .f32⟩
  | 30 => ⟨S8x2048x1024, .f32⟩
  | 31 => ⟨S_, .f32⟩
  | 32 => ⟨S8x2048x1024, .f32⟩
  | 33 => ⟨S8x2048x1024, .f32⟩
  | 34 => ⟨S_, .f32⟩
  | 35 => ⟨S8x2048x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S8x2048x1024, .f32⟩
  | 44 => ⟨S_, .f32⟩
  | 45 => ⟨S8x2048x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S1024, .f32⟩
  | 56 => ⟨S8x128x128, .f32⟩
  | 57 => ⟨S8x128, .f32⟩
  | 58 => ⟨S8x2048x1024, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S8x16x128x8x128, .f32⟩
  | 75 => ⟨S_, .i1⟩
  | 76 => ⟨S128x128, .i1⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .i1⟩
  | 84 => ⟨S128x128, .i1⟩
  | 85 => ⟨S128x128, .i1⟩
  | 86 => ⟨S1x128x128, .i1⟩
  | 87 => ⟨S_, .i32⟩
  | 88 => ⟨S_, .f32⟩
  | 89 => ⟨S8x128x128, .i1⟩
  | 90 => ⟨S8x128x128, .f32⟩
  | 91 => ⟨S8x128x128, .f32⟩
  | 92 => ⟨S8x8x16x128x128, .f32⟩
  | 93 => ⟨S8x16x128x8x128, .f32⟩
  | 94 => ⟨S128x8, .f32⟩
  | 95 => ⟨S1x1x128x8x1, .f32⟩
  | 96 => ⟨S8x16x128x8x128, .f32⟩
  | 97 => ⟨S8x16x128x8x128, .f32⟩
  | 98 => ⟨S8x2048x1024, .f32⟩
  | 99 => ⟨S8x2048x1024, .f32⟩
  | 100 => ⟨S8x2048x1024, .f32⟩
  | 101 => ⟨S8x2048x1024, .f32⟩
  | 102 => ⟨S_, .f32⟩
  | 103 => ⟨S8x2048x1024, .f32⟩
  | 104 => ⟨S8x2048x1024, .f32⟩
  | 105 => ⟨S8x2048x1024, .f32⟩
  | 106 => ⟨S_, .f32⟩
  | 107 => ⟨S8x2048x1024, .f32⟩
  | 108 => ⟨S8x2048x1024, .f32⟩
  | 109 => ⟨S8x2048x1024, .f32⟩
  | 110 => ⟨S_, .f32⟩
  | 111 => ⟨S8x2048x1024, .f32⟩
  | 112 => ⟨S8x2048x1024, .f32⟩
  | 113 => ⟨S_, .f32⟩
  | 114 => ⟨S8x2048x1024, .f32⟩
  | 115 => ⟨S8x2048x1024, .f32⟩
  | 116 => ⟨S8x2048x1024, .f32⟩
  | 117 => ⟨S2048x8x1024, .f32⟩
  | 118 => ⟨S2048x8x1024, .f32⟩
  | 119 => ⟨S2048x8x1024, .f32⟩
  | 120 => ⟨S2048x8x1024, .f32⟩
  | 121 => ⟨S8x1x1024, .f32⟩
  | 122 => ⟨S8x1024, .f32⟩
  | 123 => ⟨S_, .f32⟩
  | 124 => ⟨S8x1024, .f32⟩
  | 125 => ⟨S_, .bf16⟩
  | 126 => ⟨S2048x8x1024, .bf16⟩
  | 127 => ⟨S_, .bf16⟩
  | _ => ⟨S8x2048x2048, .f32⟩

abbrev hbmTy0_2 (i : Nat) : BufTy := match i % 128 with
  | 0 => ⟨S2048x8x1024, .bf16⟩
  | 1 => ⟨S_, .i32⟩
  | 2 => ⟨S2048x8x1024, .f32⟩
  | 3 => ⟨S2048x8x1024, .f32⟩
  | 4 => ⟨S2048x8x1024, .f32⟩
  | 5 => ⟨S2048x8x1024, .f32⟩
  | 6 => ⟨S_, .i32⟩
  | 7 => ⟨S8x1024, .f32⟩
  | 8 => ⟨S2048x8x1024, .bf16⟩
  | 9 => ⟨S2048x8x1024, .bf16⟩
  | 10 => ⟨S_, .i32⟩
  | 11 => ⟨S_, .i1⟩
  | 12 => ⟨S_, .i32⟩
  | 13 => ⟨S_, .i32⟩
  | 14 => ⟨S1x8x1024, .f32⟩
  | 15 => ⟨S8x1024, .f32⟩
  | 16 => ⟨S_, .i32⟩
  | 17 => ⟨S_, .i32⟩
  | 18 => ⟨S1x8x1024, .f32⟩
  | 19 => ⟨S8x1024, .f32⟩
  | 20 => ⟨S_, .i32⟩
  | 21 => ⟨S_, .i32⟩
  | 22 => ⟨S1x8x1024, .f32⟩
  | 23 => ⟨S8x1024, .f32⟩
  | 24 => ⟨S_, .i32⟩
  | 25 => ⟨S_, .i32⟩
  | 26 => ⟨S1x8x1024, .f32⟩
  | 27 => ⟨S8x1024, .f32⟩
  | 28 => ⟨S8x1024, .f32⟩
  | 29 => ⟨S8x1024, .f32⟩
  | 30 => ⟨S8x1024, .f32⟩
  | 31 => ⟨S8x1024, .bf16⟩
  | 32 => ⟨S8x1024, .bf16⟩
  | 33 => ⟨S1x8x1024, .bf16⟩
  | 34 => ⟨S_, .i32⟩
  | 35 => ⟨S_, .i32⟩
  | 36 => ⟨S2048x8x1024, .bf16⟩
  | 37 => ⟨S1x8x1024, .bf16⟩
  | 38 => ⟨S_, .i32⟩
  | 39 => ⟨S_, .i32⟩
  | 40 => ⟨S2048x8x1024, .bf16⟩
  | 41 => ⟨S_, .i32⟩
  | 42 => ⟨S_, .i32⟩
  | 43 => ⟨S2048x8x2048, .bf16⟩
  | 44 => ⟨S8x2048x2048, .bf16⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_3 : Ref sig .tc := ⟨.hbm, 98, rfl⟩
abbrev main_v78 : Ref sig .tc := ⟨.hbm, 99, rfl⟩
abbrev main_v79 : Ref sig .tc := ⟨.hbm, 100, rfl⟩
abbrev main_cst_4 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_5 : Ref sig .tc := ⟨.hbm, 112, rfl⟩
abbrev main_v90 : Ref sig .tc := ⟨.hbm, 113, rfl⟩
abbrev main_v91 : Ref sig .tc := ⟨.hbm, 114, rfl⟩
abbrev main_cst_6 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_7 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_8 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_9 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_10 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_11 : Ref sig .tc := ⟨.hbm, 159, rfl⟩
abbrev main_v118 : Ref sig .tc := ⟨.hbm, 160, rfl⟩
abbrev main_v119 : Ref sig .tc := ⟨.hbm, 161, rfl⟩
abbrev main_cst_12 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_13 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_14 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_15 : Ref sig .tc := ⟨.hbm, 176, rfl⟩
abbrev main_v131 : Ref sig .tc := ⟨.hbm, 177, rfl⟩
abbrev main_v132 : Ref sig .tc := ⟨.hbm, 178, rfl⟩
abbrev main_cst_16 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_17 : Ref sig .tc := ⟨.hbm, 187, rfl⟩
abbrev main_v140 : Ref sig .tc := ⟨.hbm, 188, rfl⟩
abbrev main_v141 : Ref sig .tc := ⟨.hbm, 189, rfl⟩
abbrev main_cst_18 : Ref sig .tc := ⟨.hbm, 190, rfl⟩
abbrev main_v142 : Ref sig .tc := ⟨.hbm, 191, rfl⟩
abbrev main_v143 : Ref sig .tc := ⟨.hbm, 192, rfl⟩
abbrev main_cst_19 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_20 : Ref sig .tc := ⟨.hbm, 203, rfl⟩
abbrev main_v153 : Ref sig .tc := ⟨.hbm, 204, rfl⟩
abbrev main_call2_v0 : Ref sig .tc := ⟨.hbm, 205, rfl⟩
abbrev main_call2_c : Ref sig .tc := ⟨.hbm, 206, rfl⟩
abbrev main_call2_v1 : Ref sig .tc := ⟨.hbm, 207, rfl⟩
abbrev main_call2_v2 : Ref sig .tc := ⟨.hbm, 208, rfl⟩
abbrev main_call2_v3 : Ref sig .tc := ⟨.hbm, 209, rfl⟩
abbrev main_call2_v4 : Ref sig .tc := ⟨.hbm, 210, rfl⟩
abbrev main_call2_c_0 : Ref sig .tc := ⟨.hbm, 211, rfl⟩
abbrev main_call2_v5 : Ref sig .tc := ⟨.hbm, 212, rfl⟩
abbrev main_v154 : Ref sig .tc := ⟨.hbm, 213, rfl⟩
abbrev main_v155 : Ref sig .tc := ⟨.hbm, 214, rfl⟩
abbrev main_c_21 : Ref sig .tc := ⟨.hbm, 215, rfl⟩
abbrev main_call3_v0 : Ref sig .tc := ⟨.hbm, 216, rfl⟩
abbrev main_call3_v1 : Ref sig .tc := ⟨.hbm, 217, rfl⟩
abbrev main_call3_v2 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_22 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_23 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_24 : Ref sig .tc := ⟨.hbm, 238, rfl⟩
abbrev main_v173 : Ref sig .tc := ⟨.hbm, 239, rfl⟩
abbrev main_v174 : Ref sig .tc := ⟨.hbm, 240, rfl⟩
abbrev main_cst_25 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_26 : Ref sig .tc := ⟨.hbm, 251, rfl⟩
abbrev main_v184 : Ref sig .tc := ⟨.hbm, 252, rfl⟩
abbrev main_cst_27 : Ref sig .tc := ⟨.hbm, 253, rfl⟩
abbrev main_v185 : Ref sig .tc := ⟨.hbm, 254, rfl⟩
abbrev main_cst_28 : Ref sig .tc := ⟨.hbm, 255, rfl⟩
abbrev main_v186 : Ref sig .tc := ⟨.hbm, 256, rfl⟩
abbrev main_c_29 : Ref sig .tc := ⟨.hbm, 257, rfl⟩
abbrev main_v187_0 : Ref sig .tc := ⟨.hbm, 258, rfl⟩
abbrev main_v187_1 : Ref sig .tc := ⟨.hbm, 259, rfl⟩
abbrev main_v187_2 : Ref sig .tc := ⟨.hbm, 260, rfl⟩
abbrev main_v187_3 : Ref sig .tc := ⟨.hbm, 261, rfl⟩
abbrev main_v187_4 : Ref sig .tc := ⟨.hbm, 262, rfl⟩
abbrev main_v187_5 : Ref sig .tc := ⟨.hbm, 263, rfl⟩
abbrev main_v187_6 : Ref sig .tc := ⟨.hbm, 264, rfl⟩
abbrev main_v187_7 : Ref sig .tc := ⟨.hbm, 265, rfl⟩
abbrev main_while0c_c_37 : Ref sig .tc := ⟨.hbm, 266, rfl⟩
abbrev main_while0c_v190 : Ref sig .tc := ⟨.hbm, 267, rfl⟩
abbrev main_while0b_call4_c : Ref sig .tc := ⟨.hbm, 268, rfl⟩
abbrev main_while0b_call4_c_0 : Ref sig .tc := ⟨.hbm, 269, rfl⟩
abbrev main_while0b_call4_v0 : Ref sig .tc := ⟨.hbm, 270, rfl⟩
abbrev main_while0b_v190 : Ref sig .tc := ⟨.hbm, 271, rfl⟩
abbrev main_while0b_call5_c : Ref sig .tc := ⟨.hbm, 272, rfl⟩
abbrev main_while0b_call5_c_0 : Ref sig .tc := ⟨.hbm, 273, rfl⟩
abbrev main_while0b_call5_v0 : Ref sig .tc := ⟨.hbm, 274, rfl⟩
abbrev main_while0b_v191 : Ref sig .tc := ⟨.hbm, 275, rfl⟩
abbrev main_while0b_call6_c : Ref sig .tc := ⟨.hbm, 276, rfl⟩
abbrev main_while0b_call6_c_0 : Ref sig .tc := ⟨.hbm, 277, rfl⟩
abbrev main_while0b_call6_v0 : Ref sig .tc := ⟨.hbm, 278, rfl⟩
abbrev main_while0b_v192 : Ref sig .tc := ⟨.hbm, 279, rfl⟩
abbrev main_while0b_call7_c : Ref sig .tc := ⟨.hbm, 280, rfl⟩
abbrev main_while0b_call7_c_0 : Ref sig .tc := ⟨.hbm, 281, rfl⟩
abbrev main_while0b_call7_v0 : Ref sig .tc := ⟨.hbm, 282, rfl⟩
abbrev main_while0b_v193 : Ref sig .tc := ⟨.hbm, 283, rfl⟩
abbrev main_while0b_v194 : Ref sig .tc := ⟨.hbm, 284, rfl⟩
abbrev main_while0b_v195 : Ref sig .tc := ⟨.hbm, 285, rfl⟩
abbrev main_while0b_v196 : Ref sig .tc := ⟨.hbm, 286, rfl⟩
abbrev main_while0b_v197 : Ref sig .tc := ⟨.hbm, 287, rfl⟩
abbrev main_while0b_v198 : Ref sig .tc := ⟨.hbm, 288, rfl⟩
abbrev main_while0b_call8_v0 : Ref sig .tc := ⟨.hbm, 289, rfl⟩
abbrev main_while0b_call8_c : Ref sig .tc := ⟨.hbm, 290, rfl⟩
abbrev main_while0b_call8_c_0 : Ref sig .tc := ⟨.hbm, 291, rfl⟩
abbrev main_while0b_v199 : Ref sig .tc := ⟨.hbm, 292, rfl⟩
abbrev main_while0b_call9_v0 : Ref sig .tc := ⟨.hbm, 293, rfl⟩
abbrev main_while0b_call9_c : Ref sig .tc := ⟨.hbm, 294, rfl⟩
abbrev main_while0b_call9_c_0 : Ref sig .tc := ⟨.hbm, 295, rfl⟩
abbrev main_while0b_v200 : Ref sig .tc := ⟨.hbm, 296, rfl⟩
abbrev main_while0b_c_37 : Ref sig .tc := ⟨.hbm, 297, rfl⟩
abbrev main_while0b_v201 : Ref sig .tc := ⟨.hbm, 298, rfl⟩
abbrev main_v188 : Ref sig .tc := ⟨.hbm, 299, rfl⟩
abbrev main_v189 : Ref sig .tc := ⟨.hbm, 300, rfl⟩

abbrev nD : Nat := 1
abbrev τ : Topo := Topo.v7x

variable {F : FTy → Type} [FloatOps F]

abbrev main_while0_count : Scf.Loop 32 := ⟨0#32, 2048#32, 1#32⟩
-- ==== Kernel4.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.PackNames.lean ====
/-
  The pack call, 32 trips over a table of 16384 experts in blocks of 512: the NAMES its two runs are stated in — block
  `b` of an input or of the result, slot `s` of a ring buffer, slot `s`'s cell, and the words the loop carries before
  trip `k` — with the equations that bring the printed slices to them.

  The two inputs go through rings of three slots filled two blocks ahead; the result leaves through a ring of two
  slots, each transfer waited one trip later. The carried words are seven: the next block to fetch of each input
  (`wN`), the block whose slot is read of each input and the result's (`wK`), the block whose write is waited (`wP`),
  and the block's place in the grid (`wB`). Every condition, offset and check is a decided fact of the 32 trips.
-/
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.Proof.Pack

open Cert.Kernel Cert.Kernel.Gen
open Idealize.ShloMosaic
open Idealize.ShloMosaic.TcCoe Idealize.ShloMosaic.Tactic

/-! ## The carried words and the trips -/

theorem trips_eq : k0_t1_loop.trips = 32 := by decide

/-- The words carried before trip `k`. -/
def wN (k : ℕ) : BitVec 32 := BitVec.ofNat 32 (min (k + 2) 32)
def wK (k : ℕ) : BitVec 32 := BitVec.ofNat 32 k
def wP (k : ℕ) : BitVec 32 := BitVec.ofNat 32 (k - 1)
def wB (k : ℕ) : BitVec 32 := BitVec.ofNat 32 (k % 32)

abbrev accAt (k : ℕ) : BitVec 32 × BitVec 32 × BitVec 32 × BitVec 32 × BitVec 32 × BitVec 32 × BitVec 32 :=
  (wN k, wK k, wN k, wK k, wK k, wP k, wB k)

/-! ## The names -/

abbrev uM : Memref sig .tc .hbm S16384x2048 .f32 := Memref.whole main_v0
abbrev vM : Memref sig .tc .hbm S16384x2048 .f32 := Memref.whole main_v1
abbrev oM : Memref sig .tc .hbm S16384x16x128 .i32 := Memref.whole main_v3
abbrev ubM : Memref sig .tc .vmem S3x512x2048 .f32 := Memref.whole cc0_scoped0
abbrev vbM : Memref sig .tc .vmem S3x512x2048 .f32 := Memref.whole cc0_scoped2
abbrev obM : Memref sig .tc .vmem S2x512x16x128 .i32 := Memref.whole cc0_scoped4

abbrev blkOff (b : Fin 32) : Fin 2 → Nat := ![512 * b.val, 0]
theorem blkOff_inb (b : Fin 32) : ∀ a, blkOff b a + S512x2048.size a ≤ S16384x2048.size a := by
  have := b.isLt; intro a; fin_cases a
  · show 512 * b.val + 512 ≤ 16384; omega
  · show 0 + 2048 ≤ 2048; omega
abbrev slotOff (s : Fin 3) : Fin 3 → Nat := ![s.val, 0, 0]
theorem slotOff_inb (s : Fin 3) : ∀ a, slotOff s a + S1x512x2048.size a ≤ S3x512x2048.size a := by
  have := s.isLt; intro a; fin_cases a
  · show s.val + 1 ≤ 3; omega
  · show 0 + 512 ≤ 512; omega
  · show 0 + 2048 ≤ 2048; omega
abbrev semOff (s : Fin 3) : Fin 1 → Nat := ![s.val]
theorem semOff_inb (s : Fin 3) : ∀ a, semOff s a + S1.size a ≤ S3.size a := by
  have := s.isLt; intro a; fin_cases a; show s.val + 1 ≤ 3; omega
abbrev oblkOff (b : Fin 32) : Fin 3 → Nat := ![512 * b.val, 0, 0]
theorem oblkOff_inb (b : Fin 32) : ∀ a, oblkOff b a + S512x16x128.size a ≤ S16384x16x128.size a := by
  have := b.isLt; intro a; fin_cases a
  · show 512 * b.val + 512 ≤ 16384; omega
  · show 0 + 16 ≤ 16; omega
  · show 0 + 128 ≤ 128; omega
abbrev oslotOff (s : Fin 2) : Fin 4 → Nat := ![s.val, 0, 0, 0]
theorem oslotOff_inb (s : Fin 2) : ∀ a, oslotOff s a + S1x512x16x128.size a ≤ S2x512x16x128.size a := by
  have := s.isLt; intro a; fin_cases a
  · show s.val + 1 ≤ 2; omega
  · show 0 + 512 ≤ 512; omega
  · show 0 + 16 ≤ 16; omega
  · show 0 + 128 ≤ 128; omega
abbrev osemOff (s : Fin 2) : Fin 1 → Nat := ![s.val]
theorem osemOff_inb (s : Fin 2) : ∀ a, osemOff s a + S1.size a ≤ S2.size a := by
  have := s.isLt; intro a; fin_cases a; show s.val + 1 ≤ 2; omega

/-- Block `b` of an input, as the body slices it. -/
def blk (M : Memref sig .tc .hbm S16384x2048 .f32) (b : Fin 32) : Memref sig .tc .hbm S512x2048 .f32 :=
  M.slice (Rect.unit (s := S16384x2048) (blkOff b) S512x2048.size (blkOff_inb b)) (fun _ => rfl)
/-- Slot `s` of an input's ring buffer, as the body slices and squeezes it. -/
def slot (B : Memref sig .tc .vmem S3x512x2048 .f32) (s : Fin 3) : Memref sig .tc .vmem S512x2048 .f32 :=
  (B.slice (Rect.unit (s := S3x512x2048) (slotOff s) S1x512x2048.size (slotOff_inb s)) (fun _ => rfl)).squeeze S512x2048 squeezes_S1x512x2048_S512x2048
/-- Slot `s`'s semaphore. -/
def csm (A : DmaSems sig S3) (s : Fin 3) : DmaSems sig S_ :=
  (A.slice (Rect.unit (s := S3) (semOff s) S1.size (semOff_inb s))).squeeze S_ squeezes_S1_S_
/-- Block `b` of the result. -/
def oblk (M : Memref sig .tc .hbm S16384x16x128 .i32) (b : Fin 32) : Memref sig .tc .hbm S512x16x128 .i32 :=
  M.slice (Rect.unit (s := S16384x16x128) (oblkOff b) S512x16x128.size (oblkOff_inb b)) (fun _ => rfl)
/-- Slot `s` of the result's ring buffer. -/
def oslot (B : Memref sig .tc .vmem S2x512x16x128 .i32) (s : Fin 2) : Memref sig .tc .vmem S512x16x128 .i32 :=
  (B.slice (Rect.unit (s := S2x512x16x128) (oslotOff s) S1x512x16x128.size (oslotOff_inb s)) (fun _ => rfl)).squeeze S512x16x128 squeezes_S1x512x16x128_S512x16x128
/-- Slot `s`'s semaphore. -/
def ocsm (A : DmaSems sig S2) (s : Fin 2) : DmaSems sig S_ :=
  (A.slice (Rect.unit (s := S2) (osemOff s) S1.size (osemOff_inb s))).squeeze S_ squeezes_S1_S_

/-! ## The decided facts of a trip -/

abbrev Trip : Type := Fin k0_t1_loop.trips

theorem cond3_iff : ∀ k : Trip, k0_cond3 k (wB k.val) = 1#1 ↔ k.val < 30 := by decide +kernel
theorem cond4_iff : ∀ k : Trip, k0_cond4 k (wB k.val) = 1#1 ↔ k.val < 30 := by decide +kernel
theorem cond5_t : ∀ k : Trip, k0_cond5 k (wB k.val) = 1#1 := by decide +kernel
theorem cond6_t : ∀ k : Trip, k0_cond6 k (wB k.val) = 1#1 := by decide +kernel
theorem cond10_t : ∀ k : Trip, k0_cond10 k (wB k.val) = 1#1 := by decide +kernel
theorem cond13_iff : ∀ k : Trip, k0_cond13 k (wB k.val) = 1#1 ↔ 1 ≤ k.val := by decide +kernel
theorem chk1_t : ∀ k : Trip, k0_chk1 k (wN k.val) (wK k.val) (wN k.val) (wK k.val) (wK k.val) (wP k.val) (wB k.val) := by decide +kernel
theorem chk2_t : ∀ k : Trip, k0_chk2 (wK k.val) := by decide +kernel
theorem chk3_t : ∀ k : Trip, k0_chk3 (wK k.val) := by decide +kernel
theorem chk4_t : ∀ k : Trip, k0_chk4 (wK k.val) := by decide +kernel

theorem off9_eq : ∀ k : Trip, k.val < 30 → k0_off9 (wN k.val) = semOff (Ring.sl 3 (k.val + 2)) := by decide +kernel
theorem off10_eq : ∀ k : Trip, k.val < 30 → k0_off10 (wN k.val) = slotOff (Ring.sl 3 (k.val + 2)) := by decide +kernel
theorem off11_eq : ∀ k : Trip, k.val < 30 → k0_off11 (wB k.val) = blkOff (Ring.bk 32 (k.val + 2)) := by decide +kernel
theorem off12_eq : ∀ k : Trip, k.val < 30 → k0_off12 (wN k.val) = semOff (Ring.sl 3 (k.val + 2)) := by decide +kernel
theorem off13_eq : ∀ k : Trip, k.val < 30 → k0_off13 (wN k.val) = slotOff (Ring.sl 3 (k.val + 2)) := by decide +kernel
theorem off14_eq : ∀ k : Trip, k.val < 30 → k0_off14 (wB k.val) = blkOff (Ring.bk 32 (k.val + 2)) := by decide +kernel
theorem off15_eq : ∀ k : Trip, k0_off15 (wK k.val) = semOff (Ring.sl 3 k.val) := by decide +kernel
theorem off16_eq : ∀ k : Trip, k0_off16 (wK k.val) = slotOff (Ring.sl 3 k.val) := by decide +kernel
theorem off17_eq : ∀ k : Trip, k0_off17 (wB k.val) = blkOff (Ring.bk 32 k.val) := by decide +kernel
theorem off18_eq : ∀ k : Trip, k0_off18 (wK k.val) = semOff (Ring.sl 3 k.val) := by decide +kernel
theorem off19_eq : ∀ k : Trip, k0_off19 (wK k.val) = slotOff (Ring.sl 3 k.val) := by decide +kernel
theorem off20_eq : ∀ k : Trip, k0_off20 (wB k.val) = blkOff (Ring.bk 32 k.val) := by decide +kernel
theorem off21_eq : ∀ k : Trip, k0_off21 (wK k.val) = slotOff (Ring.sl 3 k.val) := by decide +kernel
theorem off22_eq : ∀ k : Trip, k0_off22 (wK k.val) = slotOff (Ring.sl 3 k.val) := by decide +kernel
theorem off23_eq : ∀ k : Trip, k0_off23 (wK k.val) = oslotOff (Ring.sl 2 k.val) := by decide +kernel
theorem off24_eq : ∀ k : Trip, k0_off24 (wK k.val) = osemOff (Ring.sl 2 k.val) := by decide +kernel
theorem off25_eq : ∀ k : Trip, k0_off25 (wB k.val) = oblkOff (Ring.bk 32 k.val) := by decide +kernel
theorem off26_eq : ∀ k : Trip, k0_off26 (wK k.val) = oslotOff (Ring.sl 2 k.val) := by decide +kernel
theorem off27_eq : ∀ k : Trip, 1 ≤ k.val → k0_off27 (wP k.val) = osemOff (Ring.sl 2 (k.val + 1)) := by decide +kernel
theorem off28_eq : ∀ k : Trip, 1 ≤ k.val → k0_off28 (wB k.val) = oblkOff (Ring.bk 32 (k.val - 1)) := by decide +kernel
theorem off29_eq : ∀ k : Trip, 1 ≤ k.val → k0_off29 (wP k.val) = oslotOff (Ring.sl 2 (k.val + 1)) := by decide +kernel

/-- The prologue's and the epilogue's. -/
theorem cond1_t : k0_cond1 = 1#1 := by decide +kernel
theorem cond2_t : k0_cond2 = 1#1 := by decide +kernel
theorem chk5_t : k0_chk5 (wP k0_t1_loop.trips) := by decide +kernel
theorem chk6_t : k0_chk6 (wB k0_t1_loop.trips) := by decide +kernel
theorem off1_eq : k0_off1 = semOff 0 := by decide +kernel
theorem off2_eq : k0_off2 = slotOff 0 := by decide +kernel
theorem off3_eq : k0_off3 = semOff 1 := by decide +kernel
theorem off4_eq : k0_off4 = slotOff 1 := by decide +kernel
theorem off5_eq : k0_off5 = blkOff 1 := by decide +kernel
theorem off6_eq : k0_off6 = semOff 1 := by decide +kernel
theorem off7_eq : k0_off7 = slotOff 1 := by decide +kernel
theorem off8_eq : k0_off8 = blkOff 1 := by decide +kernel
theorem off30_eq : k0_off30 (wP k0_t1_loop.trips) = osemOff (Ring.sl 2 (k0_t1_loop.trips + 1)) := by decide +kernel
theorem off31_eq : k0_off31 (wB k0_t1_loop.trips) = oblkOff (Ring.bk 32 (k0_t1_loop.trips - 1)) := by decide +kernel
theorem off32_eq : k0_off32 (wP k0_t1_loop.trips) = oslotOff (Ring.sl 2 (k0_t1_loop.trips + 1)) := by decide +kernel

instance (s : Fin 3) : ClosedOff (slotOff s) := ⟨slotOff s, rfl⟩
instance (b : Fin 32) : ClosedOff (blkOff b) := ⟨blkOff b, rfl⟩
instance (s : Fin 2) : ClosedOff (oslotOff s) := ⟨oslotOff s, rfl⟩
instance (b : Fin 32) : ClosedOff (oblkOff b) := ⟨oblkOff b, rfl⟩
instance (k : Trip) : ClosedOff (k0_off21 (wK k.val)) := ⟨slotOff (Ring.sl 3 k.val), off21_eq k⟩
instance (k : Trip) : ClosedOff (k0_off22 (wK k.val)) := ⟨slotOff (Ring.sl 3 k.val), off22_eq k⟩

/-! ## The canonical-name equations -/

section Canon

variable (A : DmaSems sig S3) (B : Memref sig .tc .vmem S3x512x2048 .f32) (M : Memref sig .tc .hbm S16384x2048 .f32)
  (A' : DmaSems sig S2) (B' : Memref sig .tc .vmem S2x512x16x128 .i32) (M' : Memref sig .tc .hbm S16384x16x128 .i32)

private theorem csm_congr {off : Fin 1 → Nat} {s : Fin 3} (e : off = semOff s) (hh) :
    (A.slice (Rect.unit (s := S3) off S1.size hh)).squeeze S_ squeezes_S1_S_ = csm A s :=
  congrArg (fun X : DmaSems sig S1 => X.squeeze S_ squeezes_S1_S_) (SemArray.slice_unit_congr _ e _ _)
private theorem slot_congr {off : Fin 3 → Nat} {s : Fin 3} (e : off = slotOff s) (hh hs) :
    (B.slice (Rect.unit (s := S3x512x2048) off S1x512x2048.size hh) hs).squeeze S512x2048 squeezes_S1x512x2048_S512x2048 = slot B s :=
  congrArg (fun X : Memref sig .tc .vmem S1x512x2048 .f32 => X.squeeze S512x2048 squeezes_S1x512x2048_S512x2048) (Memref.slice_unit_congr _ e _ _ _ _)
private theorem blk_congr {off : Fin 2 → Nat} {b : Fin 32} (e : off = blkOff b) (hh hs) :
    M.slice (Rect.unit (s := S16384x2048) off S512x2048.size hh) hs = blk M b :=
  Memref.slice_unit_congr _ e _ _ _ (fun _ => rfl)
private theorem ocsm_congr {off : Fin 1 → Nat} {s : Fin 2} (e : off = osemOff s) (hh) :
    (A'.slice (Rect.unit (s := S2) off S1.size hh)).squeeze S_ squeezes_S1_S_ = ocsm A' s :=
  congrArg (fun X : DmaSems sig S1 => X.squeeze S_ squeezes_S1_S_) (SemArray.slice_unit_congr _ e _ _)
private theorem oslot_congr {off : Fin 4 → Nat} {s : Fin 2} (e : off = oslotOff s) (hh hs) :
    (B'.slice (Rect.unit (s := S2x512x16x128) off S1x512x16x128.size hh) hs).squeeze S512x16x128 squeezes_S1x512x16x128_S512x16x128 = oslot B' s :=
  congrArg (fun X : Memref sig .tc .vmem S1x512x16x128 .i32 => X.squeeze S512x16x128 squeezes_S1x512x16x128_S512x16x128) (Memref.slice_unit_congr _ e _ _ _ _)
private theorem oblk_congr {off : Fin 3 → Nat} {b : Fin 32} (e : off = oblkOff b) (hh hs) :
    M'.slice (Rect.unit (s := S16384x16x128) off S512x16x128.size hh) hs = oblk M' b :=
  Memref.slice_unit_congr _ e _ _ _ (fun _ => rfl)

@[sl_canon] theorem semL1 (hh) : (A.slice (Rect.unit (s := S3) k0_off1 S1.size hh)).squeeze S_ squeezes_S1_S_ = csm A 0 := csm_congr A off1_eq _
@[sl_canon] theorem semL3 (hh) : (A.slice (Rect.unit (s := S3) k0_off3 S1.size hh)).squeeze S_ squeezes_S1_S_ = csm A 1 := csm_congr A off3_eq _
@[sl_canon] theorem semL6 (hh) : (A.slice (Rect.unit (s := S3) k0_off6 S1.size hh)).squeeze S_ squeezes_S1_S_ = csm A 1 := csm_congr A off6_eq _
@[sl_canon] theorem slotL2 (hh hs) : (B.slice (Rect.unit (s := S3x512x2048) k0_off2 S1x512x2048.size hh) hs).squeeze S512x2048 squeezes_S1x512x2048_S512x2048 = slot B 0 := slot_congr B off2_eq _ _
@[sl_canon] theorem slotL4 (hh hs) : (B.slice (Rect.unit (s := S3x512x2048) k0_off4 S1x512x2048.size hh) hs).squeeze S512x2048 squeezes_S1x512x2048_S512x2048 = slot B 1 := slot_congr B off4_eq _ _
@[sl_canon] theorem slotL7 (hh hs) : (B.slice (Rect.unit (s := S3x512x2048) k0_off7 S1x512x2048.size hh) hs).squeeze S512x2048 squeezes_S1x512x2048_S512x2048 = slot B 1 := slot_congr B off7_eq _ _
@[sl_canon] theorem blkL0 (hh hs) : M.slice (Rect.unit (s := S16384x2048) ![0, 0] S512x2048.size hh) hs = blk M 0 := blk_congr M (by decide +kernel) _ _
@[sl_canon] theorem blkL5 (hh hs) : M.slice (Rect.unit (s := S16384x2048) k0_off5 S512x2048.size hh) hs = blk M 1 := blk_congr M off5_eq _ _
@[sl_canon] theorem blkL8 (hh hs) : M.slice (Rect.unit (s := S16384x2048) k0_off8 S512x2048.size hh) hs = blk M 1 := blk_congr M off8_eq _ _

variable (k : Trip)

@[sl_canon] theorem sem9 (h : k.val < 30) (hh) : (A.slice (Rect.unit (s := S3) (k0_off9 (wN k.val)) S1.size hh)).squeeze S_ squeezes_S1_S_ = csm A (Ring.sl 3 (k.val + 2)) := csm_congr A (off9_eq k h) _
@[sl_canon] theorem slot10 (h : k.val < 30) (hh hs) : (B.slice (Rect.unit (s := S3x512x2048) (k0_off10 (wN k.val)) S1x512x2048.size hh) hs).squeeze S512x2048 squeezes_S1x512x2048_S512x2048 = slot B (Ring.sl 3 (k.val + 2)) := slot_congr B (off10_eq k h) _ _
@[sl_canon] theorem blk11 (h : k.val < 30) (hh hs) : M.slice (Rect.unit (s := S16384x2048) (k0_off11 (wB k.val)) S512x2048.size hh) hs = blk M (Ring.bk 32 (k.val + 2)) := blk_congr M (off11_eq k h) _ _
@[sl_canon] theorem sem12 (h : k.val < 30) (hh) : (A.slice (Rect.unit (s := S3) (k0_off12 (wN k.val)) S1.size hh)).squeeze S_ squeezes_S1_S_ = csm A (Ring.sl 3 (k.val + 2)) := csm_congr A (off12_eq k h) _
@[sl_canon] theorem slot13 (h : k.val < 30) (hh hs) : (B.slice (Rect.unit (s := S3x512x2048) (k0_off13 (wN k.val)) S1x512x2048.size hh) hs).squeeze S512x2048 squeezes_S1x512x2048_S512x2048 = slot B (Ring.sl 3 (k.val + 2)) := slot_congr B (off13_eq k h) _ _
@[sl_canon] theorem blk14 (h : k.val < 30) (hh hs) : M.slice (Rect.unit (s := S16384x2048) (k0_off14 (wB k.val)) S512x2048.size hh) hs = blk M (Ring.bk 32 (k.val + 2)) := blk_congr M (off14_eq k h) _ _
@[sl_canon] theorem sem15 (hh) : (A.slice (Rect.unit (s := S3) (k0_off15 (wK k.val)) S1.size hh)).squeeze S_ squeezes_S1_S_ = csm A (Ring.sl 3 k.val) := csm_congr A (off15_eq k) _
@[sl_canon] theorem slot16 (hh hs) : (B.slice (Rect.unit (s := S3x512x2048) (k0_off16 (wK k.val)) S1x512x2048.size hh) hs).squeeze S512x2048 squeezes_S1x512x2048_S512x2048 = slot B (Ring.sl 3 k.val) := slot_congr B (off16_eq k) _ _
@[sl_canon] theorem blk17 (hh hs) : M.slice (Rect.unit (s := S16384x2048) (k0_off17 (wB k.val)) S512x2048.size hh) hs = blk M (Ring.bk 32 k.val) := blk_congr M (off17_eq k) _ _
@[sl_canon] theorem sem18 (hh) : (A.slice (Rect.unit (s := S3) (k0_off18 (wK k.val)) S1.size hh)).squeeze S_ squeezes_S1_S_ = csm A (Ring.sl 3 k.val) := csm_congr A (off18_eq k) _
@[sl_canon] theorem slot19 (hh hs) : (B.slice (Rect.unit (s := S3x512x2048) (k0_off19 (wK k.val)) S1x512x2048.size hh) hs).squeeze S512x2048 squeezes_S1x512x2048_S512x2048 = slot B (Ring.sl 3 k.val) := slot_congr B (off19_eq k) _ _
@[sl_canon] theorem blk20 (hh hs) : M.slice (Rect.unit (s := S16384x2048) (k0_off20 (wB k.val)) S512x2048.size hh) hs = blk M (Ring.bk 32 k.val) := blk_congr M (off20_eq k) _ _
@[sl_canon] theorem oslot23 (hh hs) : (B'.slice (Rect.unit (s := S2x512x16x128) (k0_off23 (wK k.val)) S1x512x16x128.size hh) hs).squeeze S512x16x128 squeezes_S1x512x16x128_S512x16x128 = oslot B' (Ring.sl 2 k.val) := oslot_congr B' (off23_eq k) _ _
@[sl_canon] theorem osem24 (hh) : (A'.slice (Rect.unit (s := S2) (k0_off24 (wK k.val)) S1.size hh)).squeeze S_ squeezes_S1_S_ = ocsm A' (Ring.sl 2 k.val) := ocsm_congr A' (off24_eq k) _
@[sl_canon] theorem oblk25 (hh hs) : M'.slice (Rect.unit (s := S16384x16x128) (k0_off25 (wB k.val)) S512x16x128.size hh) hs = oblk M' (Ring.bk 32 k.val) := oblk_congr M' (off25_eq k) _ _
@[sl_canon] theorem oslot26 (hh hs) : (B'.slice (Rect.unit (s := S2x512x16x128) (k0_off26 (wK k.val)) S1x512x16x128.size hh) hs).squeeze S512x16x128 squeezes_S1x512x16x128_S512x16x128 = oslot B' (Ring.sl 2 k.val) := oslot_congr B' (off26_eq k) _ _
@[sl_canon] theorem osem27 (h : 1 ≤ k.val) (hh) : (A'.slice (Rect.unit (s := S2) (k0_off27 (wP k.val)) S1.size hh)).squeeze S_ squeezes_S1_S_ = ocsm A' (Ring.sl 2 (k.val + 1)) := ocsm_congr A' (off27_eq k h) _
@[sl_canon] theorem oblk28 (h : 1 ≤ k.val) (hh hs) : M'.slice (Rect.unit (s := S16384x16x128) (k0_off28 (wB k.val)) S512x16x128.size hh) hs = oblk M' (Ring.bk 32 (k.val - 1)) := oblk_congr M' (off28_eq k h) _ _
@[sl_canon] theorem oslot29 (h : 1 ≤ k.val) (hh hs) : (B'.slice (Rect.unit (s := S2x512x16x128) (k0_off29 (wP k.val)) S1x512x16x128.size hh) hs).squeeze S512x16x128 squeezes_S1x512x16x128_S512x16x128 = oslot B' (Ring.sl 2 (k.val + 1)) := oslot_congr B' (off29_eq k h) _ _
@[sl_canon] theorem osem30 (hh) : (A'.slice (Rect.unit (s := S2) (k0_off30 (wP k0_t1_loop.trips)) S1.size hh)).squeeze S_ squeezes_S1_S_ = ocsm A' (Ring.sl 2 (k0_t1_loop.trips + 1)) := ocsm_congr A' off30_eq _
@[sl_canon] theorem oblk31 (hh hs) : M'.slice (Rect.unit (s := S16384x16x128) (k0_off31 (wB k0_t1_loop.trips)) S512x16x128.size hh) hs = oblk M' (Ring.bk 32 (k0_t1_loop.trips - 1)) := oblk_congr M' off31_eq _ _
@[sl_canon] theorem oslot32 (hh hs) : (B'.slice (Rect.unit (s := S2x512x16x128) (k0_off32 (wP k0_t1_loop.trips)) S1x512x16x128.size hh) hs).squeeze S512x16x128 squeezes_S1x512x16x128_S512x16x128 = oslot B' (Ring.sl 2 (k0_t1_loop.trips + 1)) := oslot_congr B' off32_eq _ _

end Canon

end Cert.Proof.Pack
-- ==== Proof.PackValue.lean ====
/-
  What a trip of the pack call's loop stores: the sixteen lane groups of the result's slot, each 128 lanes of the words
  packed from the two loaded blocks, hold entry by entry the word of the two inputs at that block's row and lane.
-/
module

public import proofs.«01_k».proof.Proof.PackNames
public import Idealize.ShloMosaic.Lib.PointwiseCore
public import Idealize.ShloMosaic.Lib.Writes

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD) (XU : Buf (Elt F) (uM.view.loc (c : Thread nD τ))) (XV : Buf (Elt F) (vM.view.loc (c : Thread nD τ)))

/-- One result word: the second float's bf16 bits over the first's. -/
def word (x y : F .f32) : BitVec 32 := BitOps.toBits (FloatOps.truncf .bf16 (by decide) y) ++ BitOps.toBits (FloatOps.truncf .bf16 (by decide) x)

/-- Where entry `i` of the result lies in the inputs: row `i 0`, lane `128 · i 1 + i 2`. -/
def src (i : S16384x16x128.Idx) : S16384x2048.Idx := Fin.cons (i 0) (Fin.cons ⟨128 * (i 1).val + (i 2).val, by
  have h1 : (i 1).val < 16 := (i 1).isLt; have h2 : (i 2).val < 128 := (i 2).isLt; show _ < 2048; omega⟩ (fun a => a.elim0))

/-- The packed table. -/
def packed : Buf (Elt F) (oM.view.loc (c : Thread nD τ)) := fun i : S16384x16x128.Idx => word (F := F) (XU (src i)) (XV (src i))

/-! ## The load of a landed block -/

/-- Row `a`, lane `l` of block `b`, in the table. -/
def at2 (b : Fin 32) (a : Fin 512) (l : Fin 2048) : S16384x2048.Idx :=
  ix2 (⟨512 * b.val + a.val, by have := b.isLt; have := a.isLt; omega⟩ : Fin 16384) l

section Load

/-- A whole slot, a unit-rectangle of a buffer with its first axis dropped, read at an index. -/
theorem read_slot {κ : Kind} {sp : Space} {t s' : Shape} {e : EltTy} {Val : EltTy → Type} (v : View sig κ sp t e) (r : Rect t)
    (hn : s'.numel = r.shape.numel) (g : v.ty.Contents Val) (y : s'.Idx) (x : r.shape.Idx) (hx : Shape.reshapeEquiv hn y = x) :
    v.readAt Val r.toLoadRect g x = ((v.slice r).reshape s' hn).read Val g y := by
  subst hx; rfl

theorem unsq (a : Fin 512) (l : Fin 2048) :
    Shape.reshapeEquiv squeezes_S1x512x2048_S512x2048.numel_eq (ix2 a l : S512x2048.Idx) = (ix3 (0 : Fin 1) a l : S1x512x2048.Idx) := by
  apply Shape.reshapeEquiv_eq_of_rowMajor
  rw [rowMajor_val3 (d := ![1, 512, 2048]) _ 1048576 2048 rfl rfl, rowMajor_val2 (d := ![512, 2048]) _ 2048 rfl]
  show 0 * 1048576 + a.val * 2048 + l.val = a.val * 2048 + l.val
  omega

theorem blk_emb (b : Fin 32) (a : Fin 512) (l : Fin 2048) :
    (Rect.unit (s := S16384x2048) (blkOff b) S512x2048.size (blkOff_inb b)).emb (ix2 a l : S512x2048.Idx) = at2 b a l := by
  funext d
  apply Fin.ext
  fin_cases d
  · show 512 * b.val + 1 * a.val = 512 * b.val + a.val; omega
  · show 0 + 1 * l.val = l.val; omega

/-- The whole-slot load of slot `s`, block `b` having landed there, is the block: first table. -/
theorem load_u (X : Buf (Elt F) (uM.view.loc (c : Thread nD τ))) (b : Fin 32) (s : Fin 3)
    (f : Buf (Elt F) ((slot ubM s).view.loc (c : Thread nD τ))) {off : Fin 3 → ℕ} (inb : ∀ a, off a + S1x512x2048.size a ≤ S3x512x2048.size a)
    (hoff : off = slotOff s) (z : Fin 1) (a : Fin 512) (l : Fin 2048) :
    View.readAt (Elt F) ubM.view (Rect.unit (s := S3x512x2048) off S1x512x2048.size inb).toLoadRect
      ((slot ubM s).view.writes (Elt F) f [⟨Rect.whole S512x2048, ReadAs.same.apply ((blk uM b).view.read (Elt F) X)⟩]) (ix3 z a l) = X (at2 b a l) := by
  subst hoff
  have hz : z = 0 := Subsingleton.elim _ _
  subst hz
  refine (read_slot ubM.view (Rect.unit (s := S3x512x2048) (slotOff s) S1x512x2048.size inb)
    squeezes_S1x512x2048_S512x2048.numel_eq _ (ix2 a l) _ (unsq a l)).trans ?_
  refine (congrFun (View.read_writes_whole (slot ubM s).view f _) (ix2 a l)).trans ?_
  exact congrArg X (blk_emb b a l)

/-- The same of the second table. -/
theorem load_v (X : Buf (Elt F) (vM.view.loc (c : Thread nD τ))) (b : Fin 32) (s : Fin 3)
    (f : Buf (Elt F) ((slot vbM s).view.loc (c : Thread nD τ))) {off : Fin 3 → ℕ} (inb : ∀ a, off a + S1x512x2048.size a ≤ S3x512x2048.size a)
    (hoff : off = slotOff s) (z : Fin 1) (a : Fin 512) (l : Fin 2048) :
    View.readAt (Elt F) vbM.view (Rect.unit (s := S3x512x2048) off S1x512x2048.size inb).toLoadRect
      ((slot vbM s).view.writes (Elt F) f [⟨Rect.whole S512x2048, ReadAs.same.apply ((blk vM b).view.read (Elt F) X)⟩]) (ix3 z a l) = X (at2 b a l) := by
  subst hoff
  have hz : z = 0 := Subsingleton.elim _ _
  subst hz
  refine (read_slot vbM.view (Rect.unit (s := S3x512x2048) (slotOff s) S1x512x2048.size inb)
    squeezes_S1x512x2048_S512x2048.numel_eq _ (ix2 a l) _ (unsq a l)).trans ?_
  refine (congrFun (View.read_writes_whole (slot vbM s).view f _) (ix2 a l)).trans ?_
  exact congrArg X (blk_emb b a l)

end Load

/-! ## The sixteen stores -/

section Stores

variable (wu wv : Vec F S1x512x2048 .f32)

/-- Lane group `j` of the packed block, as the body stores it. -/
def grp (j : ℕ) (h : Shape.Slices S512x2048 ![0, 128 * j] S512x128) : IVec S512x1x128 32 :=
  shapeCast S512x1x128 (extractStridedSlice S512x128 ![0, 128 * j] (k0_pay1 wu wv) h) shapeCasts_S512x128_S512x1x128

/-- What a slot holds at row `a`, group `j`, lane `l` after the stores. -/
def slotVal : S512x16x128.Idx → Elt F .i32 := fun i =>
  word (F := F) (wu (ix3 (0 : Fin 1) (i 0) ⟨128 * (i 1).val + (i 2).val, by
    have h1 : (i 1).val < 16 := (i 1).isLt; have h2 : (i 2).val < 128 := (i 2).isLt; show _ < 2048; omega⟩))
   (wv (ix3 (0 : Fin 1) (i 0) ⟨128 * (i 1).val + (i 2).val, by
    have h1 : (i 1).val < 16 := (i 1).isLt; have h2 : (i 2).val < 128 := (i 2).isLt; show _ < 2048; omega⟩))

theorem grp_apply (j : ℕ) (hj : j < 16) (h : Shape.Slices S512x2048 ![0, 128 * j] S512x128) (x : S512x1x128.Idx) (y : S512x16x128.Idx)
    (h0 : (y 0).val = (x 0).val) (h1 : (y 1).val = j) (h2 : (y 2).val = (x 2).val) :
    grp wu wv j h x = slotVal wu wv y := by
  have b2 : (x 2).val < 128 := (x 2).isLt
  have e0 : y 0 = x 0 := Fin.ext h0
  unfold grp slotVal k0_pay1 word
  pointwise
  simp only [e0, h1, h2]

theorem inb_grp (j : ℕ) (h : j < 16) : ∀ a, (![0, j, 0] : Fin 3 → ℕ) a + S512x1x128.size a ≤ S512x16x128.size a := by
  intro a; fin_cases a
  · show 0 + 512 ≤ 512; omega
  · show j + 1 ≤ 16; omega
  · show 0 + 128 ≤ 128; omega

theorem sl_grp : ∀ j < 16, Shape.Slices S512x2048 ![0, 128 * j] S512x128 := by decide

theorem grp_mid (j : ℕ) (inb : ∀ a, (![0, j, 0] : Fin 3 → ℕ) a + S512x1x128.size a ≤ S512x16x128.size a) (x : S512x1x128.Idx) :
    ((Rect.unit (s := S512x16x128) ![0, j, 0] S512x1x128.size inb).emb x 1).val = j := by
  have h : (x 1).val < 1 := (x 1).isLt
  show j + 1 * (x 1).val = j
  omega

/-- The stores of a trip, the newest first. -/
def pieces : List (View.Piece (Elt F) S512x16x128 .i32) :=
  [⟨Rect.unit (s := S512x16x128) ![0, 15, 0] S512x1x128.size (inb_grp 15 (by omega)), grp wu wv 15 (sl_grp 15 (by omega))⟩,
    ⟨Rect.unit (s := S512x16x128) ![0, 14, 0] S512x1x128.size (inb_grp 14 (by omega)), grp wu wv 14 (sl_grp 14 (by omega))⟩,
    ⟨Rect.unit (s := S512x16x128) ![0, 13, 0] S512x1x128.size (inb_grp 13 (by omega)), grp wu wv 13 (sl_grp 13 (by omega))⟩,
    ⟨Rect.unit (s := S512x16x128) ![0, 12, 0] S512x1x128.size (inb_grp 12 (by omega)), grp wu wv 12 (sl_grp 12 (by omega))⟩,
    ⟨Rect.unit (s := S512x16x128) ![0, 11, 0] S512x1x128.size (inb_grp 11 (by omega)), grp wu wv 11 (sl_grp 11 (by omega))⟩,
    ⟨Rect.unit (s := S512x16x128) ![0, 10, 0] S512x1x128.size (inb_grp 10 (by omega)), grp wu wv 10 (sl_grp 10 (by omega))⟩,
    ⟨Rect.unit (s := S512x16x128) ![0, 9, 0] S512x1x128.size (inb_grp 9 (by omega)), grp wu wv 9 (sl_grp 9 (by omega))⟩,
    ⟨Rect.unit (s := S512x16x128) ![0, 8, 0] S512x1x128.size (inb_grp 8 (by omega)), grp wu wv 8 (sl_grp 8 (by omega))⟩,
    ⟨Rect.unit (s := S512x16x128) ![0, 7, 0] S512x1x128.size (inb_grp 7 (by omega)), grp wu wv 7 (sl_grp 7 (by omega))⟩,
    ⟨Rect.unit (s := S512x16x128) ![0, 6, 0] S512x1x128.size (inb_grp 6 (by omega)), grp wu wv 6 (sl_grp 6 (by omega))⟩,
    ⟨Rect.unit (s := S512x16x128) ![0, 5, 0] S512x1x128.size (inb_grp 5 (by omega)), grp wu wv 5 (sl_grp 5 (by omega))⟩,
    ⟨Rect.unit (s := S512x16x128) ![0, 4, 0] S512x1x128.size (inb_grp 4 (by omega)), grp wu wv 4 (sl_grp 4 (by omega))⟩,
    ⟨Rect.unit (s := S512x16x128) ![0, 3, 0] S512x1x128.size (inb_grp 3 (by omega)), grp wu wv 3 (sl_grp 3 (by omega))⟩,
    ⟨Rect.unit (s := S512x16x128) ![0, 2, 0] S512x1x128.size (inb_grp 2 (by omega)), grp wu wv 2 (sl_grp 2 (by omega))⟩,
    ⟨Rect.unit (s := S512x16x128) ![0, 1, 0] S512x1x128.size (inb_grp 1 (by omega)), grp wu wv 1 (sl_grp 1 (by omega))⟩,
    ⟨Rect.unit (s := S512x16x128) ![0, 0, 0] S512x1x128.size (inb_grp 0 (by omega)), grp wu wv 0 (sl_grp 0 (by omega))⟩]

/-- The slot after them. -/
theorem read_pieces {κ : Kind} {sp : Space} (v : View sig κ sp S512x16x128 .i32) (f : v.ty.Contents (Elt F)) (y : S512x16x128.Idx) :
    v.read (Elt F) (v.writes (Elt F) f (pieces wu wv)) y = slotVal wu wv y := by
  refine View.read_writes_apply_of_pieces v f (slotVal wu wv) (pieces wu wv) ?_ y
    (View.cover_of_tiled (pieces wu wv) S512x1x128.size rfl y)
  unfold pieces
  simp only [List.forall_mem_cons, List.not_mem_nil, IsEmpty.forall_iff, implies_true, and_true]
  refine ⟨?_, ?_, ?_, ?_, ?_, ?_, ?_, ?_, ?_, ?_, ?_, ?_, ?_, ?_, ?_, ?_⟩ <;> intro x <;>
    refine grp_apply wu wv _ (by omega) _ x _ ?_ ?_ ?_
  all_goals first
    | exact grp_mid _ _ x
    | (show 0 + 1 * (x 0).val = (x 0).val; omega)
    | (show 0 + 1 * (x 2).val = (x 2).val; omega)

theorem packed_apply (i : S16384x16x128.Idx) : packed c XU XV i = word (F := F) (XU (src i)) (XV (src i)) := rfl

theorem src_emb (b : Fin 32) (y : S512x16x128.Idx) (h : 128 * (y 1).val + (y 2).val < 2048) :
    src ((Rect.unit (s := S16384x16x128) (oblkOff b) S512x16x128.size (oblkOff_inb b)).emb y) = at2 b (y 0) ⟨128 * (y 1).val + (y 2).val, h⟩ := by
  funext d
  apply Fin.ext
  fin_cases d
  · show 512 * b.val + 1 * (y 0).val = 512 * b.val + (y 0).val; omega
  · show 128 * (0 + 1 * (y 1).val) + (0 + 1 * (y 2).val) = 128 * (y 1).val + (y 2).val; omega

/-- What lands in block `b` of the result is the packed table there, the two loads being block `b` of the inputs. -/
theorem landed_packed (b : Fin 32) (s : Fin 2) (ho : Buf (Elt F) ((oblk oM b).view.loc (c : Thread nD τ)))
    (fo : Buf (Elt F) ((oslot obM s).view.loc (c : Thread nD τ)))
    (hu : ∀ z a l, wu (ix3 z a l) = XU (at2 b a l)) (hv : ∀ z a l, wv (ix3 z a l) = XV (at2 b a l)) :
    ∀ i ∈ (oblk oM b).view.set, (oblk oM b).view.writes (Elt F) ho
      [⟨Rect.whole S512x16x128, ReadAs.same.apply ((oslot obM s).view.read (Elt F) ((oslot obM s).view.writes (Elt F) fo (pieces wu wv)))⟩] i
      = packed c XU XV i := by
  intro i hi
  obtain ⟨y, -, rfl⟩ := Finset.mem_map.mp hi
  have e1 := congrFun (View.read_writes_whole (oblk oM b).view ho
    (ReadAs.same.apply ((oslot obM s).view.read (Elt F) ((oslot obM s).view.writes (Elt F) fo (pieces wu wv))))) y
  have e2 := read_pieces wu wv (oslot obM s).view fo y
  have h1 : (y 1).val < 16 := (y 1).isLt
  have h2 : (y 2).val < 128 := (y 2).isLt
  have hs := src_emb b y (by omega)
  have e3 : slotVal wu wv y = word (F := F) (XU (at2 b (y 0) ⟨128 * (y 1).val + (y 2).val, by omega⟩)) (XV (at2 b (y 0) ⟨128 * (y 1).val + (y 2).val, by omega⟩)) := by
    exact congrArg₂ (word (F := F)) (hu 0 (y 0) _) (hv 0 (y 0) _)
  have e4 : packed c XU XV ((Rect.unit (s := S16384x16x128) (oblkOff b) S512x16x128.size (oblkOff_inb b)).emb y)
      = word (F := F) (XU (at2 b (y 0) ⟨128 * (y 1).val + (y 2).val, by omega⟩)) (XV (at2 b (y 0) ⟨128 * (y 1).val + (y 2).val, by omega⟩)) := by
    refine (packed_apply c XU XV _).trans ?_
    rw [hs]
  have e5 : ∀ g : Buf (Elt F) ((oblk oM b).view.loc (c : Thread nD τ)), (oblk oM b).view.read (Elt F) g y = g ((oblk oM b).view.emb y) := fun g => rfl
  have e6 : (oblk oM b).view.emb y = (Rect.unit (s := S16384x16x128) (oblkOff b) S512x16x128.size (oblkOff_inb b)).emb y := rfl
  refine (e5 _).symm.trans (e1.trans ?_)
  rw [e6, e4, ← e3, ← e2]

end Stores

end Cert.Proof.Pack
-- ==== Proof.PackTrip.lean ====
/-
  One trip of the pack call's loop: what is held before it, and a trip that is neither the first nor one of the last two.
-/
module

public import proofs.«01_k».proof.Proof.PackValue

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ
/-! ## The pieces -/

section Pieces

variable (c : Dev nD)
  (A : DmaSems sig S3) (B : Memref sig .tc .vmem S3x512x2048 .f32) (M : Memref sig .tc .hbm S16384x2048 .f32)
  (X : Buf (Elt F) (M.view.loc (c : Thread nD τ)))

/-- A slot's cell at zero; a slot held at contents `f`; block `b` of the input held at the input's contents. -/
abbrev cellP (s : Fin 3) : sProp 𝕄 := semVal ((c : Thread nD τ), SemLoc.dma (csm A s).sem) 0
abbrev slotP (s : Fin 3) (f : Buf (Elt F) ((slot B s).view.loc (c : Thread nD τ))) : sProp 𝕄 :=
  (slot B s).view.loc (c : Thread nD τ) ↦[(slot B s).view.set]{fullShare} f
abbrev homeP (b : Fin 32) : sProp 𝕄 := (blk M b).view.loc (c : Thread nD τ) ↦[(blk M b).view.set]{fullShare} X
/-- Block `b`'s words as a slot's payload, and a slot it has landed in. -/
abbrev payload (b : Fin 32) : S512x2048.Idx → Elt F .f32 := ReadAs.same.apply ((blk M b).view.read (Elt F) X)
abbrev landed (s : Fin 3) (b : Fin 32) (f : Buf (Elt F) ((slot B s).view.loc (c : Thread nD τ))) : Buf (Elt F) ((slot B s).view.loc (c : Thread nD τ)) :=
  (slot B s).view.writes (Elt F) f [⟨Rect.whole S512x2048, payload c M X b⟩]
/-- Slot `s` in flight with block `b`. -/
abbrev flightP (s : Fin 3) (b : Fin 32) (f : Buf (Elt F) ((slot B s).view.loc (c : Thread nD τ))) : sProp 𝕄 :=
  Transfers.Flight countersEmb (c : Thread nD τ) (SemLoc.dma (csm A s).sem) () 131072 iprop(slotP c B s (landed c B M X s b f) ∗ homeP c M X b)

/-- An input's ring before trip `k`. -/
abbrev inRing (k : ℕ) : sProp 𝕄 := Ring.At 2 (cellP (F := F) c A) (slotP c B) (homeP c M X) (flightP c A B M X) k

variable (A' : DmaSems sig S2) (B' : Memref sig .tc .vmem S2x512x16x128 .i32) (M' : Memref sig .tc .hbm S16384x16x128 .i32)
  (G : Buf (Elt F) (M'.view.loc (c : Thread nD τ)))

abbrev ocellP (s : Fin 2) : sProp 𝕄 := semVal ((c : Thread nD τ), SemLoc.dma (ocsm A' s).sem) 0
abbrev oslotP (s : Fin 2) (f : Buf (Elt F) ((oslot B' s).view.loc (c : Thread nD τ))) : sProp 𝕄 :=
  (oslot B' s).view.loc (c : Thread nD τ) ↦[(oslot B' s).view.set]{fullShare} f
abbrev oblkP (b : Fin 32) (h : Buf (Elt F) ((oblk M' b).view.loc (c : Thread nD τ))) : sProp 𝕄 :=
  (oblk M' b).view.loc (c : Thread nD τ) ↦[(oblk M' b).view.set]{fullShare} h
/-- A free slot of the result's ring; a block of the result not yet written, and one written. -/
abbrev ofreeP (s : Fin 2) : sProp 𝕄 := iprop(ocellP (F := F) c A' s ∗ ∃ f, oslotP c B' s f)
abbrev aheadP (b : Fin 32) : sProp 𝕄 := iprop(∃ h, oblkP (F := F) c M' b h)
abbrev behindP (b : Fin 32) : sProp 𝕄 := oblkP c M' b G
/-- Slot `s` on its way to block `b`, what lands there being `G` on the block. -/
abbrev oflightP (s : Fin 2) (b : Fin 32) : sProp 𝕄 :=
  iprop(∃ (f : Buf (Elt F) ((oslot B' s).view.loc (c : Thread nD τ))) (h : Buf (Elt F) ((oblk M' b).view.loc (c : Thread nD τ))),
    ⌜∀ i ∈ (oblk M' b).view.set, h i = G i⌝
    ∗ Transfers.Flight countersEmb (c : Thread nD τ) (SemLoc.dma (ocsm A' s).sem) () 131072 iprop(oblkP c M' b h ∗ oslotP c B' s f))

/-- The result's ring before trip `k`. -/
abbrev outRing (k : ℕ) : sProp 𝕄 := Ring.AtB 1 (ofreeP (F := F) c A' B') (oflightP c A' B' M' G) (aheadP (F := F) c M') (behindP c M' G) k

end Pieces

/-- A block whose words are `G`'s is a block at `G`. -/
theorem settled (c : Dev nD) (G : Buf (Elt F) (oM.view.loc (c : Thread nD τ))) (b : Fin 32) (h : Buf (Elt F) ((oblk oM b).view.loc (c : Thread nD τ)))
    (hG : ∀ i ∈ (oblk oM b).view.set, h i = G i) : oblkP c oM b h ⊢ (behindP c oM G b : sProp 𝕄) := by
  rw [show (oblkP c oM b h : sProp 𝕄) = behindP c oM G b from pointsTo_congr hG]

/-! ## The trips -/

section Trips

variable (c : Dev nD) (XU : Buf (Elt F) (uM.view.loc (c : Thread nD τ))) (XV : Buf (Elt F) (vM.view.loc (c : Thread nD τ)))

/-- What the loop holds before trip `k`. -/
def resAt (k : ℕ) : sProp 𝕄 :=
  iprop((∃ W, owes (c : Thread nD τ) 0 W) ∗ inRing c cc0_scoped1 ubM uM XU k ∗ inRing c cc0_scoped3 vbM vM XV k
    ∗ outRing c cc0_scoped5 obM oM (packed c XU XV) k)

abbrev tripG (k : Trip) (x y : BitVec 32) : Prog (TpuEff nD τ sig (Elt F) Λ₀ .tc) (BitVec 32 × BitVec 32 × BitVec 32 × BitVec 32 × BitVec 32 × BitVec 32 × BitVec 32) :=
  k0_t1_body (F := F) uM (Memref.isWhole_whole _) vM (Memref.isWhole_whole _) oM (Memref.isWhole_whole _) ubM (Memref.isWhole_whole _) cc0_scoped1
    vbM (Memref.isWhole_whole _) cc0_scoped3 obM (Memref.isWhole_whole _) cc0_scoped5 x y k (accAt k.val)

set_option maxHeartbeats 4000000 in
theorem tripMid (k : Trip) (x y : BitVec 32) (h1 : 1 ≤ k.val) (h30 : k.val < 30) :
    resAt c XU XV k.val ⊢ wp frame (wpE (defs₀ (F := F)) 𝒱₀ (c : Thread nD τ) none) Set.univ (tripG k x y)
      (fun r => iprop(⌜r = accAt (k.val + 1)⌝ ∗ resAt c XU XV (k.val + 1))) := by
  have c3 : k0_cond3 k (wB k.val) = 1#1 := (cond3_iff k).mpr h30
  have c4 : k0_cond4 k (wB k.val) = 1#1 := (cond4_iff k).mpr h30
  have c5 := cond5_t k
  have c6 := cond6_t k
  have c10 := cond10_t k
  have c13 : k0_cond13 k (wB k.val) = 1#1 := (cond13_iff k).mpr h1
  have k1 := chk1_t k
  have k2 := chk2_t k
  have k3 := chk3_t k
  have k4 := chk4_t k
  unfold resAt inRing outRing
  rw [Ring.At3_here _ _ _ _ k.val (by omega), Ring.At3_here _ _ _ _ k.val (by omega),
    Ring.AtB21_here _ _ _ _ k.val h1 (by omega), Ring.At3_next _ _ _ _ k.val (by omega), Ring.At3_next _ _ _ _ k.val (by omega),
    Ring.slotAt3_next0 _ _ _ k.val (by omega), Ring.slotAt3_next1 _ _ _ k.val (by omega),
    Ring.slotAt3_next0 _ _ _ k.val (by omega), Ring.slotAt3_next1 _ _ _ k.val (by omega),
    Ring.AtB21_next _ _ _ _ k.val h1 (by omega)]
  iintro ⟨⟨%W, HW⟩, ⟨⟨Hu2, Hur⟩, ⟨%fu0, Hu0⟩, ⟨%fu1, Hu1⟩, Huc, ⟨%fus, Hus⟩⟩, ⟨⟨Hv2, Hvr⟩, ⟨%fv0, Hv0⟩, ⟨%fv1, Hv1⟩, Hvc, ⟨%fvs, Hvs⟩⟩,
    ⟨⟨%ho, Hob⟩, Hoa⟩, Hor, ⟨Hoc, ⟨%fo, Hos⟩⟩, ⟨%fo', %ho', %hG, Hof⟩⟩
  dsimp only [tripG]
  sl_unfold [k0_t1_body]
  sl_exec
  sl_step
  isplitr
  · ipureintro
    clear * - k
    revert k
    decide +kernel
  isplitl [HW]
  · iexists _; iexact HW
  isplitl [Hu0_dst Hu0_src Hu0 Hur Hu1 Huc]
  · isplitl [Hu0_src Hur]
    · isplitl [Hu0_src]; · iexact Hu0_src
      iexact Hur
    isplitl [Hu1]; · iexists _; iexact Hu1
    isplitl [Huc]; · iexists _; iexact Huc
    isplitl [Hu0]; · iexact Hu0
    iexists _; iexact Hu0_dst
  isplitl [Hv0_dst Hv0_src Hv0 Hvr Hv1 Hvc]
  · isplitl [Hv0_src Hvr]
    · isplitl [Hv0_src]; · iexact Hv0_src
      iexact Hvr
    isplitl [Hv1]; · iexists _; iexact Hv1
    isplitl [Hvc]; · iexists _; iexact Hvc
    isplitl [Hv0]; · iexact Hv0
    iexists _; iexact Hv0_dst
  isplitl [Hoa]; · iexact Hoa
  isplitl [Hor Hof_dst]
  · isplitl [Hof_dst]
    · iapply (settled c (packed c XU XV) _ _ hG); iexact Hof_dst
    iexact Hor
  isplitl [Hof Hof_src]
  · isplitl [Hof]; · iexact Hof
    iexists _; iexact Hof_src
  iexists _, _
  isplitr
  · ipureintro
    exact landed_packed c XU XV (tripMid.sl.v152_r0 c XU k k2) (tripMid.sl.v155_r0 c XV k k3) (Ring.bk 32 k.val) (Ring.sl 2 k.val) ho fo
      (fun z a l => load_u c XU (Ring.bk 32 k.val) (Ring.sl 3 k.val) _ _ (off21_eq k) z a l)
      (fun z a l => load_v c XV (Ring.bk 32 k.val) (Ring.sl 3 k.val) _ _ (off22_eq k) z a l)
  iexact Hoc

end Trips

end Cert.Proof.Pack
-- ==== Proof.PackTripFirst.lean ====
/-
  The pack call's first trip.
-/
module

public import proofs.«01_k».proof.Proof.PackTrip

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ
section Trips

variable (c : Dev nD) (XU : Buf (Elt F) (uM.view.loc (c : Thread nD τ))) (XV : Buf (Elt F) (vM.view.loc (c : Thread nD τ)))

set_option maxHeartbeats 4000000 in
theorem tripFirst (k : Trip) (x y : BitVec 32) (h0 : k.val = 0) :
    resAt c XU XV k.val ⊢ wp frame (wpE (defs₀ (F := F)) 𝒱₀ (c : Thread nD τ) none) Set.univ (tripG k x y)
      (fun r => iprop(⌜r = accAt (k.val + 1)⌝ ∗ resAt c XU XV (k.val + 1))) := by
  have c3 : k0_cond3 k (wB k.val) = 1#1 := (cond3_iff k).mpr (by omega)
  have c4 : k0_cond4 k (wB k.val) = 1#1 := (cond4_iff k).mpr (by omega)
  have c5 := cond5_t k
  have c6 := cond6_t k
  have c10 := cond10_t k
  have c13 : ¬ k0_cond13 k (wB k.val) = 1#1 := fun h => by have := (cond13_iff k).mp h; omega
  have k1 := chk1_t k
  have k2 := chk2_t k
  have k3 := chk3_t k
  have k4 := chk4_t k
  unfold resAt inRing outRing
  rw [Ring.At3_here _ _ _ _ k.val (by omega), Ring.At3_here _ _ _ _ k.val (by omega),
    Ring.AtB2_zero' _ _ _ _ _ k.val h0, Ring.At3_next _ _ _ _ k.val (by omega), Ring.At3_next _ _ _ _ k.val (by omega),
    Ring.slotAt3_next0 _ _ _ k.val (by omega), Ring.slotAt3_next1 _ _ _ k.val (by omega),
    Ring.slotAt3_next0 _ _ _ k.val (by omega), Ring.slotAt3_next1 _ _ _ k.val (by omega),
    Ring.AtB21_next_zero' _ _ _ _ k.val h0]
  iintro ⟨⟨%W, HW⟩, ⟨⟨Hu2, Hur⟩, ⟨%fu0, Hu0⟩, ⟨%fu1, Hu1⟩, Huc, ⟨%fus, Hus⟩⟩, ⟨⟨Hv2, Hvr⟩, ⟨%fv0, Hv0⟩, ⟨%fv1, Hv1⟩, Hvc, ⟨%fvs, Hvs⟩⟩,
    ⟨⟨%ho, Hob⟩, Hoa⟩, ⟨Hoc, ⟨%fo, Hos⟩⟩, ⟨Hof, ⟨%fo', Hof_src⟩⟩⟩
  dsimp only [tripG]
  sl_unfold [k0_t1_body]
  sl_exec
  sl_step
  isplitr
  · ipureintro
    clear * - k
    revert k
    decide +kernel
  isplitl [HW]
  · iexists _; iexact HW
  isplitl [Hu0_dst Hu0_src Hu0 Hur Hu1 Huc]
  · isplitl [Hu0_src Hur]
    · isplitl [Hu0_src]; · iexact Hu0_src
      iexact Hur
    isplitl [Hu1]; · iexists _; iexact Hu1
    isplitl [Huc]; · iexists _; iexact Huc
    isplitl [Hu0]; · iexact Hu0
    iexists _; iexact Hu0_dst
  isplitl [Hv0_dst Hv0_src Hv0 Hvr Hv1 Hvc]
  · isplitl [Hv0_src Hvr]
    · isplitl [Hv0_src]; · iexact Hv0_src
      iexact Hvr
    isplitl [Hv1]; · iexists _; iexact Hv1
    isplitl [Hvc]; · iexists _; iexact Hvc
    isplitl [Hv0]; · iexact Hv0
    iexists _; iexact Hv0_dst
  isplitl [Hoa]; · iexact Hoa
  isplitl [Hof Hof_src]
  · isplitl [Hof]; · iexact Hof
    iexists _; iexact Hof_src
  iexists _, _
  isplitr
  · ipureintro
    exact landed_packed c XU XV (tripFirst.sl.v152_r0 c XU k k2) (tripFirst.sl.v155_r0 c XV k k3) (Ring.bk 32 k.val) (Ring.sl 2 k.val) ho fo
      (fun z a l => load_u c XU (Ring.bk 32 k.val) (Ring.sl 3 k.val) _ _ (off21_eq k) z a l)
      (fun z a l => load_v c XV (Ring.bk 32 k.val) (Ring.sl 3 k.val) _ _ (off22_eq k) z a l)
  iexact Hoc

end Trips

end Cert.Proof.Pack
-- ==== Proof.PackTripLast.lean ====
/-
  The pack call's last two trips: nothing is fetched any more.
-/
module

public import proofs.«01_k».proof.Proof.PackTrip

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ
section Trips

variable (c : Dev nD) (XU : Buf (Elt F) (uM.view.loc (c : Thread nD τ))) (XV : Buf (Elt F) (vM.view.loc (c : Thread nD τ)))

set_option maxHeartbeats 4000000 in
theorem tripLast (k : Trip) (x y : BitVec 32) (h30 : 30 ≤ k.val) (h32 : k.val < 32) :
    resAt c XU XV k.val ⊢ wp frame (wpE (defs₀ (F := F)) 𝒱₀ (c : Thread nD τ) none) Set.univ (tripG k x y)
      (fun r => iprop(⌜r = accAt (k.val + 1)⌝ ∗ resAt c XU XV (k.val + 1))) := by
  have h1 : 1 ≤ k.val := by omega
  have c3 : ¬ k0_cond3 k (wB k.val) = 1#1 := fun h => by have := (cond3_iff k).mp h; omega
  have c4 : ¬ k0_cond4 k (wB k.val) = 1#1 := fun h => by have := (cond4_iff k).mp h; omega
  have c5 := cond5_t k
  have c6 := cond6_t k
  have c10 := cond10_t k
  have c13 : k0_cond13 k (wB k.val) = 1#1 := (cond13_iff k).mpr h1
  have k1 := chk1_t k
  have k2 := chk2_t k
  have k3 := chk3_t k
  have k4 := chk4_t k
  unfold resAt inRing outRing
  rw [Ring.At3_here_tail _ _ _ _ k.val (by omega), Ring.At3_here_tail _ _ _ _ k.val (by omega),
    Ring.AtB21_here _ _ _ _ k.val h1 (by omega), Ring.At3_next_tail _ _ _ _ k.val (by omega) (by omega),
    Ring.At3_next_tail _ _ _ _ k.val (by omega) (by omega), Ring.slotAt3_tail_role, Ring.slotAt3_tail_role,
    Ring.AtB21_next _ _ _ _ k.val h1 (by omega)]
  iintro ⟨⟨%W, HW⟩, ⟨Hur, ⟨%fu0, Hu0⟩, Hu1, Huf⟩, ⟨Hvr, ⟨%fv0, Hv0⟩, Hv1, Hvf⟩,
    ⟨⟨%ho, Hob⟩, Hoa⟩, Hor, ⟨Hoc, ⟨%fo, Hos⟩⟩, ⟨%fo', %ho', %hG, Hof⟩⟩
  dsimp only [tripG]
  sl_unfold [k0_t1_body]
  sl_exec
  sl_step
  isplitr
  · ipureintro
    clear * - k
    revert k
    decide +kernel
  isplitl [HW]
  · iexists _; iexact HW
  isplitl [Hu0_dst Hu0_src Hu0 Hur Hu1 Huf]
  · isplitl [Hu0_src Hur]
    · isplitl [Hu0_src]; · iexact Hu0_src
      iexact Hur
    isplitl [Hu1]; · iexact Hu1
    isplitl [Huf]; · iexact Huf
    isplitl [Hu0]; · iexact Hu0
    iexists _; iexact Hu0_dst
  isplitl [Hv0_dst Hv0_src Hv0 Hvr Hv1 Hvf]
  · isplitl [Hv0_src Hvr]
    · isplitl [Hv0_src]; · iexact Hv0_src
      iexact Hvr
    isplitl [Hv1]; · iexact Hv1
    isplitl [Hvf]; · iexact Hvf
    isplitl [Hv0]; · iexact Hv0
    iexists _; iexact Hv0_dst
  isplitl [Hoa]; · iexact Hoa
  isplitl [Hor Hof_dst]
  · isplitl [Hof_dst]
    · iapply (settled c (packed c XU XV) _ _ hG); iexact Hof_dst
    iexact Hor
  isplitl [Hof Hof_src]
  · isplitl [Hof]; · iexact Hof
    iexists _; iexact Hof_src
  iexists _, _
  isplitr
  · ipureintro
    exact landed_packed c XU XV (tripLast.sl.v152_r0 c XU k k2) (tripLast.sl.v155_r0 c XV k k3) (Ring.bk 32 k.val) (Ring.sl 2 k.val) ho fo
      (fun z a l => load_u c XU (Ring.bk 32 k.val) (Ring.sl 3 k.val) _ _ (off21_eq k) z a l)
      (fun z a l => load_v c XV (Ring.bk 32 k.val) (Ring.sl 3 k.val) _ _ (off22_eq k) z a l)
  iexact Hoc

end Trips

end Cert.Proof.Pack
-- ==== Proof.PackBody.lean ====
/-
  The pack call's body: the prologue's fetches, the loop of 32 trips by its invariant, the epilogue's wait.
-/
module

public import proofs.«01_k».proof.Proof.PackTripFirst
public import proofs.«01_k».proof.Proof.PackTripLast

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ
section Body

variable (c : Dev nD) (XU : Buf (Elt F) (uM.view.loc (c : Thread nD τ))) (XV : Buf (Elt F) (vM.view.loc (c : Thread nD τ)))

/-- A trip, whichever it is. -/
theorem trip (k : Trip) (x y : BitVec 32) :
    resAt c XU XV k.val ⊢ wp frame (wpE (defs₀ (F := F)) 𝒱₀ (c : Thread nD τ) none) Set.univ (tripG k x y)
      (fun r => iprop(⌜r = accAt (k.val + 1)⌝ ∗ resAt c XU XV (k.val + 1))) := by
  have hk : k.val < 32 := lt_of_lt_of_eq k.isLt trips_eq
  by_cases h0 : k.val = 0
  · exact tripFirst c XU XV k x y h0
  · by_cases h30 : k.val < 30
    · exact tripMid c XU XV k x y (by omega) h30
    · exact tripLast c XU XV k x y (by omega) hk

set_option warn.classDefReducibility false in
/-- The loop's invariant: the carried words are the trip's, the rings are as before it. -/
abbrev loopInv (x y : BitVec 32) :
    LoopInvTy_k0_t1 (F := F) Unit ℕ (UU nD τ) ℕ 𝒱₀ c none Set.univ uM (Memref.isWhole_whole _) vM (Memref.isWhole_whole _) oM (Memref.isWhole_whole _)
      ubM (Memref.isWhole_whole _) cc0_scoped1 vbM (Memref.isWhole_whole _) cc0_scoped3 obM (Memref.isWhole_whole _) cc0_scoped5 x y (2#32, 0#32, 2#32, 0#32, 0#32, 0#32, 0#32) where
  inv k acc := iprop(⌜acc = accAt k⌝ ∗ resAt c XU XV k)
  step k acc := by
    iintro ⟨%he, H⟩
    subst he
    iapply (trip c XU XV k x y)
    iexact H

/-- The call's body at its operands. -/
abbrev bodyG : Prog (TpuEff nD τ sig (Elt F) Λ₀ .tc) PUnit :=
  cc0_outer uM (Memref.isWhole_whole _) vM (Memref.isWhole_whole _) oM (Memref.isWhole_whole _) ubM (Memref.isWhole_whole _) cc0_scoped1
    vbM (Memref.isWhole_whole _) cc0_scoped3 obM (Memref.isWhole_whole _) cc0_scoped5

/-- A table's ring at rest: every block home, the three slots at anything, their cells at zero. -/
abbrev inRest (A : DmaSems sig S3) (B : Memref sig .tc .vmem S3x512x2048 .f32) (M : Memref sig .tc .hbm S16384x2048 .f32)
    (X : Buf (Elt F) (M.view.loc (c : Thread nD τ))) : sProp 𝕄 :=
  iprop(bigSep Finset.univ (homeP c M X) ∗ Ring.free (cellP (F := F) c A) (slotP c B) 0 ∗ Ring.free (cellP (F := F) c A) (slotP c B) 1
    ∗ Ring.free (cellP (F := F) c A) (slotP c B) 2)

/-- What the body starts from, and what it ends with. -/
def preB : sProp 𝕄 := iprop((∃ W, owes (c : Thread nD τ) 0 W) ∗ inRest c cc0_scoped1 ubM uM XU ∗ inRest c cc0_scoped3 vbM vM XV
  ∗ Ring.AtB₀ (ofreeP (F := F) c cc0_scoped5 obM) (aheadP (F := F) c oM))
def postB : sProp 𝕄 := iprop((∃ W, owes (c : Thread nD τ) 0 W) ∗ inRest c cc0_scoped1 ubM uM XU ∗ inRest c cc0_scoped3 vbM vM XV
  ∗ Ring.AtBEnd (ofreeP (F := F) c cc0_scoped5 obM) (behindP c oM (packed c XU XV)))

theorem homes_zero (M : Memref sig .tc .hbm S16384x2048 .f32) (X : Buf (Elt F) (M.view.loc (c : Thread nD τ))) :
    bigSep Finset.univ (homeP c M X) = iprop(homeP c M X 0 ∗ homeP c M X 1 ∗ bigSep (Ring.homeSet 2 0) (homeP c M X)) := by
  have e : (Finset.univ : Finset (Fin 32)) = insert 0 (insert 1 (Ring.homeSet (NB := 32) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem bk32_0 : Ring.bk 32 0 = 0 := Fin.ext (by rfl)
theorem bk32_1 : Ring.bk 32 (0 + 1) = 1 := Fin.ext (by rfl)

/-- The ring before trip 0: blocks 0 and 1 in flight to slots 0 and 1. -/
theorem ring_zero (A : DmaSems sig S3) (B : Memref sig .tc .vmem S3x512x2048 .f32) (M : Memref sig .tc .hbm S16384x2048 .f32)
    (X : Buf (Elt F) (M.view.loc (c : Thread nD τ))) :
    inRing c A B M X 0 = iprop(bigSep (Ring.homeSet 2 0) (homeP c M X) ∗ Ring.inflight (flightP c A B M X) 0 0 ∗ Ring.inflight (flightP c A B M X) 1 1
      ∗ Ring.free (cellP (F := F) c A) (slotP c B) 2) := by
  unfold inRing
  rw [Ring.At3_here_tail _ _ _ _ 0 (by omega), Ring.slotAt3_here1 _ _ _ 0 (by omega), sl3_0, sl3_1, sl3_2, bk32_0, bk32_1]

set_option maxHeartbeats 4000000 in
theorem bodyRun (Q : PUnit → sProp 𝕄) :
    iprop(preB c XU XV ∗ (postB c XU XV -∗ Q ⟨⟩))
      ⊢ wp frame (wpE (defs₀ (F := F)) 𝒱₀ (c : Thread nD τ) none) Set.univ (bodyG (F := F)) Q := by
  unfold preB inRest
  rw [homes_zero, homes_zero]
  iintro ⟨⟨⟨%W, HW⟩, ⟨⟨Hu0, Hu1, Hu⟩, ⟨Hcu0, ⟨%fu0, Hsu0⟩⟩, ⟨Hcu1, ⟨%fu1, Hsu1⟩⟩, Huf⟩, ⟨⟨Hv0, Hv1, Hv⟩, ⟨Hcv0, ⟨%fv0, Hsv0⟩⟩, ⟨Hcv1, ⟨%fv1, Hsv1⟩⟩, Hvf⟩, HO⟩, Hk⟩
  have c1 := cond1_t
  have c2 := cond2_t
  have k5 := chk5_t
  have k6 := chk6_t
  sl_exec
  ihave HR := (show iprop(owes (c : Thread nD τ) 0 W ∗ inRing c cc0_scoped1 ubM uM XU 0 ∗ inRing c cc0_scoped3 vbM vM XV 0
      ∗ Ring.AtB₀ (ofreeP (F := F) c cc0_scoped5 obM) (aheadP (F := F) c oM)) ⊢ iprop(⌜((2#32, 0#32, 2#32, 0#32, 0#32, 0#32, 0#32) : BitVec 32 × BitVec 32 × BitVec 32 × BitVec 32 × BitVec 32 × BitVec 32 × BitVec 32) = accAt 0⌝ ∗ resAt c XU XV 0) from by
    unfold resAt outRing
    rw [Ring.AtB_zero]
    iintro ⟨HW, H⟩
    isplitr
    · ipureintro; rfl
    isplitl [HW]
    · iexists _; iexact HW
    iexact H) $$ [HW Hu Huf Hv Hvf HO Hcu0 Hcv0 Hcu1 Hcv1]
  · rw [ring_zero, ring_zero]
    isplitl [HW]; · iexact HW
    isplitl [Hu Huf Hcu0 Hcu1]
    · isplitl [Hu]; · iexact Hu
      isplitl [Hcu0]; · iexists _; iexact Hcu0
      isplitl [Hcu1]; · iexists _; iexact Hcu1
      iexact Huf
    isplitl [Hv Hvf Hcv0 Hcv1]
    · isplitl [Hv]; · iexact Hv
      isplitl [Hcv0]; · iexists _; iexact Hcv0
      isplitl [Hcv1]; · iexists _; iexact Hcv1
      iexact Hvf
    iexact HO
  ihave HI : iprop((loopInv c XU XV 1#32 1#32).inv 0 (2#32, 0#32, 2#32, 0#32, 0#32, 0#32, 0#32)) $$ [HR]
  · iexact HR
  ihave HL := (exec_loop Idealize.ShloMosaic.frame (wpE (defs₀ (F := F)) 𝒱₀ (c : Thread nD τ) none) Set.univ _ _ _ k0_t1_ok
    (2#32, 0#32, 2#32, 0#32, 0#32, 0#32, 0#32) _ (loopInv c XU XV 1#32 1#32)) $$ HI
  iapply HL
  iintro %acc HI
  ihave HR : iprop(⌜acc = accAt k0_t1_loop.trips⌝ ∗ resAt c XU XV k0_t1_loop.trips) $$ [HI]
  · iexact HI
  icases HR with ⟨%hacc, HR⟩
  subst hacc
  unfold resAt inRing outRing
  rw [Ring.At_last3' _ _ _ _ _ trips_eq, Ring.At_last3' _ _ _ _ _ trips_eq, Ring.AtB21_end' _ _ _ _ _ trips_eq (by omega)]
  icases HR with ⟨⟨%W', HW⟩, HU, HV, Hor, Hof, ⟨%fo', %ho', %hG, Hoc⟩⟩
  sl_exec
  sl_step
  iapply Hk
  unfold postB inRest
  rw [Ring.AtB21_epilogue' _ _ k0_t1_loop.trips trips_eq (by omega)]
  isplitl [HW]
  · iexists _; iexact HW
  isplitl [HU]
  · icases HU with ⟨HH, HU⟩
    isplitl [HH]; · iexact HH
    iapply (Ring.free3_of_roles (Ring.free (cellP (F := F) c cc0_scoped1) (slotP c ubM)) k0_t1_loop.trips); iexact HU
  isplitl [HV]
  · icases HV with ⟨HH, HV⟩
    isplitl [HH]; · iexact HH
    iapply (Ring.free3_of_roles (Ring.free (cellP (F := F) c cc0_scoped3) (slotP c vbM)) k0_t1_loop.trips); iexact HV
  isplitl [Hoc_dst Hor]
  · isplitl [Hoc_dst]
    · iapply (settled c (packed c XU XV) _ _ hG); iexact Hoc_dst
    iexact Hor
  isplitl [Hof]; · iexact Hof
  isplitl [Hoc]; · iexact Hoc
  iexists _; iexact Hoc_src

end Body

end Cert.Proof.Pack
-- ==== Proof.PackLaunch.lean ====
/-
  The pack call's launch: the tables and the result cut into blocks, the scratch buffers into slots, and the run of the whole program.
-/
module

public import proofs.«01_k».proof.Proof.PackBody
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ

/-! ## Element sets -/

abbrev IB (b : Fin 32) : Finset S16384x2048.Idx := (Rect.unit (s := S16384x2048) (blkOff b) S512x2048.size (blkOff_inb b)).set
abbrev OB (b : Fin 32) : Finset S16384x16x128.Idx := (Rect.unit (s := S16384x16x128) (oblkOff b) S512x16x128.size (oblkOff_inb b)).set
abbrev IS (s : Fin 3) : Finset S3x512x2048.Idx := (Rect.unit (s := S3x512x2048) (slotOff s) S1x512x2048.size (slotOff_inb s)).set
abbrev OS (s : Fin 2) : Finset S2x512x16x128.Idx := (Rect.unit (s := S2x512x16x128) (oslotOff s) S1x512x16x128.size (oslotOff_inb s)).set

theorem mem_IB (b : Fin 32) (y : S16384x2048.Idx) : y ∈ IB b ↔ (y 0).val / 512 = b.val := by
  rw [Rect.mem_set_unit]
  have h1 : (y 1).val < 2048 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 2048; omega
theorem mem_OB (b : Fin 32) (y : S16384x16x128.Idx) : y ∈ OB b ↔ (y 0).val / 512 = b.val := by
  rw [Rect.mem_set_unit]
  have h1 : (y 1).val < 16 := (y 1).isLt
  have h2 : (y 2).val < 128 := (y 2).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 16; omega
    · show 0 ≤ (y 2).val ∧ (y 2).val < 0 + 128; omega
theorem mem_IS (s : Fin 3) (y : S3x512x2048.Idx) : y ∈ IS s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem mem_OS (s : Fin 2) (y : S2x512x16x128.Idx) : y ∈ OS s ↔ (y 0).val = s.val := by
  rw [Rect.mem_set_unit]
  have h1 : (y 1).val < 512 := (y 1).isLt
  have h2 : (y 2).val < 16 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 16; omega
    · show 0 ≤ (y 3).val ∧ (y 3).val < 0 + 128; omega

theorem IB_disj : ∀ b b' : Fin 32, b ≠ b' → Disjoint (IB b) (IB b') := by
  intro b b' hne; rw [Finset.disjoint_left]; intro y hy hy'; rw [mem_IB] at hy hy'; exact hne (Fin.ext (hy.symm.trans hy'))
theorem IB_cover : (Finset.univ : Finset (Fin 32)).biUnion IB = Finset.univ := by
  ext y; simp only [Finset.mem_biUnion, Finset.mem_univ, true_and, iff_true]
  have h0 : (y 0).val < 16384 := (y 0).isLt
  exact ⟨⟨(y 0).val / 512, by omega⟩, by rw [mem_IB]⟩
theorem OB_disj : ∀ b b' : Fin 32, b ≠ b' → Disjoint (OB b) (OB b') := by
  intro b b' hne; rw [Finset.disjoint_left]; intro y hy hy'; rw [mem_OB] at hy hy'; exact hne (Fin.ext (hy.symm.trans hy'))
theorem OB_cover : (Finset.univ : Finset (Fin 32)).biUnion OB = Finset.univ := by
  ext y; simp only [Finset.mem_biUnion, Finset.mem_univ, true_and, iff_true]
  have h0 : (y 0).val < 16384 := (y 0).isLt
  exact ⟨⟨(y 0).val / 512, by omega⟩, by rw [mem_OB]⟩
theorem IS_disj : ∀ b b' : Fin 3, b ≠ b' → Disjoint (IS b) (IS b') := by
  intro b b' hne; rw [Finset.disjoint_left]; intro y hy hy'; rw [mem_IS] at hy hy'; exact hne (Fin.ext (hy.symm.trans hy'))
theorem IS_cover : (Finset.univ : Finset (Fin 3)).biUnion IS = Finset.univ := by
  ext y; simp only [Finset.mem_biUnion, Finset.mem_univ, true_and, iff_true]
  have h0 : (y 0).val < 3 := (y 0).isLt
  exact ⟨⟨(y 0).val, by omega⟩, by rw [mem_IS]⟩
theorem OS_disj : ∀ b b' : Fin 2, b ≠ b' → Disjoint (OS b) (OS b') := by
  intro b b' hne; rw [Finset.disjoint_left]; intro y hy hy'; rw [mem_OS] at hy hy'; exact hne (Fin.ext (hy.symm.trans hy'))
theorem OS_cover : (Finset.univ : Finset (Fin 2)).biUnion OS = Finset.univ := by
  ext y; simp only [Finset.mem_biUnion, Finset.mem_univ, true_and, iff_true]
  have h0 : (y 0).val < 2 := (y 0).isLt
  exact ⟨⟨(y 0).val, by omega⟩, by rw [mem_OS]⟩

theorem fin2_sep (Φ : Fin 2 → sProp 𝕄) : bigSep Finset.univ Φ = iprop(Φ 0 ∗ Φ 1) :=
  bigSep_univ_eq_bigSepL [(0 : Fin 2), (1 : Fin 2)] (by decide) (by decide) Φ
theorem fin3_sep (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem fin8_sep (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

theorem of_eq {P Q : sProp 𝕄} (h : P = Q) : P ⊢ Q := by rw [h]

section Cuts

variable (c : Dev nD)

/-- A table whole is its 32 blocks. -/
theorem u_eq (X : Buf (Elt F) ((c : Thread nD τ).loc main_v0)) :
    (((c : Thread nD τ).loc main_v0) ↦{fullShare} X : sProp 𝕄) = bigSep Finset.univ (homeP c uM X) := by
  rw [Ring.pointsTo_blocks (ℓ := (c : Thread nD τ).loc main_v0) IB IB_disj IB_cover]
  exact bigSep_congr fun b _ => by rw [← show (blk uM b).view.set = IB b from View.set_slice_whole _ _]; rfl
theorem v_eq (X : Buf (Elt F) ((c : Thread nD τ).loc main_v1)) :
    (((c : Thread nD τ).loc main_v1) ↦{fullShare} X : sProp 𝕄) = bigSep Finset.univ (homeP c vM X) := by
  rw [Ring.pointsTo_blocks (ℓ := (c : Thread nD τ).loc main_v1) IB IB_disj IB_cover]
  exact bigSep_congr fun b _ => by rw [← show (blk vM b).view.set = IB b from View.set_slice_whole _ _]; rfl
theorem o_eq (X : Buf (Elt F) ((c : Thread nD τ).loc main_v3)) :
    (((c : Thread nD τ).loc main_v3) ↦{fullShare} X : sProp 𝕄) = bigSep Finset.univ (behindP c oM X) := by
  rw [Ring.pointsTo_blocks (ℓ := (c : Thread nD τ).loc main_v3) OB OB_disj OB_cover]
  exact bigSep_congr fun b _ => by rw [← show (oblk oM b).view.set = OB b from View.set_slice_whole _ _]; rfl

theorem o_ahead (X : Buf (Elt F) ((c : Thread nD τ).loc main_v3)) :
    (((c : Thread nD τ).loc main_v3) ↦{fullShare} X : sProp 𝕄) ⊢ bigSep Finset.univ (aheadP (F := F) c oM) := by
  rw [o_eq]
  exact bigSep_mono fun b _ => show (behindP c oM X b : sProp 𝕄) ⊢ iprop(∃ h, oblkP (F := F) c oM b h) from by iintro H; iexists X; iexact H

theorem ub_set (s : Fin 3) : (slot ubM s).view.set = IS s := (View.set_reshape _ _).trans (View.set_slice_whole _ _)
theorem vb_set (s : Fin 3) : (slot vbM s).view.set = IS s := (View.set_reshape _ _).trans (View.set_slice_whole _ _)
theorem ob_set (s : Fin 2) : (oslot obM s).view.set = OS s := (View.set_reshape _ _).trans (View.set_slice_whole _ _)
theorem us_eq (s : Fin 3) (f) : (slotP c ubM s f : sProp 𝕄) = (((c : Thread nD τ).loc cc0_scoped0) ↦[IS s]{fullShare} f : sProp 𝕄) :=
  congrArg (fun S => (_ ↦[S]{fullShare} f : sProp 𝕄)) (ub_set s)
theorem vs_eq (s : Fin 3) (f) : (slotP c vbM s f : sProp 𝕄) = (((c : Thread nD τ).loc cc0_scoped2) ↦[IS s]{fullShare} f : sProp 𝕄) :=
  congrArg (fun S => (_ ↦[S]{fullShare} f : sProp 𝕄)) (vb_set s)
theorem os_eq (s : Fin 2) (f) : (oslotP c obM s f : sProp 𝕄) = (((c : Thread nD τ).loc cc0_scoped4) ↦[OS s]{fullShare} f : sProp 𝕄) :=
  congrArg (fun S => (_ ↦[S]{fullShare} f : sProp 𝕄)) (ob_set s)

/-! A scratch buffer at anything is its slots at anything, and back. -/

theorem ub_split : iprop(∃ f : Buf (Elt F) ((c : Thread nD τ).loc cc0_scoped0), ((c : Thread nD τ).loc cc0_scoped0) ↦{fullShare} f)
      ⊢ (iprop((∃ f, slotP c ubM 0 f) ∗ (∃ f, slotP c ubM 1 f) ∗ (∃ f, slotP c ubM 2 f)) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped0) IS IS_disj IS_cover f).trans (fin3_sep _))) $$ H
  icases H2 with ⟨H0, H1, H2⟩
  isplitl [H0]
  · iexists f; iapply (of_eq (us_eq c 0 f).symm); iexact H0
  isplitl [H1]
  · iexists f; iapply (of_eq (us_eq c 1 f).symm); iexact H1
  iexists f; iapply (of_eq (us_eq c 2 f).symm); iexact H2
theorem ub_join : iprop((∃ f, slotP c ubM 0 f) ∗ (∃ f, slotP c ubM 1 f) ∗ (∃ f, slotP c ubM 2 f))
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) IS IS_disj IS_cover f0)
  irw [fin3_sep]
  isplitl [H0]
  · iexists f0; iapply (of_eq (us_eq c 0 f0)); iexact H0
  isplitl [H1]
  · iexists f1; iapply (of_eq (us_eq c 1 f1)); iexact H1
  iexists f2; iapply (of_eq (us_eq c 2 f2)); iexact H2

theorem vb_split : iprop(∃ f : Buf (Elt F) ((c : Thread nD τ).loc cc0_scoped2), ((c : Thread nD τ).loc cc0_scoped2) ↦{fullShare} f)
      ⊢ (iprop((∃ f, slotP c vbM 0 f) ∗ (∃ f, slotP c vbM 1 f) ∗ (∃ f, slotP c vbM 2 f)) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped2) IS IS_disj IS_cover f).trans (fin3_sep _))) $$ H
  icases H2 with ⟨H0, H1, H2⟩
  isplitl [H0]
  · iexists f; iapply (of_eq (vs_eq c 0 f).symm); iexact H0
  isplitl [H1]
  · iexists f; iapply (of_eq (vs_eq c 1 f).symm); iexact H1
  iexists f; iapply (of_eq (vs_eq c 2 f).symm); iexact H2
theorem vb_join : iprop((∃ f, slotP c vbM 0 f) ∗ (∃ f, slotP c vbM 1 f) ∗ (∃ f, slotP c vbM 2 f))
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) IS IS_disj IS_cover f0)
  irw [fin3_sep]
  isplitl [H0]
  · iexists f0; iapply (of_eq (vs_eq c 0 f0)); iexact H0
  isplitl [H1]
  · iexists f1; iapply (of_eq (vs_eq c 1 f1)); iexact H1
  iexists f2; iapply (of_eq (vs_eq c 2 f2)); iexact H2

theorem ob_split : iprop(∃ f : Buf (Elt F) ((c : Thread nD τ).loc cc0_scoped4), ((c : Thread nD τ).loc cc0_scoped4) ↦{fullShare} f)
      ⊢ (iprop((∃ f, oslotP c obM 0 f) ∗ (∃ f, oslotP c obM 1 f)) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped4) OS OS_disj OS_cover f).trans (fin2_sep _))) $$ H
  icases H2 with ⟨H0, H1⟩
  isplitl [H0]
  · iexists f; iapply (of_eq (os_eq c 0 f).symm); iexact H0
  iexists f; iapply (of_eq (os_eq c 1 f).symm); iexact H1
theorem ob_join : iprop((∃ f, oslotP c obM 0 f) ∗ (∃ f, oslotP c obM 1 f))
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) OS OS_disj OS_cover f0)
  irw [fin2_sep]
  isplitl [H0]
  · iexists f0; iapply (of_eq (os_eq c 0 f0)); iexact H0
  iexists f1; iapply (of_eq (os_eq c 1 f1)); iexact H1

end Cuts

/-! ## The kernel's own semaphores -/

abbrev osem : Fin 8 → SemLoc sig := fun s => .dma ⟨s.val, s.isLt⟩
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(cellP (F := F) c cc0_scoped1 0 ∗ cellP (F := F) c cc0_scoped1 1 ∗ cellP (F := F) c cc0_scoped1 2
      ∗ cellP (F := F) c cc0_scoped3 0 ∗ cellP (F := F) c cc0_scoped3 1 ∗ cellP (F := F) c cc0_scoped3 2
      ∗ ocellP (F := F) c cc0_scoped5 0 ∗ ocellP (F := F) c cc0_scoped5 1) := by
  unfold Pipeline.ownSems0; rw [fin8_sep]; rfl

end Cert.Proof.Pack
-- ==== Proof.PackRun.lean ====
/-
  The pack call's run: what the region holds before and after its one point, the body's obligation, the launch, and what every final
  state holds.
-/
module

public import proofs.«01_k».proof.Proof.PackLaunch
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

@[expose] public section

noncomputable section

namespace Cert.Proof.Pack

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ

section Run

variable (m : (ℓ : Loc nD τ sig) → Buf (Elt F) ℓ) (ρ : Dev nD → PrngReg)

/-- The tables as the body reads them: the arguments, their leading axis dropped. -/
abbrev XU (c : Dev nD) : Buf (Elt F) (uM.view.loc (c : Thread nD τ)) := Gen.V m c main_v0
abbrev XV (c : Dev nD) : Buf (Elt F) (vM.view.loc (c : Thread nD τ)) := Gen.V m c main_v1

/-- What the region holds: before its one point the result's blocks at anything, after it at the packed words. -/
def Φin (c : Dev nD) : sProp 𝕄 := iprop(inRest c cc0_scoped1 ubM uM (XU m c) ∗ inRest c cc0_scoped3 vbM vM (XV m c)
  ∗ Ring.AtB₀ (ofreeP (F := F) c cc0_scoped5 obM) (aheadP (F := F) c oM))
def Φout (c : Dev nD) : sProp 𝕄 := iprop(inRest c cc0_scoped1 ubM uM (XU m c) ∗ inRest c cc0_scoped3 vbM vM (XV m c)
  ∗ Ring.AtBEnd (ofreeP (F := F) c cc0_scoped5 obM) (behindP c oM (packed c (XU m c) (XV m c))))

def dats (_ : Fin 1) (c : Dev nD) : Dat τ (Elt F) Unit ℕ (UU nD τ) ℕ cfg0 c where
  A w := Gen.V m c (Pipeline.arrRef cfg0.spec w)
  after w t := w.elim0
  Φ t := if t.val = 0 then Φin m c else Φout m c
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
theorem body_obligation (c : Dev nD) : BodyObligation (dats (F := F) m 0 c) (defs₀ (F := F)) 𝒱₀ () Set.univ := fun t => by
  have ht := fin_N0 t
  subst ht
  rw [show (dats m 0 c).Φ (t0_0 : Fin cfg0.N).castSucc = Φin m c from rfl, show (dats m 0 c).Φ (t0_0 : Fin cfg0.N).succ = Φout m c from rfl]
  unfold Dat.owesAt Pipeline.owesWithin
  rw [show (dats m 0 c).owed (t0_0 : Fin cfg0.N).castSucc = 0 from rfl, show (dats m 0 c).owed (t0_0 : Fin cfg0.N).succ = 0 from rfl]
  unfold Φin Φout
  iintro ⟨⟨Hu, Hv, Ho⟩, ⟨%W, -, HW⟩, HE⟩
  sl_rw [prog_eq t0_0]
  iapply (bodyRun c (XU m c) (XV m c))
  unfold preB postB
  isplitl [Hu Hv Ho HW]
  · isplitl [HW]; · iexists W; iexact HW
    isplitl [Hu]; · iexact Hu
    isplitl [Hv]; · iexact Hv
    iexact Ho
  · iintro ⟨⟨%W', HW⟩, Hu, Hv, Ho⟩
    isplitl [Hu Hv Ho]
    · isplitl [Hu]; · iexact Hu
      isplitl [Hv]; · iexact Hv
      iexact Ho
    isplitl [HW]
    · iexists W'; isplitr; · ipureintro; exact fun _ _ => Or.inl trivial
      iexact HW
    iexact HE

/-- What the region takes, what it gives back, and what goes round it. -/
def Xin (c : Dev nD) : sProp 𝕄 := iprop((bigSep Finset.univ (homeP c uM (XU m c)) ∗ bigSep Finset.univ (homeP c vM (XV m c))
  ∗ bigSep Finset.univ (aheadP (F := F) c oM)) ∗ Pipeline.ownSems0 osem c)
def Yout (c : Dev nD) : sProp 𝕄 := iprop(((c : Thread nD τ).loc main_v3) ↦{fullShare} packed c (XU m c) (XV m c))
def Zkeep (c : Dev nD) : sProp 𝕄 := iprop((((c : Thread nD τ).loc main_arg0) ↦{fullShare} m ((c : Thread nD τ).loc main_arg0))
  ∗ (((c : Thread nD τ).loc main_arg1) ↦{fullShare} m ((c : Thread nD τ).loc main_arg1)))
def u₀ : UU nD τ := (initOf (Pipeline.cells cfgs Gen.cellOf_inj) (Pipeline.launchToks cfgs Gen.cellOf_inj), 1)
/-- What every final state's memory holds: the packed words, and the arguments as they were. -/
def QY (c : Dev nD) (s : MemSt nD τ sig (Elt F)) : Prop :=
  s.mem ((c : Thread nD τ).loc main_v3) = packed c (XU m c) (XV m c)
  ∧ s.mem ((c : Thread nD τ).loc main_arg0) = m ((c : Thread nD τ).loc main_arg0)
  ∧ s.mem ((c : Thread nD τ).loc main_arg1) = m ((c : Thread nD τ).loc main_arg1)

set_option backward.isDefEq.respectTransparency.types false in
/-- Every execution of the pack program ends, with the packed words in the result, the arguments as they were and
    every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := Xin m) (Y := Yout m) (Z := Zkeep m)
    (hX := fun c => by
      rw [unscopedRest0_eq, V_main_arg0, V_main_arg1, u_eq c (XU m c), v_eq c (XV m c)]
      unfold Xin Zkeep
      iintro ⟨⟨H0, H1, Hu, Hv, H2, Ho⟩, HS, -, -, -⟩; imodintro
      isplitl [Hu Hv Ho HS]
      · isplitl [Hu Hv Ho]
        · isplitl [Hu]; · iexact Hu
          isplitl [Hv]; · iexact Hv
          iapply (o_ahead c); iexact Ho
        iexact HS
      isplitl [H0]; · iexact H0
      iexact H1)
    (hin := fun c => by
      rw [scopedRest0_eq, show (dats m 0 c).Φ 0 = Φin m c from rfl]
      unfold Xin Φin inRest Ring.AtB₀; rw [ownSems0_eq, fin2_sep]
      iintro ⟨⟨⟨Hu, Hv, Ho⟩, A0, A1, A2, B0, B1, B2, C0, C1⟩, Su, Sv, So⟩
      ihave Su := (ub_split c) $$ Su
      ihave Sv := (vb_split c) $$ Sv
      ihave So := (ob_split c) $$ So
      icases Su with ⟨U0, U1, U2⟩
      icases Sv with ⟨V0, V1, V2⟩
      icases So with ⟨O0, O1⟩
      isplitl [Hu A0 A1 A2 U0 U1 U2]
      · isplitl [Hu]; · iexact Hu
        isplitl [A0 U0]; · isplitl [A0]; · iexact A0
                           iexact U0
        isplitl [A1 U1]; · isplitl [A1]; · iexact A1
                           iexact U1
        isplitl [A2]; · iexact A2
        iexact U2
      isplitl [Hv B0 B1 B2 V0 V1 V2]
      · isplitl [Hv]; · iexact Hv
        isplitl [B0 V0]; · isplitl [B0]; · iexact B0
                           iexact V0
        isplitl [B1 V1]; · isplitl [B1]; · iexact B1
                           iexact V1
        isplitl [B2]; · iexact B2
        iexact V2
      isplitl [Ho]; · iexact Ho
      isplitl [C0 O0]; · isplitl [C0]; · iexact C0
                         iexact O0
      isplitl [C1]; · iexact C1
      iexact O1)
    (hout := fun c => by
      rw [scopedRest0_eq, show (dats m 0 c).Φ (Fin.last cfg0.N) = Φout m c from rfl, ownSems0_eq]
      unfold Φout Yout inRest Ring.AtBEnd; rw [o_eq c (packed c (XU m c) (XV m c)), fin2_sep]
      iintro ⟨⟨Hu, ⟨A0, U0⟩, ⟨A1, U1⟩, A2, U2⟩, ⟨Hv, ⟨B0, V0⟩, ⟨B1, V1⟩, B2, V2⟩, Ho, ⟨C0, O0⟩, C1, O1⟩
      isplitl [Ho]; · iexact Ho
      isplitl [A0 A1 A2 B0 B1 B2 C0 C1]
      · isplitl [A0]; · iexact A0
        isplitl [A1]; · iexact A1
        isplitl [A2]; · iexact A2
        isplitl [B0]; · iexact B0
        isplitl [B1]; · iexact B1
        isplitl [B2]; · iexact B2
        isplitl [C0]; · iexact C0
        iexact C1
      isplitl [U0 U1 U2]
      · iapply (ub_join c)
        isplitl [U0]; · iexact U0
        isplitl [U1]; · iexact U1
        iexact U2
      isplitl [V0 V1 V2]
      · iapply (vb_join c)
        isplitl [V0]; · iexact V0
        isplitl [V1]; · iexact V1
        iexact V2
      iapply (ob_join c)
      isplitl [O0]; · iexact O0
      iexact O1)
    (QY := QY m)
    (hY := fun c s' => by
      unfold Yout Zkeep
      iintro ⟨H3, ⟨H0, H1⟩, HSI⟩
      icombine HSI H3 gives %h3
      icombine HSI H0 gives %h0
      icombine HSI H1 gives %h1
      imodintro
      isplitr; · ipureintro; exact ⟨Buf.eq_of_forall_mem_univ h3, Buf.eq_of_forall_mem_univ h0, Buf.eq_of_forall_mem_univ h1⟩
      iexact HSI)
    (hQ := fun _ hh hz => ⟨fun c => (hh c).2, hz⟩)

end Run

end Cert.Proof.Pack
-- ==== Proof.PackBits.lean ====
/-
  The pack call against its reference: the words that the kernel leaves are the reference's words.
-/
module

public import proofs.«01_k».proof.Proof.PackRun
public import proofs.«01_k».proof.Proof.Gen.Reference.Value
public import proofs.«01_k».proof.Defs
public import Idealize.ShloMosaic.Lib.ValueIdx
public import Idealize.ShloMosaic.Lib.Pipeline.ValueKit
public import Idealize.ShloMosaic.Lib.PointwiseCore
public import Idealize.ShloMosaic.Lib.Claim

@[expose] public section

noncomputable section

namespace Cert.Proof.Pack

open Idealize.ShloMosaic
open Idealize.ShloMosaic.TcCoe Idealize.ShloMosaic.Tactic
open Idealize.SL.Sem

variable {F : FTy → Type} [BitOps F]

/-- Two halves put side by side are the low half, or-ed with the high half moved up by 16 bits. -/
theorem halves (u v : BitVec 16) : v ++ u = IntOp.ori (u.setWidth 32) (IntOp.shli .vector (v.setWidth 32) 16#32) := by
  have e : IntOp.shli .vector (v.setWidth 32) 16#32 = (v.setWidth 32) <<< (16#32) := if_pos (by decide)
  rw [e]
  show v ++ u = u.setWidth 32 ||| (v.setWidth 32) <<< (16#32).toNat
  rw [show (16#32).toNat = 16 from rfl]
  apply BitVec.eq_of_getLsbD_eq
  intro i hi
  rw [BitVec.getLsbD_append, BitVec.getLsbD_or, BitVec.getLsbD_setWidth, BitVec.getLsbD_shiftLeft, BitVec.getLsbD_setWidth]
  by_cases h : i < 16
  · simp [h, show i < 32 by omega]
  · simp [h, hi, show i - 16 < 32 by omega, BitVec.getLsbD_of_ge u i (by omega)]

/-- A table as the kernel reads it, at a row and a lane. -/
theorem XU_apply (m : (ℓ : Loc Cert.Kernel.nD Cert.Kernel.τ Cert.Kernel.sig) → Buf (Elt F) ℓ) (c : Dev Cert.Kernel.nD) (a : Fin 16384) (l : Fin 2048) :
    XU m c (ix2 a l) = m ((c : Thread Cert.Kernel.nD Cert.Kernel.τ).loc Cert.Kernel.main_arg0) (ix3 (0 : Fin 1) a l) := by
  unfold XU Cert.Kernel.Gen.V
  unfold_abbrev_sides
  after_results
  show shapeCast Cert.Kernel.main_v0.ty.shape (m (c, Proc.tc.devRef Cert.Kernel.main_arg0)) Cert.Kernel.Gen.shapeCasts_S1x16384x2048_S16384x2048 (ix2 a l) = _
  exact shapeCast_apply _ _ _ (ix3 (0 : Fin 1) a l) (by
    show ((_ : Shape).rowMajor _).val = (({ rank := 2, size := ![16384, 2048] } : Shape).rowMajor (ix2 a l)).val
    rw [rowMajor_val3 (d := ![1, 16384, 2048]) _ 33554432 2048 rfl rfl, rowMajor_val2 (d := ![16384, 2048]) _ 2048 rfl]
    show 0 * 33554432 + a.val * 2048 + l.val = a.val * 2048 + l.val
    omega)

/-- The second table as the kernel reads it, at a row and a lane. -/
theorem XV_apply (m : (ℓ : Loc Cert.Kernel.nD Cert.Kernel.τ Cert.Kernel.sig) → Buf (Elt F) ℓ) (c : Dev Cert.Kernel.nD) (a : Fin 16384) (l : Fin 2048) :
    XV m c (ix2 a l) = m ((c : Thread Cert.Kernel.nD Cert.Kernel.τ).loc Cert.Kernel.main_arg1) (ix3 (0 : Fin 1) a l) := by
  unfold XV Cert.Kernel.Gen.V
  unfold_abbrev_sides
  after_results
  show shapeCast Cert.Kernel.main_v1.ty.shape (m (c, Proc.tc.devRef Cert.Kernel.main_arg1)) Cert.Kernel.Gen.shapeCasts_S1x16384x2048_S16384x2048 (ix2 a l) = _
  exact shapeCast_apply _ _ _ (ix3 (0 : Fin 1) a l) (by
    show ((_ : Shape).rowMajor _).val = (({ rank := 2, size := ![16384, 2048] } : Shape).rowMajor (ix2 a l)).val
    rw [rowMajor_val3 (d := ![1, 16384, 2048]) _ 33554432 2048 rfl rfl, rowMajor_val2 (d := ![16384, 2048]) _ 2048 rfl]
    show 0 * 33554432 + a.val * 2048 + l.val = a.val * 2048 + l.val
    omega)

/-- What the reference's body leaves, index by index, of the two blocks it reads. -/
theorem ref_block (x0 x1 : Vec F Cert.Reference.S16384x16x128 .f32) (y : Cert.Reference.S16384x16x128.Idx) :
    Cert.Reference.Gen.out0_2 x0 x1 y = word (F := F) (x0 y) (x1 y) := by
  unfold Cert.Reference.Gen.out0_2
  rw [Cert.Reference.Value.canon2_eq]
  refine (halves _ _).symm.trans ?_
  refine congrArg₂ (word (F := F)) ?_ ?_
  · refine congrArg x0 (funext fun a => Fin.ext ?_)
    match a with | ⟨0, _⟩ => show 0 + 1 * (y 0).val = (y 0).val; omega | ⟨1, _⟩ => show 0 + 1 * (y 1).val = (y 1).val; omega | ⟨2, _⟩ => show 0 + 1 * (y 2).val = (y 2).val; omega
  · refine congrArg x1 (funext fun a => Fin.ext ?_)
    match a with | ⟨0, _⟩ => show 0 + 1 * (y 0).val = (y 0).val; omega | ⟨1, _⟩ => show 0 + 1 * (y 1).val = (y 1).val; omega | ⟨2, _⟩ => show 0 + 1 * (y 2).val = (y 2).val; omega

/-- What the reference leaves, index by index. -/
theorem ref_apply (m : (ℓ : Loc Cert.Reference.nD Cert.Reference.τ Cert.Reference.sig) → Buf (Elt F) ℓ) (c : Dev Cert.Reference.nD) (i : Cert.Reference.S16384x16x128.Idx) :
    (Cert.Reference.Gen.dats m 0 c).arrAt 2 Cert.Reference.cfg0.N i = word (Cert.Reference.Gen.V m c Cert.Reference.main_v2 i) (Cert.Reference.Gen.V m c Cert.Reference.main_v4 i) := by
  refine congrFun (f := (Cert.Reference.Gen.dats m 0 c).arrAt 2 Cert.Reference.cfg0.N) (g := fun i => word (Cert.Reference.Gen.V m c Cert.Reference.main_v2 i) (Cert.Reference.Gen.V m c Cert.Reference.main_v4 i)) ?_ i
  refine (Cert.Reference.Gen.dats m 0 c).arrAt_eq_of_covers 2 _ (by decide +kernel) fun t hf y => ?_
  rw [Cert.Reference.Gen.after0_2, cast_eq]
  rw [ref_block]
  refine congrArg₂ (word (F := F)) ?_ ?_
  · blk_ext [Cert.Reference.Gen.iblk] <;> rfl
  · blk_ext [Cert.Reference.Gen.iblk] <;> rfl

/-- A table as the reference's body reads it: the argument at the row and at the lane that the group and the place in it name. -/
theorem ref_u (m : (ℓ : Loc Cert.Reference.nD Cert.Reference.τ Cert.Reference.sig) → Buf (Elt F) ℓ) (c : Dev Cert.Reference.nD)
    (i : Cert.Reference.S16384x16x128.Idx) :
    Cert.Reference.Gen.V m c Cert.Reference.main_v2 i = m ((c : Thread Cert.Reference.nD Cert.Reference.τ).loc Cert.Reference.main_arg0) (ix3 (0 : Fin 1) (src i 0) (src i 1)) := by
  unfold Cert.Reference.Gen.V
  unfold_abbrev_sides
  after_results
  show shapeCast Cert.Reference.S16384x16x128 (shapeCast Cert.Reference.S16384x2048 (m (c, Proc.tc.devRef Cert.Reference.main_arg0)) Cert.Reference.Gen.shapeCasts_S1x16384x2048_S16384x2048)
    Cert.Reference.Gen.shapeCasts_S16384x2048_S16384x16x128 i = _
  have h0 : (i 0).val < 16384 := (i 0).isLt
  refine (shapeCast_apply _ _ i (src i) (by
    show (({ rank := 2, size := ![16384, 2048] } : Shape).rowMajor (src i)).val = (({ rank := 3, size := ![16384, 16, 128] } : Shape).rowMajor i).val
    rw [rowMajor_val2 (d := ![16384, 2048]) _ 2048 rfl, rowMajor_val3 (d := ![16384, 16, 128]) _ 2048 128 rfl rfl]
    show (i 0).val * 2048 + (128 * (i 1).val + (i 2).val) = (i 0).val * 2048 + (i 1).val * 128 + (i 2).val
    omega)).trans ?_
  exact shapeCast_apply _ _ _ (ix3 (0 : Fin 1) (src i 0) (src i 1)) (by
    show (({ rank := 3, size := ![1, 16384, 2048] } : Shape).rowMajor (ix3 (0 : Fin 1) (src i 0 : Fin 16384) (src i 1 : Fin 2048))).val
      = (({ rank := 2, size := ![16384, 2048] } : Shape).rowMajor (src i)).val
    rw [rowMajor_val3 (d := ![1, 16384, 2048]) _ 33554432 2048 rfl rfl, rowMajor_val2 (d := ![16384, 2048]) _ 2048 rfl]
    show 0 * 33554432 + (src i 0).val * 2048 + (src i 1).val = (src i 0).val * 2048 + (src i 1).val
    omega)

/-- A table as the reference's body reads it: the argument at the row and at the lane that the group and the place in it name. -/
theorem ref_v (m : (ℓ : Loc Cert.Reference.nD Cert.Reference.τ Cert.Reference.sig) → Buf (Elt F) ℓ) (c : Dev Cert.Reference.nD)
    (i : Cert.Reference.S16384x16x128.Idx) :
    Cert.Reference.Gen.V m c Cert.Reference.main_v4 i = m ((c : Thread Cert.Reference.nD Cert.Reference.τ).loc Cert.Reference.main_arg1) (ix3 (0 : Fin 1) (src i 0) (src i 1)) := by
  unfold Cert.Reference.Gen.V
  unfold_abbrev_sides
  after_results
  show shapeCast Cert.Reference.S16384x16x128 (shapeCast Cert.Reference.S16384x2048 (m (c, Proc.tc.devRef Cert.Reference.main_arg1)) Cert.Reference.Gen.shapeCasts_S1x16384x2048_S16384x2048)
    Cert.Reference.Gen.shapeCasts_S16384x2048_S16384x16x128 i = _
  have h0 : (i 0).val < 16384 := (i 0).isLt
  refine (shapeCast_apply _ _ i (src i) (by
    show (({ rank := 2, size := ![16384, 2048] } : Shape).rowMajor (src i)).val = (({ rank := 3, size := ![16384, 16, 128] } : Shape).rowMajor i).val
    rw [rowMajor_val2 (d := ![16384, 2048]) _ 2048 rfl, rowMajor_val3 (d := ![16384, 16, 128]) _ 2048 128 rfl rfl]
    show (i 0).val * 2048 + (128 * (i 1).val + (i 2).val) = (i 0).val * 2048 + (i 1).val * 128 + (i 2).val
    omega)).trans ?_
  exact shapeCast_apply _ _ _ (ix3 (0 : Fin 1) (src i 0) (src i 1)) (by
    show (({ rank := 3, size := ![1, 16384, 2048] } : Shape).rowMajor (ix3 (0 : Fin 1) (src i 0 : Fin 16384) (src i 1 : Fin 2048))).val
      = (({ rank := 2, size := ![16384, 2048] } : Shape).rowMajor (src i)).val
    rw [rowMajor_val3 (d := ![1, 16384, 2048]) _ 33554432 2048 rfl rfl, rowMajor_val2 (d := ![16384, 2048]) _ 2048 rfl]
    show 0 * 33554432 + (src i 0).val * 2048 + (src i 1).val = (src i 0).val * 2048 + (src i 1).val
    omega)

/-- Kernel and reference leave the same words, from memories that hold the same tables. -/
theorem same (m : (ℓ : Loc Cert.Kernel.nD Cert.Kernel.τ Cert.Kernel.sig) → Buf (Elt F) ℓ)
    (m' : (ℓ : Loc Cert.Reference.nD Cert.Reference.τ Cert.Reference.sig) → Buf (Elt F) ℓ) (c : Dev Cert.Kernel.nD)
    (h0 : m' ((c : Thread Cert.Reference.nD Cert.Reference.τ).loc Cert.Reference.main_arg0) = m ((c : Thread Cert.Kernel.nD Cert.Kernel.τ).loc Cert.Kernel.main_arg0))
    (h1 : m' ((c : Thread Cert.Reference.nD Cert.Reference.τ).loc Cert.Reference.main_arg1) = m ((c : Thread Cert.Kernel.nD Cert.Kernel.τ).loc Cert.Kernel.main_arg1)) :
    (Cert.Reference.Gen.dats m' 0 c).arrAt 2 Cert.Reference.cfg0.N = packed c (XU m c) (XV m c) := by
  funext i
  refine (ref_apply m' c i).trans ?_
  rw [ref_u, ref_v, h0, h1]
  show _ = word (F := F) (XU m c (src i)) (XV m c (src i))
  rw [show src i = ix2 (src i 0) (src i 1) from funext fun a => match a with | ⟨0, _⟩ => rfl | ⟨1, _⟩ => rfl]
  exact congrArg₂ (word (F := F)) (XU_apply m c (src i 0) (src i 1)).symm (XV_apply m c (src i 0) (src i 1)).symm

/-- `Cert.quiescent_Kernel`. -/
theorem frame_pack : Cert.quiescent_Kernel := fun m ρ _ =>
  (θ_run Cert.Kernel.defs _ _).mono (fun _ h => ⟨fun c => (h.1 c).2, h.2⟩) (run_main (F := Bits) m ρ)

/-- `Cert.bitexact_Kernel_Reference`. -/
theorem bitexact_pack : Cert.bitexact_Kernel_Reference := fun m ρ m' ρ' _ hm =>
  ⟨fun c => packed c (XU m c) (XV m c),
    (θ_run Cert.Kernel.defs _ _).mono (fun _ h c => h.1 c) (run_main (F := Bits) m ρ),
    (θ_run Cert.Reference.defs _ _).mono (fun _ h c => ⟨(h c).1.trans (same m m' c (hm c).1 (hm c).2), (h c).2⟩)
      (Cert.Reference.Value.run_blocks (F := Bits) m' ρ')⟩

end Cert.Proof.Pack
-- ==== Proof.RouteSpec.lean ====
/-
  The values of the routing call, as formulas over its argument arrays: the mixer's output projected and added back
  (`x1`), its normalised and modulated copy (`h`), and every head's scores against its keys (`scores`).
-/
module

public import Idealize.ShloMosaic.PureOps
public import Idealize.ShloMosaic.Lib.Pointwise

@[expose] public section

set_option maxRecDepth 16384

noncomputable section

namespace Cert.Proof.Route

open Idealize.ShloMosaic

/-- An array of every token's `2048` numbers. -/
abbrev ST : Shape := ⟨3, ![8, 2048, 2048]⟩
/-- The six modulation rows of every batch entry. -/
abbrev SM : Shape := ⟨3, ![8, 6, 2048]⟩
/-- One square matrix. -/
abbrev SW : Shape := ⟨3, ![1, 2048, 2048]⟩
/-- The norm's gains. -/
abbrev SG : Shape := ⟨2, ![1, 2048]⟩
/-- Every head's two sets of keys. -/
abbrev SK : Shape := ⟨5, ![1, 8, 2, 128, 128]⟩
/-- The scores. -/
abbrev SS : Shape := ⟨3, ![16, 128, 16384]⟩

/-- The input plus the gate (modulation row 2) times the product of the mixer's output and the output weights. -/
def x1 (y : Vec Ideal ST .bf16) (x : Vec Ideal ST .f32) (md : Vec Ideal SM .f32) (w : Vec Ideal SW .f32) : Vec Ideal ST .f32 :=
  fun i => x i + md (ix3 (i 0 : Fin 8) (2 : Fin 6) (i 2 : Fin 2048)) * ∑ k : Fin 2048, y (ix3 (i 0 : Fin 8) (i 1 : Fin 2048) k) * w (ix3 (0 : Fin 1) k (i 2 : Fin 2048))

/-- A row's mean of squares, plus the norm's epsilon. -/
def meanSq (X : Vec Ideal ST .f32) (b : Fin 8) (s : Fin 2048) : EReal :=
  Ideal.div (∑ k : Fin 2048, X (ix3 b s k) * X (ix3 b s k)) (Ideal.ofBits .f32 0x45000000#32) + Ideal.ofBits .f32 0x358637BD#32

/-- The row over the root of its mean square, times the gains, scaled by one plus modulation row 4, plus row 3. -/
def h (X : Vec Ideal ST .f32) (md : Vec Ideal SM .f32) (g : Vec Ideal SG .f32) : Vec Ideal ST .f32 :=
  fun i => X i * Ideal.rsqrt (meanSq X (i 0) (i 1)) * g (ix2 (0 : Fin 1) (i 2 : Fin 2048))
      * (1 + md (ix3 (i 0 : Fin 8) (4 : Fin 6) (i 2 : Fin 2048))) + md (ix3 (i 0 : Fin 8) (3 : Fin 6) (i 2 : Fin 2048))

/-- One number of a token's query. -/
def query (H : Vec Ideal ST .f32) (wq : Vec Ideal SW .f32) (b : Fin 8) (s : Fin 2048) (e : Fin 2048) : EReal :=
  ∑ k : Fin 2048, H (ix3 b s k) * wq (ix3 (0 : Fin 1) k e)

/-- Half-head `i 0`'s key `i 1` against the query of token `i 2`. -/
def scores (H : Vec Ideal ST .f32) (wq : Vec Ideal SW .f32) (K : Vec Ideal SK .f32) : Vec Ideal SS .f32 :=
  fun i =>
    have h0 : (i 0).val < 16 := (i 0).isLt
    have h2 : (i 2).val < 16384 := (i 2).isLt
    ∑ k : Fin 128, K (ix5 (0 : Fin 1) (⟨(i 0).val / 2, by omega⟩ : Fin 8) (⟨(i 0).val % 2, by omega⟩ : Fin 2) (i 1 : Fin 128) k)
      * query H wq ⟨(i 2).val / 2048, by omega⟩ ⟨(i 2).val % 2048, by omega⟩ ⟨(i 0).val * 128 + k.val, by have := k.isLt; omega⟩

end Cert.Proof.Route
-- ==== Proof.RouteBlock.lean ====
/-
  The routing call's body at one grid point, index by index, from any blocks it may load.
-/
module

public import proofs.«01_k».proof.Proof.RouteSpec
public import proofs.«01_k».proof.Proof.Gen.Kernel2Ideal
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proof.Route

open Idealize.ShloMosaic Cert.Kernel2Ideal Cert.Kernel2Ideal.Gen

/-- The projected block added back. -/
theorem pay4_apply (P0 : Vec Ideal S1x512x2048 .f32) (P1 : Vec Ideal S1x1x2048 .f32) (P2 : Vec Ideal S1x512x2048 .bf16)
    (P3 : Vec Ideal S2048x2048 .bf16) (r : Fin 512) (d : Fin 2048) :
    k0_pay4 P0 P1 P2 P3 (ix2 r d) = P0 (ix3 (0 : Fin 1) r d) + P1 (ix3 (0 : Fin 1) (0 : Fin 1) d) * ∑ k : Fin 2048, P2 (ix3 (0 : Fin 1) r k) * P3 (ix2 k d) := by
  pointwise [k0_pay4]

/-- The normalised and modulated block, from what the projected block reads. -/
theorem pay8_apply (P0 : Vec Ideal S1x512x2048 .f32) (P1 : Vec Ideal S1x1x2048 .f32) (P2 : Vec Ideal S1x512x2048 .bf16)
    (P3 : Vec Ideal S2048x2048 .bf16) (P4 : Vec Ideal S1x2048 .f32) (P5 P6 : Vec Ideal S1x1x2048 .f32) (X : Fin 512 → Fin 2048 → EReal)
    (hX : ∀ r d, k0_pay4 P0 P1 P2 P3 (ix2 r d) = X r d) (r : Fin 512) (d : Fin 2048) :
    k0_pay8 (k0_pay6 P0 P1 P2 P3 P4) (k0_pay7 P5) P6 (ix2 r d)
      = X r d * Ideal.rsqrt (Ideal.div (∑ k : Fin 2048, X r k * X r k) (Ideal.ofBits .f32 0x45000000#32) + Ideal.ofBits .f32 0x358637BD#32)
          * P4 (ix2 (0 : Fin 1) d) * (1 + P5 (ix3 (0 : Fin 1) (0 : Fin 1) d)) + P6 (ix3 (0 : Fin 1) (0 : Fin 1) d) := by
  simp only [← hX]
  pointwise [k0_pay8, k0_pay6, k0_pay7]

/-- The queries of a block, from what the normalised block reads. -/
theorem pay10_apply (A : Vec Ideal S512x2048 .f32) (B : Vec Ideal S1x2048 .f32) (P6 : Vec Ideal S1x1x2048 .f32) (W : Vec Ideal S2048x2048 .bf16)
    (H : Fin 512 → Fin 2048 → EReal) (hH : ∀ r d, k0_pay8 A B P6 (ix2 r d) = H r d) (r : Fin 512) (e : Fin 2048) :
    k0_pay10 A B P6 W (ix2 r e) = ∑ k : Fin 2048, H r k * W (ix2 k e) := by
  simp only [← hH]
  pointwise [k0_pay10]

/-- The second result's block, read back. -/
theorem canon8 (A : Vec Ideal S512x2048 .f32) (B : Vec Ideal S1x2048 .f32) (P6 : Vec Ideal S1x1x2048 .f32)
    (H : Fin 512 → Fin 2048 → EReal) (hH : ∀ r d, k0_pay8 A B P6 (ix2 r d) = H r d) (y : S1x512x2048.Idx) :
    View.canon (Val := Elt Ideal) (e := .f32) [⟨r0_0, k0_pay9 A B P6⟩] y = H (y 1) (y 2) := by
  idx_vars y
  canon_tiles x h
  idx_vars x
  have h1' : y1 = x1 := Fin.ext (h1.trans (by pointwise))
  have h2' : y2 = x2 := Fin.ext (h2.trans (by pointwise))
  subst h1' h2'
  refine Eq.trans ?_ (hH _ _)
  pointwise [k0_pay9]

end Cert.Proof.Route
-- ==== Proof.RouteRead.lean ====
/-
  The routing call's blocks at a grid point, read off the arrays it is launched on.
-/
module

public import proofs.«01_k».proof.Proof.RouteBlock

@[expose] public section

set_option maxRecDepth 16384

noncomputable section

namespace Cert.Proof.Route

open Idealize.ShloMosaic Idealize.ShloMosaic.TcCoe Idealize.SL.Sem Cert.Kernel2Ideal Cert.Kernel2Ideal.Gen

/-- Which block each window takes at a grid point. -/
theorem idx : ∀ t : Fin grid0.N, t.val < 32 ∧ win0_0.index t = ![t.val / 4, t.val % 4, 0] ∧ win0_1.index t = ![t.val / 4, t.val % 4, 0] ∧ win0_2.index t = ![t.val / 4, 0, 0]
    ∧ win0_3.index t = ![0, 0] ∧ win0_4.index t = ![0, 0] ∧ win0_5.index t = ![0, 0] ∧ win0_6.index t = ![0, 0, 0, 0]
    ∧ win0_7.index t = ![t.val / 4, t.val % 4, 0] ∧ win0_8.index t = ![t.val / 4, t.val % 4, 0] ∧ win0_9.index t = ![0, 0, t.val] := by
  decide +kernel

/-- A point's batch entry. -/
def bt (t : Fin grid0.N) : Fin 8 := ⟨t.val / 4, by have := (idx t).1; omega⟩
/-- A row of a point's block, in the array. -/
def st (t : Fin grid0.N) (r : Fin 512) : Fin 2048 := ⟨t.val % 4 * 512 + r.val, by omega⟩

variable (m : (ℓ : Loc nD τ sig) → Buf (Elt Ideal) ℓ) (c : Dev nD) (t : Fin grid0.N)

theorem in0 (u : Fin 1) (r : Fin 512) (k : Fin 2048) : iblk m c 0 t (ix3 u r k) = m ((c : Thread nD τ).loc main_arg0) (ix3 (bt t) (st t r) k) := by
  blk_ext [iblk, V_main_arg0, bt, st, (idx t).2.1]
theorem in1 (u : Fin 1) (r : Fin 512) (k : Fin 2048) : iblk m c 1 t (ix3 u r k) = m ((c : Thread nD τ).loc main_arg1) (ix3 (bt t) (st t r) k) := by
  blk_ext [iblk, V_main_arg1, bt, st, (idx t).2.2.1]
theorem in2 (u : Fin 1) (r : Fin 6) (k : Fin 2048) : iblk m c 2 t (ix3 u r k) = m ((c : Thread nD τ).loc main_arg2) (ix3 (bt t) r k) := by
  blk_ext [iblk, V_main_arg2, bt, st, (idx t).2.2.2.1]
theorem in3 (k : Fin 2048) (d : Fin 2048) : iblk m c 3 t (ix2 k d) = m ((c : Thread nD τ).loc main_arg3) (ix3 (0 : Fin 1) k d) := by
  blk_simp [iblk, (idx t).2.2.2.2.1]
  entry_read
  pointwise
  blk_ext [(idx t).2.2.2.2.1]
theorem in4 (u : Fin 1) (d : Fin 2048) : iblk m c 4 t (ix2 u d) = m ((c : Thread nD τ).loc main_arg4) (ix2 (0 : Fin 1) d) := by
  blk_simp [iblk, (idx t).2.2.2.2.2.1]
  entry_read
  pointwise
  blk_ext [(idx t).2.2.2.2.2.1]
theorem in5 (k : Fin 2048) (d : Fin 2048) : iblk m c 5 t (ix2 k d) = m ((c : Thread nD τ).loc main_arg5) (ix3 (0 : Fin 1) k d) := by
  blk_simp [iblk, (idx t).2.2.2.2.2.2.1]
  entry_read
  pointwise
  blk_ext [(idx t).2.2.2.2.2.2.1]
theorem in6 (a : Fin 8) (b : Fin 2) (n k : Fin 128) : iblk m c 6 t (ix4 a b n k) = m ((c : Thread nD τ).loc main_arg6) (ix5 (0 : Fin 1) a b n k) := by
  blk_simp [iblk, (idx t).2.2.2.2.2.2.2.1]
  entry_read
  pointwise
  blk_ext [(idx t).2.2.2.2.2.2.2.1]

end Cert.Proof.Route
-- ==== Proof.RouteTiles.lean ====
/-
  The routing call's scores at one grid point: sixteen stores, one per half-head, read back as one block.
-/
module

public import proofs.«01_k».proof.Proof.RouteBlock

@[expose] public section

set_option maxRecDepth 16384

noncomputable section

namespace Cert.Proof.Route

open Idealize.ShloMosaic Cert.Kernel2Ideal Cert.Kernel2Ideal.Gen

/-- The block of scores, from the block's queries and the keys. -/
theorem out9_apply (x0 : Vec Ideal S1x512x2048 .bf16) (x1 : Vec Ideal S1x512x2048 .f32) (x2 : Vec Ideal S1x6x2048 .f32) (x3 : Vec Ideal S2048x2048 .bf16) (x4 : Vec Ideal S1x2048 .f32) (x5 : Vec Ideal S2048x2048 .bf16) (x6 : Vec Ideal S8x2x128x128 .bf16)
    (q : Vec Ideal S512x2048 .bf16) (hq : k0_pay29 x0 x1 x2 x3 x4 x5 x6 = q) (c : Fin 16) (n : Fin 128) (r : Fin 512) :
    out0_9 x0 x1 x2 x3 x4 x5 x6 (ix3 c n r)
      = ∑ k : Fin 128, x6 (ix4 (⟨c.val / 2, by omega⟩ : Fin 8) (⟨c.val % 2, by omega⟩ : Fin 2) n k) * q (ix2 r (⟨c.val * 128 + k.val, by omega⟩ : Fin 2048)) := by
  unfold out0_9
  rw [hq]
  have hq' : k0_pay10 (k0_pay27 x0 x1 x2 x3 x4 x5 x6) (k0_pay28 x0 x1 x2 x3 x4 x5 x6) (View.ld x2 r0_5) (View.ld x5 r0_2) = q := hq
  canon_tiles x h
  all_goals
    idx_vars x
    obtain ⟨cv, hcv⟩ := c
    obtain ⟨nv, hnv⟩ := n
    obtain ⟨rv, hrv⟩ := r
    have h0' : cv = _ := h0
    have h1' : nv = _ := h1
    have h2' : rv = _ := h2
    pointwise [k0_pay1, k0_pay2, k0_pay3, k0_pay11, k0_pay12, k0_pay13, k0_pay14, k0_pay15, k0_pay16, k0_pay17, k0_pay18, k0_pay19, k0_pay20, k0_pay21, k0_pay22, k0_pay23, k0_pay24, k0_pay25, k0_pay26] at h0' h1' h2' ⊢
    try simp only [hq']
    refine Finset.sum_congr rfl fun k _ => ?_
    congr 2
  all_goals
    subst h0' h1' h2'
    first
      | rfl
      | simp only [Nat.one_mul, Nat.zero_mul, Nat.zero_add, Nat.reduceMul]

end Cert.Proof.Route
-- ==== Proof.RouteKernel.lean ====
/-
  The routing call: its three result arrays after the run are the formulas of RouteSpec over the arrays it is launched on.
-/
module

public import proofs.«01_k».proof.Proof.RouteRead
public import proofs.«01_k».proof.Proof.RouteTiles

@[expose] public section

set_option maxRecDepth 16384

noncomputable section

namespace Cert.Proof.Route

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The first result, of the launched arrays. -/
abbrev X1 : Vec Ideal ST .f32 :=
  x1 (m ((c : Thread nD τ).loc main_arg0)) (m ((c : Thread nD τ).loc main_arg1)) (m ((c : Thread nD τ).loc main_arg2)) (m ((c : Thread nD τ).loc main_arg3))
/-- The second result, of the launched arrays. -/
abbrev HH : Vec Ideal ST .f32 := h (X1 m c) (m ((c : Thread nD τ).loc main_arg2)) (m ((c : Thread nD τ).loc main_arg4))
/-- The third result, of the launched arrays. -/
abbrev SCO : Vec Ideal SS .f32 := scores (HH m c) (m ((c : Thread nD τ).loc main_arg5)) (m ((c : Thread nD τ).loc main_arg6))

/-- The first result at one point, row by row. -/
theorem point_x1 (t : Fin grid0.N) (r : Fin 512) (d : Fin 2048) :
    k0_pay4 (View.ld (iblk m c 1 t) r0_0) (View.ld (iblk m c 2 t) r0_1) (View.ld (iblk m c 0 t) r0_0) (View.ld (iblk m c 3 t) r0_2) (ix2 r d)
      = X1 m c (ix3 (bt t) (st t r) d) := by
  rw [pay4_apply]
  pointwise [x1]
  simp only [in0, in1, in2, in3]

/-- The second result at one point, row by row. -/
theorem point_h (t : Fin grid0.N) (r : Fin 512) (d : Fin 2048) :
    k0_pay8 (k0_pay27 (iblk m c 0 t) (iblk m c 1 t) (iblk m c 2 t) (iblk m c 3 t) (iblk m c 4 t) (iblk m c 5 t) (iblk m c 6 t))
        (k0_pay28 (iblk m c 0 t) (iblk m c 1 t) (iblk m c 2 t) (iblk m c 3 t) (iblk m c 4 t) (iblk m c 5 t) (iblk m c 6 t)) (View.ld (iblk m c 2 t) r0_5) (ix2 r d)
      = HH m c (ix3 (bt t) (st t r) d) := by
  unfold k0_pay27 k0_pay28
  refine (pay8_apply _ _ _ _ _ _ _ _ (point_x1 m c t) r d).trans ?_
  change _ = h (X1 m c) (m ((c : Thread nD τ).loc main_arg2)) (m ((c : Thread nD τ).loc main_arg4)) _
  generalize X1 m c = X
  pointwise [h, meanSq]
  simp only [in2, in4]

/-- The queries at one point, row by row. -/
theorem point_query (t : Fin grid0.N) (r : Fin 512) (e : Fin 2048) :
    k0_pay29 (iblk m c 0 t) (iblk m c 1 t) (iblk m c 2 t) (iblk m c 3 t) (iblk m c 4 t) (iblk m c 5 t) (iblk m c 6 t) (ix2 r e)
      = query (HH m c) (m ((c : Thread nD τ).loc main_arg5)) (bt t) (st t r) e := by
  unfold k0_pay29
  refine (pay10_apply _ _ _ _ _ (point_h m c t) r e).trans ?_
  generalize HH m c = H
  pointwise [query]
  simp only [in5]

/-- The first result after the run. -/
theorem arr7 : (dats m 0 c).arrAt 7 cfg0.N = X1 m c := by
  refine (dats m 0 c).arrAt_eq_of_covers 7 _ (by decide +kernel) fun t hf y => ?_
  blk_simp
  rw [after0_7]
  unfold out0_7
  rw [Value.canon7_eq]
  have e := point_x1 m c t (y 1) (y 2)
  refine Eq.trans ?_ (e.trans ?_)
  · rfl
  · congr 1
    blk_ext [bt, st, (idx t).2.2.2.2.2.2.2.2.1]

/-- The second result after the run. -/
theorem arr8 : (dats m 0 c).arrAt 8 cfg0.N = HH m c := by
  refine (dats m 0 c).arrAt_eq_of_covers 8 _ (by decide +kernel) fun t hf y => ?_
  blk_simp
  rw [after0_8]
  unfold out0_8
  refine (canon8 _ _ _ _ (point_h m c t) y).trans ?_
  · congr 1
    blk_ext [bt, st, (idx t).2.2.2.2.2.2.2.2.2.1]

/-- The third result after the run. -/
theorem arr9 : (dats m 0 c).arrAt 9 cfg0.N = SCO m c := by
  refine (dats m 0 c).arrAt_eq_of_covers 9 _ (by decide +kernel) fun t hf y => ?_
  blk_simp
  rw [after0_9]
  refine (congrArg _ (eq_ix3 y)).trans ((out9_apply _ _ _ _ _ _ _ _ rfl (y 0) (y 1) (y 2)).trans ?_)
  refine (Finset.sum_congr rfl fun k _ => congrArg₂ (fun a b : EReal => a * b) (in6 m c t _ _ _ _) (point_query m c t _ _)).trans ?_
  have ht : t.val < 32 := (idx t).1
  have hy2 : (y 2).val < 512 := (y 2).isLt
  have he : (win0_9.blk t).view.emb y = ix3 (y 0 : Fin 16) (y 1 : Fin 128) (⟨t.val * 512 + (y 2).val, by omega⟩ : Fin 16384) := by
    blk_ext [(idx t).2.2.2.2.2.2.2.2.2.2]
  have hb : bt t = (⟨(t.val * 512 + (y 2).val) / 2048, by omega⟩ : Fin 8) := Fin.ext (by show t.val / 4 = (t.val * 512 + (y 2).val) / 2048; omega)
  have hs : st t (y 2) = (⟨(t.val * 512 + (y 2).val) % 2048, by omega⟩ : Fin 2048) := Fin.ext (by show t.val % 4 * 512 + (y 2).val = (t.val * 512 + (y 2).val) % 2048; omega)
  refine Eq.trans ?_ (congrArg (SCO m c) he.symm)
  rw [hb, hs]
  rfl

end Cert.Proof.Route
-- ==== Proof.RouteRef.lean ====
/-
  The routing call's reference: its three results are the formulas of RouteSpec.
-/
module

public import proofs.«01_k».proof.Proof.RouteSpec
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Proof.Route

open Idealize.ShloMosaic Cert.Reference2Ideal Cert.Reference2Ideal.Gen

/-- The reference's first result, at every index. -/
theorem ref_x1 (y : Vec Ideal ST .bf16) (x : Vec Ideal ST .f32) (md : Vec Ideal SM .f32) (w : Vec Ideal SW .f32) :
    addf x (mulf (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 2, 0] md slices_S8x6x2048_S8x1x2048_0_2_0) shapeCasts_S8x1x2048_S8x2048))) (Host.dotGeneral (F := Ideal) (φ₁ := .f32) (φ₂ := .f32) dot_S8x2048x2048_S2048x2048_S8x2048x2048_2_0_01_1_n_n none (extf .f32 y bitsLt_bf16_f32) (shapeCast S2048x2048 w shapeCasts_S1x2048x2048_S2048x2048)))
      = x1 y x md w := by
  funext i
  idx_vars i
  pointwise [x1]

/-- The reference's second result from its first. -/
theorem ref_h (X : Vec Ideal ST .f32) (md : Vec Ideal SM .f32) (g : Vec Ideal SG .f32) :
    addf (mulf (mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (F := Ideal) (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048))))
      (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (shapeCast _ (extractStridedSlice S8x1x2048 ![0, 4, 0] md slices_S8x6x2048_S8x1x2048_0_4_0) shapeCasts_S8x1x2048_S8x2048)))))
      (broadcastInDim S8x2048x2048 ![0, 1, 2] bcast_S8x1x2048_S8x2048x2048_0_1_2 (broadcastInDim S8x1x2048 ![0, 2] bcast_S8x2048_S8x1x2048_0_2 (shapeCast _ (extractStridedSlice S8x1x2048 ![0, 3, 0] md slices_S8x6x2048_S8x1x2048_0_3_0) shapeCasts_S8x1x2048_S8x2048)))
      = h X md g := by
  funext i
  idx_vars i
  pointwise [h, meanSq]

/-- The reference's third result from its second. -/
theorem ref_scores (H : Vec Ideal ST .f32) (wq : Vec Ideal SW .f32) (K : Vec Ideal SK .f32) :
    (shapeCast S16x128x16384 (transpose S8x2x128x8x2048 [2, 3, 4, 0, 1] (transpose S8x2048x8x2x128 [3, 4, 0, 1, 2] (Host.dotGeneral (F := Ideal) (φ₁ := .f32) (φ₂ := .f32) dot_S8x2x128x128_S8x2048x8x2x128_S8x2x128x8x2048_3_4_2_01_01_23 none (shapeCast S8x2x128x128 K shapeCasts_S1x8x2x128x128_S8x2x128x128) (shapeCast S8x2048x8x2x128 (Host.dotGeneral (F := Ideal) (φ₁ := .f32) (φ₂ := .f32) dot_S8x2048x2048_S2048x2048_S8x2048x2048_2_0_01_1_n_n none H (shapeCast S2048x2048 wq shapeCasts_S1x2048x2048_S2048x2048)) shapeCasts_S8x2048x2048_S8x2048x8x2x128)) transposes_S8x2x128x8x2048_S8x2048x8x2x128_3_4_0_1_2) transposes_S8x2048x8x2x128_S8x2x128x8x2048_2_3_4_0_1) shapeCasts_S8x2x128x8x2048_S16x128x16384 : Vec Ideal SS .f32)
      = scores H wq K := by
  funext i
  idx_vars i
  pointwise [scores, query]
  have e : ∀ k : ℕ, i0.val / 2 * 256 + i0.val % 2 * 128 + k = i0.val * 128 + k := fun k => by omega
  simp only [e]

end Cert.Proof.Route
-- ==== Proof.RouteValue.lean ====
/-
  The routing call against its reference: on the same arrays both leave the same three results.
-/
module

public import proofs.«01_k».proof.Defs
public import proofs.«01_k».proof.Proof.RouteKernel
public import proofs.«01_k».proof.Proof.RouteRef

@[expose] public section

set_option maxRecDepth 16384

noncomputable section

namespace Cert.Proof.Route

open Idealize.ShloMosaic Idealize.ShloMosaic.TcCoe Idealize.SL.Sem

/-- The reference keeps its arguments, and it declares no semaphore that could be left counted up. -/
theorem frame_reference : Cert.quiescent_Reference2Ideal (hReference2Ideal := Cert.Reference2Ideal.Gen.facts) :=
  fun m g _ => (θ_run _ _ _).mono
    (fun r hr => ⟨fun c => (hr c).2.2.2, sem_eq_zero_of_no_sems rfl r.2⟩) (Cert.Reference2Ideal.Value.run m g)

/-- Every result of the routing call is its reference's. -/
theorem algebraic_route : Cert.algebraic_Kernel2Ideal_Reference2Ideal
    (hKernel2Ideal := Cert.Kernel2Ideal.Gen.facts) (hReference2Ideal := Cert.Reference2Ideal.Gen.facts) := by
  intro m g m' g' _ hagree
  refine ⟨fun c => X1 m c, fun c => HH m c, fun c => SCO m c,
    (θ_run _ _ _).mono (fun r hr c => ?_) (Cert.Kernel2Ideal.Value.run_blocks m g),
    (θ_run _ _ _).mono (fun r hr c => ?_) (Cert.Reference2Ideal.Value.run m' g')⟩
  · obtain ⟨e7, e8, e9, hk⟩ := hr c
    exact ⟨e7.trans (arr7 m c), e8.trans (arr8 m c), e9.trans (arr9 m c), hk⟩
  · obtain ⟨e7, e8, e9, hk⟩ := hr c
    obtain ⟨a0, a1, a2, a3, a4, a5, a6⟩ := hagree c
    have s7 := e7.trans (ref_x1 _ _ _ _)
    rw [a0, a1, a2, a3] at s7
    have s8 := e8.trans ((ref_h _ _ _).trans (congrArg (fun X => h X _ _) (ref_x1 _ _ _ _)))
    rw [a0, a1, a2, a3, a4] at s8
    have s9 := e9.trans ((ref_scores _ _ _).trans (congrArg (fun H => scores H _ _) ((ref_h _ _ _).trans (congrArg (fun X => h X _ _) (ref_x1 _ _ _ _)))))
    rw [a0, a1, a2, a3, a4, a5, a6] at s9
    exact ⟨s7, s8, s9, hk⟩

end Cert.Proof.Route
-- ==== Proof.MixSpec.lean ====
/-
  The values of the mixing call, as formulas over its argument arrays: a normalised and modulated row is projected to four
  parts; the first goes through a convolution over four positions and a gated linear recurrence, and is scaled by the second;
  the third scales a masked sum, over the positions of its chunk, of the fourth.
-/
module

public import Idealize.ShloMosaic.PureOps
public import Idealize.ShloMosaic.Lib.Pointwise

@[expose] public section

set_option maxRecDepth 16384

noncomputable section

namespace Cert.Proof.Mix

open Idealize.ShloMosaic

/-- The call's arguments. -/
structure Args where
  /-- Every token's numbers. -/
  x : Vec Ideal ⟨3, ![8, 2048, 2048]⟩ .f32
  /-- The six modulation rows of every batch entry. -/
  md : Vec Ideal ⟨3, ![8, 6, 2048]⟩ .f32
  /-- The norm's gains. -/
  g : Vec Ideal ⟨2, ![1, 2048]⟩ .f32
  /-- The projection. -/
  win : Vec Ideal ⟨3, ![1, 2048, 4096]⟩ .f32
  /-- The convolution's four rows. -/
  cw : Vec Ideal ⟨3, ![1, 4, 1024]⟩ .f32
  /-- The convolution's offset. -/
  cb : Vec Ideal ⟨2, ![1, 1024]⟩ .f32
  /-- The recurrence gate's blocks. -/
  wa : Vec Ideal ⟨4, ![1, 8, 128, 128]⟩ .f32
  /-- The recurrence gate's offsets. -/
  ba : Vec Ideal ⟨3, ![1, 8, 128]⟩ .f32
  /-- The input gate's blocks. -/
  wi : Vec Ideal ⟨4, ![1, 8, 128, 128]⟩ .f32
  /-- The input gate's offsets. -/
  bi : Vec Ideal ⟨3, ![1, 8, 128]⟩ .f32
  /-- The decay's parameters. -/
  lam : Vec Ideal ⟨2, ![1, 1024]⟩ .f32
  /-- The second norm's gains. -/
  gv : Vec Ideal ⟨2, ![1, 1024]⟩ .f32
  /-- The spatial weights. -/
  ws : Vec Ideal ⟨4, ![1, 8, 128, 128]⟩ .f32
  /-- The spatial offsets. -/
  bs : Vec Ideal ⟨3, ![1, 8, 128]⟩ .f32

variable (A : Args)

/-- A row's mean of squares, plus the norm's epsilon. -/
def meanSq (b : Fin 8) (s : Fin 2048) : EReal :=
  Ideal.div (∑ k : Fin 2048, A.x (ix3 b s k) * A.x (ix3 b s k)) (Ideal.ofBits .f32 0x45000000#32) + Ideal.ofBits .f32 0x358637BD#32

/-- The row over the root of its mean square, times the gains, scaled by one plus modulation row 1, plus row 0. -/
def hn (b : Fin 8) (s : Fin 2048) (d : Fin 2048) : EReal :=
  A.x (ix3 b s d) * Ideal.rsqrt (meanSq A b s) * A.g (ix2 (0 : Fin 1) d)
      * (1 + A.md (ix3 b (1 : Fin 6) d)) + A.md (ix3 b (0 : Fin 6) d)

/-- The projected row. -/
def proj (b : Fin 8) (s : Fin 2048) (e : Fin 4096) : EReal :=
  ∑ k : Fin 2048, hn A b s k * A.win (ix3 (0 : Fin 1) k e)

/-- The projected row's part for the recurrence. -/
def xl (b : Fin 8) (s : Fin 2048) (d : Fin 1024) : EReal := proj A b s ⟨d.val, by omega⟩
/-- The projected row's part that scales the recurrence. -/
def yg (b : Fin 8) (s : Fin 2048) (d : Fin 1024) : EReal := proj A b s ⟨1024 + d.val, by omega⟩
/-- The projected row's part that scales the spatial sum. -/
def uu (b : Fin 8) (s : Fin 2048) (d : Fin 1024) : EReal := proj A b s ⟨2048 + d.val, by omega⟩
/-- The projected row's part that is summed over positions. -/
def vv (b : Fin 8) (s : Fin 2048) (d : Fin 1024) : EReal := proj A b s ⟨3072 + d.val, by omega⟩

/-- The recurrence's part with three rows of zeros before it. -/
def xpad (b : Fin 8) (n : ℕ) (d : Fin 1024) : EReal :=
  if h : 3 ≤ n ∧ n - 3 < 2048 then xl A b ⟨n - 3, h.2⟩ d else 0

/-- The convolution over four positions. -/
def xc (b : Fin 8) (s : Fin 2048) (d : Fin 1024) : EReal :=
  A.cw (ix3 (0 : Fin 1) (0 : Fin 4) d) * xpad A b s.val d + A.cw (ix3 (0 : Fin 1) (1 : Fin 4) d) * xpad A b (s.val + 1) d
    + A.cw (ix3 (0 : Fin 1) (2 : Fin 4) d) * xpad A b (s.val + 2) d + A.cw (ix3 (0 : Fin 1) (3 : Fin 4) d) * xpad A b (s.val + 3) d
    + A.cb (ix2 (0 : Fin 1) d)

/-- A gate: the logistic function of a head's block on the convolved row, plus its offset. -/
def gate (w : Vec Ideal ⟨4, ![1, 8, 128, 128]⟩ .f32) (o : Vec Ideal ⟨3, ![1, 8, 128]⟩ .f32) (b : Fin 8) (s : Fin 2048) (d : Fin 1024) : EReal :=
  Ideal.logistic ((∑ k : Fin 128, w (ix4 (0 : Fin 1) (⟨d.val / 128, by omega⟩ : Fin 8) k (⟨d.val % 128, by omega⟩ : Fin 128))
      * xc A b s ⟨d.val / 128 * 128 + k.val, by omega⟩)
    + o (ix3 (0 : Fin 1) (⟨d.val / 128, by omega⟩ : Fin 8) (⟨d.val % 128, by omega⟩ : Fin 128)))

/-- The softplus function. -/
def softplus (y : EReal) : EReal := max y 0 + Ideal.log1p (Ideal.exp (-(max y (-y))))

/-- The logarithm of the decay. -/
def logA (b : Fin 8) (s : Fin 2048) (d : Fin 1024) : EReal :=
  Ideal.ofBits .f32 0xC1000000#32 * gate A A.wa A.ba b s d * softplus (-A.lam (ix2 (0 : Fin 1) d))

/-- The decay. -/
def aa (b : Fin 8) (s : Fin 2048) (d : Fin 1024) : EReal := Ideal.exp (logA A b s d)

/-- What is added at a position. -/
def bb (b : Fin 8) (s : Fin 2048) (d : Fin 1024) : EReal :=
  Ideal.sqrt (-(Ideal.exp (Ideal.ofBits .f32 0x40000000#32 * logA A b s d) - 1)) * (gate A A.wi A.bi b s d * xc A b s d)

/-- Position `n`, as an index. -/
def row (n : ℕ) : Fin 2048 := ⟨n % 2048, Nat.mod_lt _ (by decide)⟩

/-- The recurrence: zero before the first position, then the decay times the last value plus what is added. -/
def rec (b : Fin 8) (d : Fin 1024) : ℕ → EReal
  | 0 => 0
  | n + 1 => aa A b (row n) d * rec b d n + bb A b (row n) d

/-- The Gaussian error unit by the hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- The fourth part's mean of squares, plus epsilon. -/
def meanSqV (b : Fin 8) (s : Fin 2048) : EReal :=
  Ideal.div (∑ k : Fin 1024, gelu (vv A b s k) * gelu (vv A b s k)) (Ideal.ofBits .f32 0x44800000#32) + Ideal.ofBits .f32 0x358637BD#32

/-- The fourth part, normalised. -/
def vn (b : Fin 8) (s : Fin 2048) (d : Fin 1024) : EReal :=
  gelu (vv A b s d) * Ideal.rsqrt (meanSqV A b s) * A.gv (ix2 (0 : Fin 1) d)

/-- The spatial sum over the earlier positions of the chunk, plus its offset. -/
def spatial (b : Fin 8) (s : Fin 2048) (d : Fin 1024) : EReal :=
  (∑ j : Fin 128, vn A b ⟨s.val / 128 * 128 + j.val, by omega⟩ d
      * (if j.val ≤ s.val % 128 then A.ws (ix4 (0 : Fin 1) (⟨d.val / 128, by omega⟩ : Fin 8) (⟨s.val % 128, by omega⟩ : Fin 128) j) else 0))
    + A.bs (ix3 (0 : Fin 1) (⟨d.val / 128, by omega⟩ : Fin 8) (⟨s.val % 128, by omega⟩ : Fin 128))

/-- The recurrence's half of the result. -/
def left (b : Fin 8) (s : Fin 2048) (d : Fin 1024) : EReal := rec A b d (s.val + 1) * gelu (yg A b s d)
/-- The spatial half of the result. -/
def right (b : Fin 8) (s : Fin 2048) (d : Fin 1024) : EReal := gelu (uu A b s d) * spatial A b s d

/-- The result. -/
def out : Vec Ideal ⟨3, ![8, 2048, 2048]⟩ .bf16 := fun i =>
  if h : (i 2).val < 1024 then left A (i 0) (i 1) ⟨(i 2).val, h⟩
  else right A (i 0) (i 1) ⟨(i 2).val - 1024, by have : (i 2).val < 2048 := (i 2).isLt; omega⟩

end Cert.Proof.Mix
-- ==== Proof.MixTile.lean ====
/-
  The mixing kernel's values at one grid point, named one by one over the point's blocks.
-/
module

public import proofs.«01_k».proof.Proof.MixSpec
public import proofs.«01_k».proof.Proof.Gen.Kernel3Ideal
public import proofs.«01_k».proof.Proof.Gen.Kernel3Ideal.Skeleton
public import Idealize.ShloMosaic.Lib.Pipeline.ValueKit
public import Idealize.ShloMosaic.Lib.Claim

@[expose] public section

set_option maxRecDepth 16384

noncomputable section

namespace Cert.Proof.Mix

open Idealize.ShloMosaic Cert.Kernel3Ideal Cert.Kernel3Ideal.Gen

/-- A grid point's blocks: the fourteen inputs', the three shifted reads of the rows kept before the tile, and the row the recurrence starts from. -/
structure Blocks where
  /-- The rows. -/
  a2 : Vec Ideal S1x256x2048 .f32
  /-- The modulation. -/
  a3 : Vec Ideal S1x6x2048 .f32
  /-- The norm's gains. -/
  a4 : Vec Ideal S1x2048 .f32
  /-- The projection. -/
  a5 : Vec Ideal S2048x4096 .bf16
  /-- The convolution's rows. -/
  a6 : Vec Ideal S4x1024 .f32
  /-- Its offset. -/
  a7 : Vec Ideal S1x1024 .f32
  /-- The recurrence gate's blocks. -/
  a8 : Vec Ideal S8x128x128 .bf16
  /-- Its offset. -/
  a9 : Vec Ideal S1x1024 .f32
  /-- The input gate's blocks. -/
  a10 : Vec Ideal S8x128x128 .bf16
  /-- Its offset. -/
  a11 : Vec Ideal S1x1024 .f32
  /-- The decay's parameters. -/
  a12 : Vec Ideal S1x1024 .f32
  /-- The second norm's gains. -/
  a13 : Vec Ideal S1x1024 .f32
  /-- The spatial weights. -/
  a14 : Vec Ideal S8x128x128 .f32
  /-- The spatial offsets. -/
  a15 : Vec Ideal S128x8 .f32
  /-- Rows shifted by three. -/
  e46 : Vec Ideal S256x1024 .f32
  /-- Rows shifted by two. -/
  e52 : Vec Ideal S256x1024 .f32
  /-- Rows shifted by one. -/
  e58 : Vec Ideal S256x1024 .f32
  /-- Where the recurrence starts. -/
  h0 : Vec Ideal S1x1024 .f32

/-- A value of the kernel at the point. -/
def t3 (X : Blocks) : Vec Ideal S1x256x2048 .f32 := X.a2
/-- A value of the kernel at the point. -/
def t5 (X : Blocks) : Vec Ideal S1x1x2048 .f32 := View.ld X.a3 (Rect.unit (s := S1x6x2048) ![0, 0, 0] ![1, 1, 2048] inb_S1x6x2048_S1x1x2048_0_0_0)
/-- A value of the kernel at the point. -/
def t7 (X : Blocks) : Vec Ideal S1x1x2048 .f32 := View.ld X.a3 (Rect.unit (s := S1x6x2048) ![0, 1, 0] ![1, 1, 2048] inb_S1x6x2048_S1x1x2048_0_1_0)
/-- A value of the kernel at the point. -/
def t9 (X : Blocks) : Vec Ideal S1x2048 .f32 := X.a4
/-- A value of the kernel at the point. -/
def t30 (X : Blocks) : Vec Ideal S2048x1024 .bf16 := View.ld X.a5 (Rect.unit (s := S2048x4096) ![0, 0] ![2048, 1024] inb_S2048x4096_S2048x1024_0_0)
/-- A value of the kernel at the point. -/
def t29 (X : Blocks) : FVec Ideal S256x2048 .bf16 := k0_pay5 (t3 X) (t5 X) (t7 X) (t9 X)
/-- A value of the kernel at the point. -/
def t32 (X : Blocks) : FVec Ideal S256x1024 .f32 := k0_pay6 (t3 X) (t5 X) (t7 X) (t9 X) (t30 X)
/-- A value of the kernel at the point. -/
def t36 (X : Blocks) : Vec Ideal S1x1024 .f32 := X.a7
/-- A value of the kernel at the point. -/
def t38 (X : Blocks) : Vec Ideal S1x1024 .f32 := View.ld X.a6 (Rect.unit (s := S4x1024) ![3, 0] ![1, 1024] inb_S4x1024_S1x1024_3_0)
/-- A value of the kernel at the point. -/
def t44 (X : Blocks) : Vec Ideal S1x1024 .f32 := View.ld X.a6 (Rect.unit (s := S4x1024) ![0, 0] ![1, 1024] inb_S4x1024_S1x1024_0_0)
/-- A value of the kernel at the point. -/
def t46 (X : Blocks) : Vec Ideal S256x1024 .f32 := X.e46
/-- A value of the kernel at the point. -/
def t50 (X : Blocks) : Vec Ideal S1x1024 .f32 := View.ld X.a6 (Rect.unit (s := S4x1024) ![1, 0] ![1, 1024] inb_S4x1024_S1x1024_1_0)
/-- A value of the kernel at the point. -/
def t52 (X : Blocks) : Vec Ideal S256x1024 .f32 := X.e52
/-- A value of the kernel at the point. -/
def t56 (X : Blocks) : Vec Ideal S1x1024 .f32 := View.ld X.a6 (Rect.unit (s := S4x1024) ![2, 0] ![1, 1024] inb_S4x1024_S1x1024_2_0)
/-- A value of the kernel at the point. -/
def t58 (X : Blocks) : Vec Ideal S256x1024 .f32 := X.e58
/-- A value of the kernel at the point. -/
def t68 (X : Blocks) : Vec Ideal S1x128x128 .bf16 := View.ld X.a8 (Rect.unit (s := S8x128x128) ![0, 0, 0] ![1, 128, 128] inb_S8x128x128_S1x128x128_0_0_0)
/-- A value of the kernel at the point. -/
def t61 (X : Blocks) : FVec Ideal S256x1024 .f32 := k0_pay8 (t32 X) (t36 X) (t38 X) (t44 X) (t46 X) (t50 X) (t52 X) (t56 X) (t58 X)
/-- A value of the kernel at the point. -/
def t66 (X : Blocks) : FVec Ideal S256x1024 .bf16 := k0_pay10 (t32 X) (t36 X) (t38 X) (t44 X) (t46 X) (t50 X) (t52 X) (t56 X) (t58 X)
/-- A value of the kernel at the point. -/
def t67 (X : Blocks) : FVec Ideal S256x128 .bf16 := k0_pay11 (t32 X) (t36 X) (t38 X) (t44 X) (t46 X) (t50 X) (t52 X) (t56 X) (t58 X)
/-- A value of the kernel at the point. -/
def t70 (X : Blocks) : FVec Ideal S256x128 .f32 := k0_pay12 (t32 X) (t36 X) (t38 X) (t44 X) (t46 X) (t50 X) (t52 X) (t56 X) (t58 X) (t68 X)
/-- A value of the kernel at the point. -/
def t71 (X : Blocks) : Vec Ideal S1x128x128 .bf16 := View.ld X.a10 (Rect.unit (s := S8x128x128) ![0, 0, 0] ![1, 128, 128] inb_S8x128x128_S1x128x128_0_0_0)
/-- A value of the kernel at the point. -/
def t75 (X : Blocks) : Vec Ideal S1x128x128 .bf16 := View.ld X.a8 (Rect.unit (s := S8x128x128) ![1, 0, 0] ![1, 128, 128] inb_S8x128x128_S1x128x128_1_0_0)
/-- A value of the kernel at the point. -/
def t78 (X : Blocks) : Vec Ideal S1x128x128 .bf16 := View.ld X.a10 (Rect.unit (s := S8x128x128) ![1, 0, 0] ![1, 128, 128] inb_S8x128x128_S1x128x128_1_0_0)
/-- A value of the kernel at the point. -/
def t82 (X : Blocks) : Vec Ideal S1x128x128 .bf16 := View.ld X.a8 (Rect.unit (s := S8x128x128) ![2, 0, 0] ![1, 128, 128] inb_S8x128x128_S1x128x128_2_0_0)
/-- A value of the kernel at the point. -/
def t85 (X : Blocks) : Vec Ideal S1x128x128 .bf16 := View.ld X.a10 (Rect.unit (s := S8x128x128) ![2, 0, 0] ![1, 128, 128] inb_S8x128x128_S1x128x128_2_0_0)
/-- A value of the kernel at the point. -/
def t89 (X : Blocks) : Vec Ideal S1x128x128 .bf16 := View.ld X.a8 (Rect.unit (s := S8x128x128) ![3, 0, 0] ![1, 128, 128] inb_S8x128x128_S1x128x128_3_0_0)
/-- A value of the kernel at the point. -/
def t92 (X : Blocks) : Vec Ideal S1x128x128 .bf16 := View.ld X.a10 (Rect.unit (s := S8x128x128) ![3, 0, 0] ![1, 128, 128] inb_S8x128x128_S1x128x128_3_0_0)
/-- A value of the kernel at the point. -/
def t96 (X : Blocks) : Vec Ideal S1x128x128 .bf16 := View.ld X.a8 (Rect.unit (s := S8x128x128) ![4, 0, 0] ![1, 128, 128] inb_S8x128x128_S1x128x128_4_0_0)
/-- A value of the kernel at the point. -/
def t73 (X : Blocks) : FVec Ideal S256x128 .f32 := k0_pay13 (t67 X) (t71 X)
/-- A value of the kernel at the point. -/
def t77 (X : Blocks) : FVec Ideal S256x128 .f32 := k0_pay15 (t66 X) (t75 X)
/-- A value of the kernel at the point. -/
def t80 (X : Blocks) : FVec Ideal S256x128 .f32 := k0_pay16 (t66 X) (t78 X)
/-- A value of the kernel at the point. -/
def t84 (X : Blocks) : FVec Ideal S256x128 .f32 := k0_pay18 (t66 X) (t82 X)
/-- A value of the kernel at the point. -/
def t87 (X : Blocks) : FVec Ideal S256x128 .f32 := k0_pay19 (t66 X) (t85 X)
/-- A value of the kernel at the point. -/
def t91 (X : Blocks) : FVec Ideal S256x128 .f32 := k0_pay21 (t66 X) (t89 X)
/-- A value of the kernel at the point. -/
def t94 (X : Blocks) : FVec Ideal S256x128 .f32 := k0_pay22 (t66 X) (t92 X)
/-- A value of the kernel at the point. -/
def t95 (X : Blocks) : FVec Ideal S256x128 .bf16 := k0_pay23 (t66 X)
/-- A value of the kernel at the point. -/
def t98 (X : Blocks) : FVec Ideal S256x128 .f32 := k0_pay24 (t66 X) (t96 X)
/-- A value of the kernel at the point. -/
def t99 (X : Blocks) : Vec Ideal S1x128x128 .bf16 := View.ld X.a10 (Rect.unit (s := S8x128x128) ![4, 0, 0] ![1, 128, 128] inb_S8x128x128_S1x128x128_4_0_0)
/-- A value of the kernel at the point. -/
def t103 (X : Blocks) : Vec Ideal S1x128x128 .bf16 := View.ld X.a8 (Rect.unit (s := S8x128x128) ![5, 0, 0] ![1, 128, 128] inb_S8x128x128_S1x128x128_5_0_0)
/-- A value of the kernel at the point. -/
def t106 (X : Blocks) : Vec Ideal S1x128x128 .bf16 := View.ld X.a10 (Rect.unit (s := S8x128x128) ![5, 0, 0] ![1, 128, 128] inb_S8x128x128_S1x128x128_5_0_0)
/-- A value of the kernel at the point. -/
def t110 (X : Blocks) : Vec Ideal S1x128x128 .bf16 := View.ld X.a8 (Rect.unit (s := S8x128x128) ![6, 0, 0] ![1, 128, 128] inb_S8x128x128_S1x128x128_6_0_0)
/-- A value of the kernel at the point. -/
def t113 (X : Blocks) : Vec Ideal S1x128x128 .bf16 := View.ld X.a10 (Rect.unit (s := S8x128x128) ![6, 0, 0] ![1, 128, 128] inb_S8x128x128_S1x128x128_6_0_0)
/-- A value of the kernel at the point. -/
def t117 (X : Blocks) : Vec Ideal S1x128x128 .bf16 := View.ld X.a8 (Rect.unit (s := S8x128x128) ![7, 0, 0] ![1, 128, 128] inb_S8x128x128_S1x128x128_7_0_0)
/-- A value of the kernel at the point. -/
def t120 (X : Blocks) : Vec Ideal S1x128x128 .bf16 := View.ld X.a10 (Rect.unit (s := S8x128x128) ![7, 0, 0] ![1, 128, 128] inb_S8x128x128_S1x128x128_7_0_0)
/-- A value of the kernel at the point. -/
def t124 (X : Blocks) : Vec Ideal S1x1024 .f32 := X.a9
/-- A value of the kernel at the point. -/
def t101 (X : Blocks) : FVec Ideal S256x128 .f32 := k0_pay25 (t95 X) (t99 X)
/-- A value of the kernel at the point. -/
def t108 (X : Blocks) : FVec Ideal S256x128 .f32 := k0_pay27 (t66 X) (t106 X)
/-- A value of the kernel at the point. -/
def t115 (X : Blocks) : FVec Ideal S256x128 .f32 := k0_pay29 (t66 X) (t113 X)
/-- A value of the kernel at the point. -/
def t122 (X : Blocks) : FVec Ideal S256x128 .f32 := k0_pay31 (t66 X) (t120 X)
/-- A value of the kernel at the point. -/
def t128 (X : Blocks) : FVec Ideal S256x1024 .f32 := k0_pay32 (t66 X) (t70 X) (t77 X) (t84 X) (t91 X) (t98 X) (t103 X) (t110 X) (t117 X) (t124 X)
/-- A value of the kernel at the point. -/
def t130 (X : Blocks) : Vec Ideal S1x1024 .f32 := X.a11
/-- A value of the kernel at the point. -/
def t137 (X : Blocks) : Vec Ideal S1x1024 .f32 := X.a12
/-- A value of the kernel at the point. -/
def t163 (X : Blocks) : BitVec 1 := Scalar.cmpi .eq 8#32 0#32
/-- A value of the kernel at the point. -/
def t164 (X : Blocks) : BitVec 32 := Scalar.select (t163 X) 1#32 8#32
/-- A value of the kernel at the point. -/
def t151 (X : Blocks) : FVec Ideal S256x1024 .f32 := k0_pay34 (t128 X) (t137 X)
/-- A value of the kernel at the point. -/
def t161 (X : Blocks) : FVec Ideal S256x1024 .f32 := k0_pay35 (t61 X) (t73 X) (t80 X) (t87 X) (t94 X) (t101 X) (t108 X) (t115 X) (t122 X) (t128 X) (t130 X) (t137 X)
/-- A value of the kernel at the point. -/
def t166 (X : Blocks) : IVec S256x1024 32 := k0_pay36
/-- A value of the kernel at the point. -/
def t168 (X : Blocks) : IVec S256x1024 1 := k0_pay37
/-- A value of the kernel at the point. -/
def t170 (X : Blocks) : IVec S256x1024 1 := k0_pay38
/-- A value of the kernel at the point. -/
def t172 (X : Blocks) : IVec S256x1024 1 := k0_pay39
/-- A value of the kernel at the point. -/
def t206 (X : Blocks) : Vec Ideal S1x1024 .f32 := X.h0
/-- A value of the kernel at the point. -/
def t203 (X : Blocks) : FVec Ideal S256x1024 .f32 := k0_pay46 (t151 X) (t161 X) (t164 X) (t166 X) (t168 X) (t170 X) (t172 X)
/-- A value of the kernel at the point. -/
def t205 (X : Blocks) : FVec Ideal S256x1024 .f32 := k0_pay47 (t151 X) (t164 X) (t166 X) (t168 X) (t170 X) (t172 X)
/-- A value of the kernel at the point. -/
def t211 (X : Blocks) : FVec Ideal S8x1024 .f32 := k0_pay48 (t151 X) (t161 X) (t164 X) (t166 X) (t168 X) (t170 X) (t172 X) (t206 X)
/-- A value of the kernel at the point. -/
def t217 (X : Blocks) : FVec Ideal S8x1024 .f32 := k0_pay49 (t151 X) (t161 X) (t164 X) (t166 X) (t168 X) (t170 X) (t172 X) (t206 X)
/-- A value of the kernel at the point. -/
def t219 (X : Blocks) : FVec Ideal S8x1024 .f32 := k0_pay50 (t151 X) (t161 X) (t164 X) (t166 X) (t168 X) (t170 X) (t172 X)
/-- A value of the kernel at the point. -/
def t220 (X : Blocks) : FVec Ideal S8x1024 .f32 := k0_pay51 (t151 X) (t164 X) (t166 X) (t168 X) (t170 X) (t172 X)
/-- A value of the kernel at the point. -/
def t221 (X : Blocks) : FVec Ideal S8x1024 .f32 := k0_pay52 (t151 X) (t161 X) (t164 X) (t166 X) (t168 X) (t170 X) (t172 X) (t206 X)
/-- A value of the kernel at the point. -/
def t223 (X : Blocks) : FVec Ideal S8x1024 .f32 := k0_pay53 (t219 X) (t220 X) (t221 X)
/-- A value of the kernel at the point. -/
def t229 (X : Blocks) : FVec Ideal S8x1024 .f32 := k0_pay54 (t203 X) (t205 X) (t219 X) (t220 X) (t221 X)
/-- A value of the kernel at the point. -/
def t235 (X : Blocks) : FVec Ideal S8x1024 .f32 := k0_pay55 (t203 X) (t205 X) (t219 X) (t220 X) (t221 X)
/-- A value of the kernel at the point. -/
def t241 (X : Blocks) : FVec Ideal S8x1024 .f32 := k0_pay56 (t203 X) (t205 X) (t219 X) (t220 X) (t221 X)
/-- A value of the kernel at the point. -/
def t247 (X : Blocks) : FVec Ideal S8x1024 .f32 := k0_pay57 (t203 X) (t205 X) (t219 X) (t220 X) (t221 X)
/-- A value of the kernel at the point. -/
def t253 (X : Blocks) : FVec Ideal S8x1024 .f32 := k0_pay58 (t203 X) (t205 X) (t219 X) (t220 X) (t221 X)
/-- A value of the kernel at the point. -/
def t259 (X : Blocks) : FVec Ideal S8x1024 .f32 := k0_pay59 (t203 X) (t205 X) (t219 X) (t220 X) (t221 X)
/-- A value of the kernel at the point. -/
def t265 (X : Blocks) : FVec Ideal S8x1024 .f32 := k0_pay60 (t203 X) (t205 X) (t219 X) (t220 X) (t221 X)
/-- A value of the kernel at the point. -/
def t271 (X : Blocks) : FVec Ideal S8x1024 .f32 := k0_pay61 (t203 X) (t205 X) (t219 X) (t220 X) (t221 X)
/-- A value of the kernel at the point. -/
def t277 (X : Blocks) : FVec Ideal S8x1024 .f32 := k0_pay62 (t203 X) (t205 X) (t219 X) (t220 X) (t221 X)
/-- A value of the kernel at the point. -/
def t279 (X : Blocks) : FVec Ideal S8x1024 .f32 := k0_pay63 (t203 X)
/-- A value of the kernel at the point. -/
def t280 (X : Blocks) : FVec Ideal S8x1024 .f32 := k0_pay64 (t205 X)
/-- A value of the kernel at the point. -/
def t281 (X : Blocks) : FVec Ideal S8x1024 .f32 := k0_pay65 (t203 X) (t205 X) (t219 X) (t220 X) (t221 X)
/-- A value of the kernel at the point. -/
def t283 (X : Blocks) : FVec Ideal S8x1024 .f32 := k0_pay66 (t279 X) (t280 X) (t281 X)
/-- A value of the kernel at the point. -/
def t289 (X : Blocks) : FVec Ideal S8x1024 .f32 := k0_pay67 (t203 X) (t205 X) (t279 X) (t280 X) (t281 X)
/-- A value of the kernel at the point. -/
def t295 (X : Blocks) : FVec Ideal S8x1024 .f32 := k0_pay68 (t203 X) (t205 X) (t279 X) (t280 X) (t281 X)
/-- A value of the kernel at the point. -/
def t301 (X : Blocks) : FVec Ideal S8x1024 .f32 := k0_pay69 (t203 X) (t205 X) (t279 X) (t280 X) (t281 X)
/-- A value of the kernel at the point. -/
def t307 (X : Blocks) : FVec Ideal S8x1024 .f32 := k0_pay70 (t203 X) (t205 X) (t279 X) (t280 X) (t281 X)
/-- A value of the kernel at the point. -/
def t313 (X : Blocks) : FVec Ideal S8x1024 .f32 := k0_pay71 (t203 X) (t205 X) (t279 X) (t280 X) (t281 X)
/-- A value of the kernel at the point. -/
def t319 (X : Blocks) : FVec Ideal S8x1024 .f32 := k0_pay72 (t203 X) (t205 X) (t279 X) (t280 X) (t281 X)
/-- A value of the kernel at the point. -/
def t325 (X : Blocks) : FVec Ideal S8x1024 .f32 := k0_pay73 (t203 X) (t205 X) (t279 X) (t280 X) (t281 X)
/-- A value of the kernel at the point. -/
def t331 (X : Blocks) : FVec Ideal S8x1024 .f32 := k0_pay74 (t203 X) (t205 X) (t279 X) (t280 X) (t281 X)
/-- A value of the kernel at the point. -/
def t337 (X : Blocks) : FVec Ideal S8x1024 .f32 := k0_pay75 (t203 X) (t205 X) (t279 X) (t280 X) (t281 X)
/-- A value of the kernel at the point. -/
def t339 (X : Blocks) : FVec Ideal S8x1024 .f32 := k0_pay76 (t203 X)
/-- A value of the kernel at the point. -/
def t340 (X : Blocks) : FVec Ideal S8x1024 .f32 := k0_pay77 (t205 X)
/-- A value of the kernel at the point. -/
def t341 (X : Blocks) : FVec Ideal S8x1024 .f32 := k0_pay78 (t203 X) (t205 X) (t279 X) (t280 X) (t281 X)
/-- A value of the kernel at the point. -/
def t398 (X : Blocks) : FVec Ideal S1x1024 .f32 := k0_pay89 (t203 X) (t205 X) (t339 X) (t340 X) (t341 X)
/-- A value of the kernel at the point. -/
def t399 (X : Blocks) : FVec Ideal S256x1024 .f32 := k0_pay90 (t203 X) (t205 X) (t211 X) (t217 X) (t223 X) (t229 X) (t235 X) (t241 X) (t247 X) (t253 X) (t259 X) (t265 X) (t271 X) (t277 X) (t283 X) (t289 X) (t295 X) (t301 X) (t307 X) (t313 X) (t319 X) (t325 X) (t331 X) (t337 X) (t339 X) (t340 X) (t341 X)
/-- A value of the kernel at the point. -/
def t403 (X : Blocks) : Vec Ideal S2048x1024 .bf16 := View.ld X.a5 (Rect.unit (s := S2048x4096) ![0, 1024] ![2048, 1024] inb_S2048x4096_S2048x1024_0_1024)
/-- A value of the kernel at the point. -/
def t424 (X : Blocks) : Vec Ideal S2048x1024 .bf16 := View.ld X.a5 (Rect.unit (s := S2048x4096) ![0, 2048] ![2048, 1024] inb_S2048x4096_S2048x1024_0_2048)
/-- A value of the kernel at the point. -/
def t439 (X : Blocks) : FVec Ideal S256x1024 .f32 := k0_pay93 (t29 X) (t424 X)
/-- A value of the kernel at the point. -/
def t440 (X : Blocks) : Vec Ideal S2048x1024 .bf16 := View.ld X.a5 (Rect.unit (s := S2048x4096) ![0, 3072] ![2048, 1024] inb_S2048x4096_S2048x1024_0_3072)
/-- A value of the kernel at the point. -/
def t456 (X : Blocks) : Vec Ideal S1x1024 .f32 := X.a13
/-- A value of the kernel at the point. -/
def t474 (X : Blocks) : Vec Ideal S1x128x128 .f32 := View.ld X.a14 (Rect.unit (s := S8x128x128) ![0, 0, 0] ![1, 128, 128] inb_S8x128x128_S1x128x128_0_0_0)
/-- A value of the kernel at the point. -/
def t479 (X : Blocks) : Vec Ideal S128x1 .f32 := View.ld X.a15 (Rect.unit (s := S128x8) ![0, 0] ![128, 1] inb_S128x8_S128x1_0_0)
/-- A value of the kernel at the point. -/
def tcst_152 (X : Blocks) : FVec Ideal S128x128 .f32 := constant S128x128 .f32 0x00000000#32
/-- A value of the kernel at the point. -/
def t470 (X : Blocks) : FVec Ideal S256x1024 .bf16 := k0_pay94 (t29 X) (t440 X) (t456 X)
/-- A value of the kernel at the point. -/
def t473 (X : Blocks) : IVec S128x128 1 := k0_pay95
/-- A value of the kernel at the point. -/
def t478 (X : Blocks) : FVec Ideal S128x128 .bf16 := k0_pay96 (t474 X)
/-- A value of the kernel at the point. -/
def t480 (X : Blocks) : FVec Ideal S128x1 .f32 := k0_pay97 (t479 X)
/-- A value of the kernel at the point. -/
def t481 (X : Blocks) : FVec Ideal S128x128 .bf16 := k0_pay98 (t29 X) (t440 X) (t456 X)
/-- A value of the kernel at the point. -/
def t501 (X : Blocks) : Vec Ideal S1x128x128 .f32 := View.ld X.a14 (Rect.unit (s := S8x128x128) ![1, 0, 0] ![1, 128, 128] inb_S8x128x128_S1x128x128_1_0_0)
/-- A value of the kernel at the point. -/
def t506 (X : Blocks) : Vec Ideal S128x1 .f32 := View.ld X.a15 (Rect.unit (s := S128x8) ![0, 1] ![128, 1] inb_S128x8_S128x1_0_1)
/-- A value of the kernel at the point. -/
def t519 (X : Blocks) : FVec Ideal S128x128 .f32 := k0_pay104 (t470 X) (t473 X) (t501 X)
/-- A value of the kernel at the point. -/
def t520 (X : Blocks) : FVec Ideal S128x128 .f32 := k0_pay105 (t506 X)
/-- A value of the kernel at the point. -/
def t528 (X : Blocks) : Vec Ideal S1x128x128 .f32 := View.ld X.a14 (Rect.unit (s := S8x128x128) ![2, 0, 0] ![1, 128, 128] inb_S8x128x128_S1x128x128_2_0_0)
/-- A value of the kernel at the point. -/
def t533 (X : Blocks) : Vec Ideal S128x1 .f32 := View.ld X.a15 (Rect.unit (s := S128x8) ![0, 2] ![128, 1] inb_S128x8_S128x1_0_2)
/-- A value of the kernel at the point. -/
def t555 (X : Blocks) : Vec Ideal S1x128x128 .f32 := View.ld X.a14 (Rect.unit (s := S8x128x128) ![3, 0, 0] ![1, 128, 128] inb_S8x128x128_S1x128x128_3_0_0)
/-- A value of the kernel at the point. -/
def tcst_188 (X : Blocks) : Ideal .f32 := Scalar.ofBits .f32 0x00000000#32
/-- A value of the kernel at the point. -/
def t556 (X : Blocks) : FVec Ideal S128x128 .f32 := k0_pay111 (t555 X)
/-- A value of the kernel at the point. -/
def t560 (X : Blocks) : Vec Ideal S128x1 .f32 := View.ld X.a15 (Rect.unit (s := S128x8) ![0, 3] ![128, 1] inb_S128x8_S128x1_0_3)
/-- A value of the kernel at the point. -/
def t582 (X : Blocks) : Vec Ideal S1x128x128 .f32 := View.ld X.a14 (Rect.unit (s := S8x128x128) ![4, 0, 0] ![1, 128, 128] inb_S8x128x128_S1x128x128_4_0_0)
/-- A value of the kernel at the point. -/
def t587 (X : Blocks) : Vec Ideal S128x1 .f32 := View.ld X.a15 (Rect.unit (s := S128x8) ![0, 4] ![128, 1] inb_S128x8_S128x1_0_4)
/-- A value of the kernel at the point. -/
def t586 (X : Blocks) : FVec Ideal S128x128 .bf16 := k0_pay116 (t473 X) (t582 X)
/-- A value of the kernel at the point. -/
def t588 (X : Blocks) : FVec Ideal S128x1 .f32 := k0_pay117 (t587 X)
/-- A value of the kernel at the point. -/
def t595 (X : Blocks) : FVec Ideal S128x128 .bf16 := k0_pay118 (t439 X) (t470 X) (t473 X) (t582 X) (t587 X)
/-- A value of the kernel at the point. -/
def t609 (X : Blocks) : Vec Ideal S1x128x128 .f32 := View.ld X.a14 (Rect.unit (s := S8x128x128) ![5, 0, 0] ![1, 128, 128] inb_S8x128x128_S1x128x128_5_0_0)
/-- A value of the kernel at the point. -/
def t614 (X : Blocks) : Vec Ideal S128x1 .f32 := View.ld X.a15 (Rect.unit (s := S128x8) ![0, 5] ![128, 1] inb_S128x8_S128x1_0_5)
/-- A value of the kernel at the point. -/
def t632 (X : Blocks) : FVec Ideal S128x128 .bf16 := k0_pay124 (t439 X) (t470 X) (t473 X) (t609 X) (t614 X)
/-- A value of the kernel at the point. -/
def t636 (X : Blocks) : Vec Ideal S1x128x128 .f32 := View.ld X.a14 (Rect.unit (s := S8x128x128) ![6, 0, 0] ![1, 128, 128] inb_S8x128x128_S1x128x128_6_0_0)
/-- A value of the kernel at the point. -/
def t641 (X : Blocks) : Vec Ideal S128x1 .f32 := View.ld X.a15 (Rect.unit (s := S128x8) ![0, 6] ![128, 1] inb_S128x8_S128x1_0_6)
/-- A value of the kernel at the point. -/
def t663 (X : Blocks) : Vec Ideal S1x128x128 .f32 := View.ld X.a14 (Rect.unit (s := S8x128x128) ![7, 0, 0] ![1, 128, 128] inb_S8x128x128_S1x128x128_7_0_0)
/-- A value of the kernel at the point. -/
def t668 (X : Blocks) : Vec Ideal S128x1 .f32 := View.ld X.a15 (Rect.unit (s := S128x8) ![0, 7] ![128, 1] inb_S128x8_S128x1_0_7)
/-- A value of the kernel at the point. -/
def t667 (X : Blocks) : FVec Ideal S128x128 .bf16 := k0_pay130 (t473 X) (t663 X)
/-- A value of the kernel at the point. -/
def t669 (X : Blocks) : FVec Ideal S128x1 .f32 := k0_pay131 (t668 X)
/-- A value of the kernel at the point. -/
def t670 (X : Blocks) : FVec Ideal S128x128 .bf16 := k0_pay132 (t470 X)

/-! The stored blocks. -/

/-- A stored block. -/
def sL (X : Blocks) : FVec Ideal S1x256x1024 .bf16 := k0_pay92 (t29 X) (t399 X) (t403 X)
/-- A stored block. -/
def s0_0 (X : Blocks) : FVec Ideal S1x128x128 .bf16 := k0_pay99 (t439 X) (t478 X) (t480 X) (t481 X) (tcst_152 X)
/-- A stored block. -/
def s0_1 (X : Blocks) : FVec Ideal S1x128x128 .bf16 := k0_pay100 (t439 X) (t470 X) (t478 X) (t480 X)
/-- A stored block. -/
def s1_0 (X : Blocks) : FVec Ideal S1x128x128 .bf16 := k0_pay103 (t439 X) (t470 X) (t473 X) (t501 X) (t506 X)
/-- A stored block. -/
def s1_1 (X : Blocks) : FVec Ideal S1x128x128 .bf16 := k0_pay106 (t439 X) (t519 X) (t520 X)
/-- A stored block. -/
def s2_0 (X : Blocks) : FVec Ideal S1x128x128 .bf16 := k0_pay109 (t439 X) (t470 X) (t473 X) (t528 X) (t533 X)
/-- A stored block. -/
def s2_1 (X : Blocks) : FVec Ideal S1x128x128 .bf16 := k0_pay110 (t439 X) (t470 X) (t473 X) (t528 X) (t533 X)
/-- A stored block. -/
def s3_0 (X : Blocks) : FVec Ideal S1x128x128 .bf16 := k0_pay114 (t439 X) (t470 X) (t473 X) (t556 X) (tcst_188 X) (t560 X)
/-- A stored block. -/
def s3_1 (X : Blocks) : FVec Ideal S1x128x128 .bf16 := k0_pay115 (t439 X) (t470 X) (t473 X) (t556 X) (tcst_188 X) (t560 X)
/-- A stored block. -/
def s4_0 (X : Blocks) : FVec Ideal S1x128x128 .bf16 := k0_pay119 (t595 X)
/-- A stored block. -/
def s4_1 (X : Blocks) : FVec Ideal S1x128x128 .bf16 := k0_pay120 (t439 X) (t470 X) (t586 X) (t588 X)
/-- A stored block. -/
def s5_0 (X : Blocks) : FVec Ideal S1x128x128 .bf16 := k0_pay123 (t439 X) (t470 X) (t473 X) (t609 X) (t614 X)
/-- A stored block. -/
def s5_1 (X : Blocks) : FVec Ideal S1x128x128 .bf16 := k0_pay125 (t632 X)
/-- A stored block. -/
def s6_0 (X : Blocks) : FVec Ideal S1x128x128 .bf16 := k0_pay128 (t439 X) (t470 X) (t473 X) (t636 X) (t641 X)
/-- A stored block. -/
def s6_1 (X : Blocks) : FVec Ideal S1x128x128 .bf16 := k0_pay129 (t439 X) (t470 X) (t473 X) (t636 X) (t641 X)
/-- A stored block. -/
def s7_0 (X : Blocks) : FVec Ideal S1x128x128 .bf16 := k0_pay1 (t439 X) (t667 X) (t669 X) (t670 X)
/-- A stored block. -/
def s7_1 (X : Blocks) : FVec Ideal S1x128x128 .bf16 := k0_pay2 (t439 X) (t470 X) (t667 X) (t669 X)

end Cert.Proof.Mix
-- ==== Proof.MixMath.lean ====
/-
  Facts about the numbers of the mixing call: the decay lies between zero and one, two forms of what is added agree, and three
  doubling rounds over eight rows compose eight steps of the recurrence.
-/
module

public import proofs.«01_k».proof.Proof.MixSpec

@[expose] public section

set_option maxRecDepth 16384

noncomputable section

namespace Cert.Proof.Mix

open Idealize.ShloMosaic

theorem two_bits : Ideal.ofBits .f32 0x40000000#32 = 2 := by
  rw [show (2 : EReal) = ((2 : ℝ) : EReal) by norm_cast]
  simp [Ideal.ofBits, Ideal.ieee, -EReal.coe_mul]; norm_num

theorem neg_eight_bits : Ideal.ofBits .f32 0xC1000000#32 = ((-8 : ℝ) : EReal) := by
  simp [Ideal.ofBits, Ideal.ieee, -EReal.coe_mul, -EReal.coe_neg]; norm_num

theorem exp_coe (r : ℝ) : Ideal.exp (r : EReal) = ((Real.exp r : ℝ) : EReal) := rfl
theorem tanh_coe (r : ℝ) : Ideal.tanh (r : EReal) = ((Real.tanh r : ℝ) : EReal) := rfl
theorem exp_bot : Ideal.exp ⊥ = 0 := rfl
theorem exp_top : Ideal.exp ⊤ = ⊤ := rfl
theorem tanh_bot : Ideal.tanh ⊥ = -1 := rfl
theorem tanh_top : Ideal.tanh ⊤ = 1 := rfl
theorem log_coe (r : ℝ) (h : ¬ r ≤ 0) : Ideal.log (r : EReal) = ((Real.log r : ℝ) : EReal) := if_neg h

/-- Two forms of one minus the squared decay. -/
theorem one_sub_sq (L : EReal) : (0 - Ideal.tanh L) * (Ideal.exp L * Ideal.exp L + 1) = -(Ideal.exp (2 * L) - 1) := by
  induction L using EReal.rec with
  | bot =>
    have e : (2 : EReal) * ⊥ = ⊥ := EReal.mul_bot_of_pos (by norm_num)
    rw [e, exp_bot, tanh_bot]
    simp
  | top =>
    have e : (2 : EReal) * ⊤ = ⊤ := EReal.mul_top_of_pos (by norm_num)
    rw [e, exp_top, tanh_top, EReal.top_mul_top]
    rw [EReal.top_add_of_ne_bot (by decide), zero_sub, EReal.mul_top_of_neg (by norm_num)]
    rw [show (⊤ : EReal) - 1 = ⊤ from EReal.top_sub_coe 1]
    rfl
  | coe r =>
    have e : (2 : EReal) * (r : EReal) = ((2 * r : ℝ) : EReal) := by norm_cast
    rw [e, exp_coe, exp_coe, tanh_coe]
    have h : (0 - Real.tanh r) * (Real.exp r * Real.exp r + 1) = -(Real.exp (2 * r) - 1) := by
      rw [Real.tanh_eq_sinh_div_cosh, Real.sinh_eq, Real.cosh_eq, two_mul, Real.exp_add, Real.exp_neg]
      have p := Real.exp_pos r
      field_simp
      ring
    exact_mod_cast congrArg ((↑) : ℝ → EReal) h

theorem exp_nonneg (x : EReal) : 0 ≤ Ideal.exp x := by
  induction x using EReal.rec with
  | bot => exact le_refl _
  | top => exact le_top
  | coe r => rw [exp_coe]; exact_mod_cast (Real.exp_pos r).le

theorem exp_le_one (x : EReal) (h : x ≤ 0) : Ideal.exp x ≤ 1 := by
  induction x using EReal.rec with
  | bot => exact zero_le_one
  | top => exact absurd h (by decide)
  | coe r =>
    have h' : r ≤ 0 := by exact_mod_cast h
    rw [exp_coe]; exact_mod_cast Real.exp_le_one_iff.mpr h'

theorem logistic_nonneg (x : EReal) : 0 ≤ Ideal.logistic x := by
  unfold Ideal.logistic Ideal.div
  have h := exp_nonneg (-x)
  have h1 : (0 : EReal) < 1 + Ideal.exp (-x) := lt_of_lt_of_le zero_lt_one (le_add_of_nonneg_right h)
  rw [if_neg h1.ne', one_mul]
  exact EReal.inv_nonneg_of_nonneg h1.le

theorem log_nonneg (x : EReal) (h : 1 ≤ x) : 0 ≤ Ideal.log x := by
  induction x using EReal.rec with
  | bot => exact absurd h (by decide)
  | top => exact le_top
  | coe r =>
    have h' : 1 ≤ r := by exact_mod_cast h
    have : ¬ r ≤ 0 := by linarith
    rw [log_coe _ this]
    exact_mod_cast Real.log_nonneg h'

theorem softplus_nonneg (y : EReal) : 0 ≤ softplus y := by
  unfold softplus Ideal.log1p
  exact add_nonneg (le_max_right _ _) (log_nonneg _ (le_add_of_nonneg_right (exp_nonneg _)))

variable (A : Args)

theorem logA_nonpos (b : Fin 8) (s : Fin 2048) (d : Fin 1024) : logA A b s d ≤ 0 := by
  unfold logA
  rw [neg_eight_bits]
  have h : (((-8 : ℝ) : EReal) * gate A A.wa A.ba b s d) ≤ 0 :=
    EReal.mul_nonpos_iff.mpr (.inr ⟨by exact_mod_cast (by norm_num : (-8 : ℝ) ≤ 0), logistic_nonneg _⟩)
  exact EReal.mul_nonpos_iff.mpr (.inr ⟨h, softplus_nonneg _⟩)

theorem aa_nonneg (b : Fin 8) (s : Fin 2048) (d : Fin 1024) : 0 ≤ aa A b s d := exp_nonneg _
theorem aa_ne_top (b : Fin 8) (s : Fin 2048) (d : Fin 1024) : aa A b s d ≠ ⊤ :=
  ne_top_of_le_ne_top (by decide) (exp_le_one _ (logA_nonpos A b s d))

theorem bb_eq (b : Fin 8) (s : Fin 2048) (d : Fin 1024) :
    bb A b s d = Ideal.sqrt ((0 - Ideal.tanh (logA A b s d)) * (aa A b s d * aa A b s d + 1)) * (gate A A.wi A.bi b s d * xc A b s d) := by
  unfold bb aa
  rw [two_bits, one_sub_sq]

/-- One step of a recurrence after another. -/
theorem compose (a a' b b' c : EReal) (h0 : 0 ≤ a) (ht : a ≠ ⊤) : (a * b' + b) + (a * a') * c = b + a * (b' + a' * c) := by
  rw [EReal.left_distrib_of_nonneg_of_ne_top h0 ht, mul_assoc, add_comm (a * b') b, add_assoc]

/-- A row's decay after a round that looks `d` rows back, within groups of eight. -/
def stepA (d : ℕ) (a : ℕ → EReal) (j : ℕ) : EReal := if d ≤ j % 8 then a j * a (j - d) else a j
/-- A row's added part after such a round. -/
def stepB (d : ℕ) (a b : ℕ → EReal) (j : ℕ) : EReal := if d ≤ j % 8 then a j * b (j - d) + b j else b j

/-- What a row holds when it spans up to `w` steps of the recurrence `h`, within groups of eight. -/
def Spans (h a b : ℕ → EReal) (w : ℕ) : Prop :=
  ∀ j, j < 256 → 0 ≤ a j ∧ a j ≠ ⊤ ∧ b j + a j * h (j + 1 - min (j % 8 + 1) w) = h (j + 1)

theorem spans_one (h a b : ℕ → EReal) (ha : ∀ j, j < 256 → 0 ≤ a j ∧ a j ≠ ⊤) (hs : ∀ j, j < 256 → h (j + 1) = a j * h j + b j) : Spans h a b 1 := by
  intro j hj
  refine ⟨(ha j hj).1, (ha j hj).2, ?_⟩
  have : j + 1 - min (j % 8 + 1) 1 = j := by omega
  rw [this, hs j hj, add_comm]

theorem spans_double (h a b : ℕ → EReal) (d : ℕ) (hd : 0 < d) (hS : Spans h a b d) : Spans h (stepA d a) (stepB d a b) (2 * d) := by
  intro j hj
  obtain ⟨h0, ht, he⟩ := hS j hj
  unfold stepA stepB
  by_cases hc : d ≤ j % 8
  · obtain ⟨h0', ht', he'⟩ := hS (j - d) (by omega)
    rw [if_pos hc, if_pos hc]
    refine ⟨mul_nonneg h0 h0', ?_, ?_⟩
    · lift a j to ℝ using ⟨ht, (lt_of_lt_of_le (by decide) h0).ne'⟩ with p
      lift a (j - d) to ℝ using ⟨ht', (lt_of_lt_of_le (by decide) h0').ne'⟩ with q
      rw [← EReal.coe_mul]
      exact EReal.coe_ne_top _
    · rw [compose _ _ _ _ _ h0 ht]
      have e1 : j + 1 - min (j % 8 + 1) (2 * d) = j - d + 1 - min ((j - d) % 8 + 1) d := by omega
      have e2 : j - d + 1 = j + 1 - min (j % 8 + 1) d := by omega
      rw [e1, he', e2, he]
  · rw [if_neg hc, if_neg hc]
    have e : j + 1 - min (j % 8 + 1) (2 * d) = j + 1 - min (j % 8 + 1) d := by omega
    rw [e]
    exact ⟨h0, ht, he⟩

/-- After three rounds a row spans its group from the group's start. -/
theorem rounds (h a b : ℕ → EReal) (ha : ∀ j, j < 256 → 0 ≤ a j ∧ a j ≠ ⊤) (hs : ∀ j, j < 256 → h (j + 1) = a j * h j + b j) (q k : ℕ) (hk : k < 8) (hq : q < 32) :
    stepB 4 (stepA 2 (stepA 1 a)) (stepB 2 (stepA 1 a) (stepB 1 a b)) (8 * q + k)
      + stepA 4 (stepA 2 (stepA 1 a)) (8 * q + k) * h (8 * q) = h (8 * q + k + 1) := by
  have s1 := spans_one h a b ha hs
  have s2 := spans_double h _ _ 1 (by decide) s1
  have s3 := spans_double h _ _ 2 (by decide) s2
  have s4 := spans_double h _ _ 4 (by decide) s3
  obtain ⟨_, _, he⟩ := s4 (8 * q + k) (by omega)
  have e : 8 * q + k + 1 - min ((8 * q + k) % 8 + 1) (2 * 4) = 8 * q := by omega
  rw [e] at he
  exact he

end Cert.Proof.Mix
-- ==== Proof.MixBlock.lean ====
/-
  The mixing kernel's values at one grid point, index by index, from blocks that hold the call's arguments there.
-/
module

public import proofs.«01_k».proof.Proof.MixTile
public import proofs.«01_k».proof.Proof.MixMath

@[expose] public section

set_option maxRecDepth 16384

noncomputable section

namespace Cert.Proof.Mix

open Idealize.ShloMosaic Cert.Kernel3Ideal Cert.Kernel3Ideal.Gen

/-- Row `r` of tile `q`, as a position. -/
def pos (q : Fin 8) (r : Fin 256) : Fin 2048 := ⟨q.val * 256 + r.val, by omega⟩

/-- The blocks hold the arguments at batch entry `b` and tile `q`. -/
structure Good (A : Args) (b q : Fin 8) (X : Blocks) : Prop where
  hx : ∀ r k, X.a2 (ix3 (0 : Fin 1) r k) = A.x (ix3 b (pos q r) k)
  hmd : ∀ i k, X.a3 (ix3 (0 : Fin 1) i k) = A.md (ix3 b i k)
  hg : ∀ k, X.a4 (ix2 (0 : Fin 1) k) = A.g (ix2 (0 : Fin 1) k)
  hw : ∀ k e, X.a5 (ix2 k e) = A.win (ix3 (0 : Fin 1) k e)
  hcw : ∀ j d, X.a6 (ix2 j d) = A.cw (ix3 (0 : Fin 1) j d)
  hcb : ∀ d, X.a7 (ix2 (0 : Fin 1) d) = A.cb (ix2 (0 : Fin 1) d)
  hwa : ∀ h k l, X.a8 (ix3 h k l) = A.wa (ix4 (0 : Fin 1) h k l)
  hba : ∀ d : Fin 1024, X.a9 (ix2 (0 : Fin 1) d) = A.ba (ix3 (0 : Fin 1) (⟨d.val / 128, by omega⟩ : Fin 8) (⟨d.val % 128, by omega⟩ : Fin 128))
  hwi : ∀ h k l, X.a10 (ix3 h k l) = A.wi (ix4 (0 : Fin 1) h k l)
  hbi : ∀ d : Fin 1024, X.a11 (ix2 (0 : Fin 1) d) = A.bi (ix3 (0 : Fin 1) (⟨d.val / 128, by omega⟩ : Fin 8) (⟨d.val % 128, by omega⟩ : Fin 128))
  hlam : ∀ d, X.a12 (ix2 (0 : Fin 1) d) = A.lam (ix2 (0 : Fin 1) d)
  hgv : ∀ d, X.a13 (ix2 (0 : Fin 1) d) = A.gv (ix2 (0 : Fin 1) d)
  hws : ∀ h k l, X.a14 (ix3 h k l) = A.ws (ix4 (0 : Fin 1) h k l)
  hbs : ∀ i g, X.a15 (ix2 i g) = A.bs (ix3 (0 : Fin 1) g i)
  hE0 : ∀ r d, X.e46 (ix2 r d) = xpad A b ((pos q r).val) d
  hE1 : ∀ r d, X.e52 (ix2 r d) = xpad A b ((pos q r).val + 1) d
  hE2 : ∀ r d, X.e58 (ix2 r d) = xpad A b ((pos q r).val + 2) d
  hH : ∀ d, X.h0 (ix2 (0 : Fin 1) d) = rec A b d (q.val * 256)

variable {A : Args} {b q : Fin 8} {X : Blocks}

theorem gelu_half (z : EReal) :
    Ideal.ofBits .f32 0x3F000000#32 * z * (1 + Ideal.tanh (Ideal.ofBits .f32 0x3F4C422A#32 * (z + Ideal.ofBits .f32 0x3D372713#32 * (z * z * z)))) = gelu z := by
  unfold gelu
  rw [mul_comm (Ideal.ofBits .f32 0x3F000000#32) z, mul_assoc]

theorem t29_apply (G : Good A b q X) (r : Fin 256) (k : Fin 2048) : t29 X (ix2 r k) = hn A b (pos q r) k := by
  pointwise [t29, k0_pay5, t3, t5, t7, t9, G.hx, G.hmd, G.hg, hn, meanSq]

theorem t32_apply (G : Good A b q X) (r : Fin 256) (d : Fin 1024) : t32 X (ix2 r d) = xl A b (pos q r) d := by
  have h (k : Fin 2048) : k0_pay5 (t3 X) (t5 X) (t7 X) (t9 X) (ix2 r k) = hn A b (pos q r) k := t29_apply G r k
  pointwise [t32, k0_pay6, t30, h, G.hw, xl, proj]

theorem yg_apply (G : Good A b q X) (r : Fin 256) (d : Fin 1024) :
    (∑ k : Fin 2048, hn A b (pos q r) k * X.a5 (ix2 k (⟨1024 + d.val, by omega⟩ : Fin 4096))) = yg A b (pos q r) d := by
  simp only [G.hw]; rfl

theorem t439_apply (G : Good A b q X) (r : Fin 256) (d : Fin 1024) : t439 X (ix2 r d) = gelu (uu A b (pos q r) d) := by
  rw [← gelu_half]
  pointwise [t439, k0_pay93, t424, t29_apply G, G.hw, uu, proj]

theorem t470_apply (G : Good A b q X) (r : Fin 256) (d : Fin 1024) : t470 X (ix2 r d) = vn A b (pos q r) d := by
  unfold vn meanSqV
  simp only [← gelu_half]
  pointwise [t470, k0_pay94, t440, t456, t29_apply G, G.hw, G.hgv, vv, proj]

/-- The left half's stored block, from the recurrence's values. -/
theorem sL_apply (G : Good A b q X) (R : Fin 256 → Fin 1024 → EReal) (hR : ∀ r d, t399 X (ix2 r d) = R r d) (r : Fin 256) (d : Fin 1024) :
    sL X (ix3 (0 : Fin 1) r d) = R r d * gelu (yg A b (pos q r) d) := by
  rw [← gelu_half]
  pointwise [sL, k0_pay92, t403, t29_apply G, hR, G.hw, yg, proj]

theorem five (a b c d e : EReal) : e + d + a + b + c = a + b + c + d + e := by ac_rfl

theorem t61_apply (G : Good A b q X) (r : Fin 256) (d : Fin 1024) : t61 X (ix2 r d) = xc A b (pos q r) d := by
  have hx3 : xpad A b ((pos q r).val + 3) d = xl A b (pos q r) d := by
    unfold xpad
    have h1 : 3 ≤ (pos q r).val + 3 ∧ (pos q r).val + 3 - 3 < 2048 := ⟨by omega, by have := (pos q r).isLt; omega⟩
    rw [dif_pos h1]
    rfl
  unfold xc
  rw [hx3]
  pointwise [t61, k0_pay8, t36, t38, t44, t46, t50, t52, t56, t58, t32_apply G, G.hcw, G.hcb, G.hE0, G.hE1, G.hE2]
  exact five _ _ _ _ _

end Cert.Proof.Mix
-- ==== Proof.MixScan.lean ====
/-
  The mixing kernel's recurrence over one tile: three rounds inside groups of eight rows, then the groups one after another.
-/
module

public import proofs.«01_k».proof.Proof.MixBlock
public import Idealize.ShloMosaic.Lib.Pipeline.Value

@[expose] public section

set_option maxRecDepth 16384

noncomputable section

namespace Cert.Proof.Mix

open Idealize.ShloMosaic Cert.Kernel3Ideal Cert.Kernel3Ideal.Gen

variable {A : Args} {b q : Fin 8} {X : Blocks}

theorem place_apply (r : Fin 256) (d : Fin 1024) : k0_pay40 (t164 X) (t166 X) (t168 X) (t170 X) (t172 X) (ix2 r d) = BitVec.ofNat 32 (r.val % 8) := by
  pointwise [k0_pay40, t164, t163, t166, t168, t170, t172, k0_pay36, k0_pay37, k0_pay38, k0_pay39]
  revert r
  decide +kernel

theorem at_least (w : ℕ) (h : w = 1 ∨ w = 2 ∨ w = 4) : ∀ j : Fin 8, IntOp.cmpi CmpIPredicate.sge (BitVec.ofNat 32 j.val) (BitVec.ofNat 32 w) = if w ≤ j.val then 1#1 else 0#1 := by
  rcases h with rfl | rfl | rfl <;> decide +kernel

theorem select_at (w : ℕ) (h : w = 1 ∨ w = 2 ∨ w = 4) (r : ℕ) (x y : EReal) :
    Scalar.select (IntOp.cmpi CmpIPredicate.sge (BitVec.ofNat 32 (r % 8)) (BitVec.ofNat 32 w)) x y = if w ≤ r % 8 then x else y := by
  rw [at_least w h ⟨r % 8, Nat.mod_lt _ (by decide)⟩]
  by_cases hc : w ≤ r % 8
  · rw [if_pos hc, if_pos hc]; rfl
  · rw [if_neg hc, if_neg hc]; rfl

/-- A round's decay, from the last round's. -/
theorem round_a (w : ℕ) (hw : w = 1 ∨ w = 2 ∨ w = 4) (a : FVec Ideal S256x1024 .f32) (d : Fin 1024) (f : ℕ → EReal)
    (hf : ∀ r : Fin 256, a (ix2 r d) = f r.val) (r : Fin 256) (s : Fin 256) (hs : s.val = (r.val + 256 - w) % 256) :
    Scalar.select (IntOp.cmpi CmpIPredicate.sge (BitVec.ofNat 32 (r.val % 8)) (BitVec.ofNat 32 w)) (a (ix2 r d) * a (ix2 s d)) (a (ix2 r d)) = stepA w f r.val := by
  rw [select_at w hw, hf, hf]
  unfold stepA
  by_cases hc : w ≤ r.val % 8
  · rw [if_pos hc, if_pos hc]
    have : s.val = r.val - w := by omega
    rw [this]
  · rw [if_neg hc, if_neg hc]

/-- A round's added part, from the last round's. -/
theorem round_b (w : ℕ) (hw : w = 1 ∨ w = 2 ∨ w = 4) (a c : FVec Ideal S256x1024 .f32) (d : Fin 1024) (f g : ℕ → EReal)
    (hf : ∀ r : Fin 256, a (ix2 r d) = f r.val) (hg : ∀ r : Fin 256, c (ix2 r d) = g r.val) (r : Fin 256) (s : Fin 256) (hs : s.val = (r.val + 256 - w) % 256) :
    Scalar.select (IntOp.cmpi CmpIPredicate.sge (BitVec.ofNat 32 (r.val % 8)) (BitVec.ofNat 32 w)) (a (ix2 r d) * c (ix2 s d) + c (ix2 r d)) (c (ix2 r d)) = stepB w f g r.val := by
  rw [select_at w hw, hf, hg, hg]
  unfold stepB
  by_cases hc : w ≤ r.val % 8
  · rw [if_pos hc, if_pos hc]
    have : s.val = r.val - w := by omega
    rw [this]
  · rw [if_neg hc, if_neg hc]

section Rounds
variable {d : Fin 1024} {f g : ℕ → EReal}

theorem p42_apply (hf : ∀ r : Fin 256, t151 X (ix2 r d) = f r.val) (r : Fin 256) :
    k0_pay42 (t151 X) (t164 X) (t166 X) (t168 X) (t170 X) (t172 X) (ix2 r d) = stepA 1 f r.val := by
  refine Eq.trans ?_ (round_a 1 (.inl rfl) (t151 X) d f hf r ⟨(r.val + 256 - 1) % 256, Nat.mod_lt _ (by decide)⟩ rfl)
  pointwise [k0_pay42, k0_pay41, place_apply]

theorem p44_apply (hf : ∀ r : Fin 256, t151 X (ix2 r d) = f r.val) (r : Fin 256) :
    k0_pay44 (t151 X) (t164 X) (t166 X) (t168 X) (t170 X) (t172 X) (ix2 r d) = stepA 2 (stepA 1 f) r.val := by
  refine Eq.trans ?_ (round_a 2 (.inr (.inl rfl)) _ d _ (p42_apply hf) r ⟨(r.val + 256 - 2) % 256, Nat.mod_lt _ (by decide)⟩ rfl)
  pointwise [k0_pay44, k0_pay43, place_apply]

theorem t205_apply (hf : ∀ r : Fin 256, t151 X (ix2 r d) = f r.val) (r : Fin 256) :
    t205 X (ix2 r d) = stepA 4 (stepA 2 (stepA 1 f)) r.val := by
  refine Eq.trans ?_ (round_a 4 (.inr (.inr rfl)) _ d _ (p44_apply hf) r ⟨(r.val + 256 - 4) % 256, Nat.mod_lt _ (by decide)⟩ rfl)
  pointwise [t205, k0_pay47, k0_pay45, place_apply]

/-- The added part after the first round. -/
def tb1 (X : Blocks) : FVec Ideal S256x1024 .f32 :=
  select (k0_pay41 (t164 X) (t166 X) (t168 X) (t170 X) (t172 X)) (addf (mulf (t151 X) (dynamicRotate 0 1#32 none (t161 X) rotates_S256x1024_d0)) (t161 X)) (t161 X)
/-- The added part after the second round. -/
def tb2 (X : Blocks) : FVec Ideal S256x1024 .f32 :=
  select (k0_pay43 (t164 X) (t166 X) (t168 X) (t170 X) (t172 X)) (addf (mulf (k0_pay42 (t151 X) (t164 X) (t166 X) (t168 X) (t170 X) (t172 X)) (dynamicRotate 0 2#32 none (tb1 X) rotates_S256x1024_d0)) (tb1 X)) (tb1 X)
theorem t203_eq : t203 X =
  select (k0_pay45 (t164 X) (t166 X) (t168 X) (t170 X) (t172 X)) (addf (mulf (k0_pay44 (t151 X) (t164 X) (t166 X) (t168 X) (t170 X) (t172 X)) (dynamicRotate 0 4#32 none (tb2 X) rotates_S256x1024_d0)) (tb2 X)) (tb2 X) := rfl

theorem tb1_apply (hf : ∀ r : Fin 256, t151 X (ix2 r d) = f r.val) (hg : ∀ r : Fin 256, t161 X (ix2 r d) = g r.val) (r : Fin 256) :
    tb1 X (ix2 r d) = stepB 1 f g r.val := by
  refine Eq.trans ?_ (round_b 1 (.inl rfl) (t151 X) (t161 X) d f g hf hg r ⟨(r.val + 256 - 1) % 256, Nat.mod_lt _ (by decide)⟩ rfl)
  pointwise [tb1, k0_pay41, place_apply]

theorem tb2_apply (hf : ∀ r : Fin 256, t151 X (ix2 r d) = f r.val) (hg : ∀ r : Fin 256, t161 X (ix2 r d) = g r.val) (r : Fin 256) :
    tb2 X (ix2 r d) = stepB 2 (stepA 1 f) (stepB 1 f g) r.val := by
  refine Eq.trans ?_ (round_b 2 (.inr (.inl rfl)) _ _ d _ _ (p42_apply hf) (tb1_apply hf hg) r ⟨(r.val + 256 - 2) % 256, Nat.mod_lt _ (by decide)⟩ rfl)
  pointwise [tb2, k0_pay43, place_apply]

theorem t203_apply (hf : ∀ r : Fin 256, t151 X (ix2 r d) = f r.val) (hg : ∀ r : Fin 256, t161 X (ix2 r d) = g r.val) (r : Fin 256) :
    t203 X (ix2 r d) = stepB 4 (stepA 2 (stepA 1 f)) (stepB 2 (stepA 1 f) (stepB 1 f g)) r.val := by
  refine Eq.trans ?_ (round_b 4 (.inr (.inr rfl)) _ _ d _ _ (p44_apply hf) (tb2_apply hf hg) r ⟨(r.val + 256 - 4) % 256, Nat.mod_lt _ (by decide)⟩ rfl)
  rw [t203_eq]
  pointwise [k0_pay45, place_apply]

end Rounds

end Cert.Proof.Mix
-- ==== Proof.MixGate.lean ====
/-
  The mixing kernel's two gates, decay and added term at one grid point.
-/
module

public import proofs.«01_k».proof.Proof.MixBlock
public import Idealize.ShloMosaic.Lib.Pipeline.Value

@[expose] public section

set_option maxRecDepth 16384

noncomputable section

namespace Cert.Proof.Mix

open Idealize.ShloMosaic Cert.Kernel3Ideal Cert.Kernel3Ideal.Gen

variable {A : Args} {b q : Fin 8} {X : Blocks}

theorem t66_apply (G : Good A b q X) (r : Fin 256) (d : Fin 1024) : t66 X (ix2 r d) = xc A b (pos q r) d := t61_apply G r d

/-- A head's block times its part of the convolved row. -/
def headSum (A : Args) (w : Vec Ideal ⟨4, ![1, 8, 128, 128]⟩ .f32) (b q : Fin 8) (r : Fin 256) (h : Fin 8) (e : Fin 128) : EReal :=
  ∑ k : Fin 128, w (ix4 (0 : Fin 1) h k e) * xc A b (pos q r) (⟨h.val * 128 + k.val, by omega⟩ : Fin 1024)

theorem headA0 (G : Good A b q X) (r : Fin 256) (e : Fin 128) :
    (t70 X : FVec Ideal S256x128 .f32) (ix2 r e) = headSum A A.wa b q r 0 e := by
  have h61 (d : Fin 1024) : k0_pay8 (t32 X) (t36 X) (t38 X) (t44 X) (t46 X) (t50 X) (t52 X) (t56 X) (t58 X) (ix2 r d) = xc A b (pos q r) d := t61_apply G r d
  unfold headSum
  simp only [mul_comm (A.wa _)]
  pointwise [t70, k0_pay12, t67, k0_pay11, k0_pay10, t68, h61, G.hwa]

theorem headA1 (G : Good A b q X) (r : Fin 256) (e : Fin 128) :
    (t77 X : FVec Ideal S256x128 .f32) (ix2 r e) = headSum A A.wa b q r 1 e := by
  unfold headSum
  simp only [mul_comm (A.wa _)]
  pointwise [t77, k0_pay15, k0_pay14, t75, t66_apply G, G.hwa]

theorem headA2 (G : Good A b q X) (r : Fin 256) (e : Fin 128) :
    (t84 X : FVec Ideal S256x128 .f32) (ix2 r e) = headSum A A.wa b q r 2 e := by
  unfold headSum
  simp only [mul_comm (A.wa _)]
  pointwise [t84, k0_pay18, k0_pay17, t82, t66_apply G, G.hwa]

theorem headA3 (G : Good A b q X) (r : Fin 256) (e : Fin 128) :
    (t91 X : FVec Ideal S256x128 .f32) (ix2 r e) = headSum A A.wa b q r 3 e := by
  unfold headSum
  simp only [mul_comm (A.wa _)]
  pointwise [t91, k0_pay21, k0_pay20, t89, t66_apply G, G.hwa]

theorem headA4 (G : Good A b q X) (r : Fin 256) (e : Fin 128) :
    (t98 X : FVec Ideal S256x128 .f32) (ix2 r e) = headSum A A.wa b q r 4 e := by
  unfold headSum
  simp only [mul_comm (A.wa _)]
  pointwise [t98, k0_pay24, t95, k0_pay23, t96, t66_apply G, G.hwa]

theorem headA5 (G : Good A b q X) (r : Fin 256) (e : Fin 128) :
    ((matmul dot_S256x128_S128x128_S256x128_1_0_0_1_n_n none (k0_pay26 (t66 X)) (shapeCast S128x128 (t103 X) shapeCasts_S1x128x128_S128x128 : FVec Ideal S128x128 .bf16) (constant S256x128 .f32 0x00000000#32)) : FVec Ideal S256x128 .f32) (ix2 r e) = headSum A A.wa b q r 5 e := by
  unfold headSum
  simp only [mul_comm (A.wa _)]
  pointwise [k0_pay26, t103, t66_apply G, G.hwa]

theorem headA6 (G : Good A b q X) (r : Fin 256) (e : Fin 128) :
    ((matmul dot_S256x128_S128x128_S256x128_1_0_0_1_n_n none (k0_pay28 (t66 X)) (shapeCast S128x128 (t110 X) shapeCasts_S1x128x128_S128x128 : FVec Ideal S128x128 .bf16) (constant S256x128 .f32 0x00000000#32)) : FVec Ideal S256x128 .f32) (ix2 r e) = headSum A A.wa b q r 6 e := by
  unfold headSum
  simp only [mul_comm (A.wa _)]
  pointwise [k0_pay28, t110, t66_apply G, G.hwa]

theorem headA7 (G : Good A b q X) (r : Fin 256) (e : Fin 128) :
    ((matmul dot_S256x128_S128x128_S256x128_1_0_0_1_n_n none (k0_pay30 (t66 X)) (shapeCast S128x128 (t117 X) shapeCasts_S1x128x128_S128x128 : FVec Ideal S128x128 .bf16) (constant S256x128 .f32 0x00000000#32)) : FVec Ideal S256x128 .f32) (ix2 r e) = headSum A A.wa b q r 7 e := by
  unfold headSum
  simp only [mul_comm (A.wa _)]
  pointwise [k0_pay30, t117, t66_apply G, G.hwa]

/-- The eight heads' products. -/
def headsA (X : Blocks) : Fin 8 → FVec Ideal S256x128 .f32 := ![t70 X, t77 X, t84 X, t91 X, t98 X, (matmul dot_S256x128_S128x128_S256x128_1_0_0_1_n_n none (k0_pay26 (t66 X)) (shapeCast S128x128 (t103 X) shapeCasts_S1x128x128_S128x128 : FVec Ideal S128x128 .bf16) (constant S256x128 .f32 0x00000000#32)), (matmul dot_S256x128_S128x128_S256x128_1_0_0_1_n_n none (k0_pay28 (t66 X)) (shapeCast S128x128 (t110 X) shapeCasts_S1x128x128_S128x128 : FVec Ideal S128x128 .bf16) (constant S256x128 .f32 0x00000000#32)), (matmul dot_S256x128_S128x128_S256x128_1_0_0_1_n_n none (k0_pay30 (t66 X)) (shapeCast S128x128 (t117 X) shapeCasts_S1x128x128_S128x128 : FVec Ideal S128x128 .bf16) (constant S256x128 .f32 0x00000000#32))]

theorem headsA_apply (G : Good A b q X) (r : Fin 256) (h : Fin 8) (e : Fin 128) : headsA X h (ix2 r e) = headSum A A.wa b q r h e := by
  fin_cases h
  · exact headA0 G r e
  · exact headA1 G r e
  · exact headA2 G r e
  · exact headA3 G r e
  · exact headA4 G r e
  · exact headA5 G r e
  · exact headA6 G r e
  · exact headA7 G r e

theorem headI0 (G : Good A b q X) (r : Fin 256) (e : Fin 128) :
    (t73 X : FVec Ideal S256x128 .f32) (ix2 r e) = headSum A A.wi b q r 0 e := by
  have h61 (d : Fin 1024) : k0_pay8 (t32 X) (t36 X) (t38 X) (t44 X) (t46 X) (t50 X) (t52 X) (t56 X) (t58 X) (ix2 r d) = xc A b (pos q r) d := t61_apply G r d
  unfold headSum
  simp only [mul_comm (A.wi _)]
  pointwise [t73, k0_pay13, t67, k0_pay11, k0_pay10, t71, h61, G.hwi]

theorem headI1 (G : Good A b q X) (r : Fin 256) (e : Fin 128) :
    (t80 X : FVec Ideal S256x128 .f32) (ix2 r e) = headSum A A.wi b q r 1 e := by
  unfold headSum
  simp only [mul_comm (A.wi _)]
  pointwise [t80, k0_pay16, k0_pay14, t78, t66_apply G, G.hwi]

theorem headI2 (G : Good A b q X) (r : Fin 256) (e : Fin 128) :
    (t87 X : FVec Ideal S256x128 .f32) (ix2 r e) = headSum A A.wi b q r 2 e := by
  unfold headSum
  simp only [mul_comm (A.wi _)]
  pointwise [t87, k0_pay19, k0_pay17, t85, t66_apply G, G.hwi]

theorem headI3 (G : Good A b q X) (r : Fin 256) (e : Fin 128) :
    (t94 X : FVec Ideal S256x128 .f32) (ix2 r e) = headSum A A.wi b q r 3 e := by
  unfold headSum
  simp only [mul_comm (A.wi _)]
  pointwise [t94, k0_pay22, k0_pay20, t92, t66_apply G, G.hwi]

theorem headI4 (G : Good A b q X) (r : Fin 256) (e : Fin 128) :
    (t101 X : FVec Ideal S256x128 .f32) (ix2 r e) = headSum A A.wi b q r 4 e := by
  unfold headSum
  simp only [mul_comm (A.wi _)]
  pointwise [t101, k0_pay25, t95, k0_pay23, t99, t66_apply G, G.hwi]

theorem headI5 (G : Good A b q X) (r : Fin 256) (e : Fin 128) :
    (t108 X : FVec Ideal S256x128 .f32) (ix2 r e) = headSum A A.wi b q r 5 e := by
  unfold headSum
  simp only [mul_comm (A.wi _)]
  pointwise [t108, k0_pay27, k0_pay26, t106, t66_apply G, G.hwi]

theorem headI6 (G : Good A b q X) (r : Fin 256) (e : Fin 128) :
    (t115 X : FVec Ideal S256x128 .f32) (ix2 r e) = headSum A A.wi b q r 6 e := by
  unfold headSum
  simp only [mul_comm (A.wi _)]
  pointwise [t115, k0_pay29, k0_pay28, t113, t66_apply G, G.hwi]

theorem headI7 (G : Good A b q X) (r : Fin 256) (e : Fin 128) :
    (t122 X : FVec Ideal S256x128 .f32) (ix2 r e) = headSum A A.wi b q r 7 e := by
  unfold headSum
  simp only [mul_comm (A.wi _)]
  pointwise [t122, k0_pay31, k0_pay30, t120, t66_apply G, G.hwi]

/-- The eight heads' products. -/
def headsI (X : Blocks) : Fin 8 → FVec Ideal S256x128 .f32 := ![t73 X, t80 X, t87 X, t94 X, t101 X, t108 X, t115 X, t122 X]

theorem headsI_apply (G : Good A b q X) (r : Fin 256) (h : Fin 8) (e : Fin 128) : headsI X h (ix2 r e) = headSum A A.wi b q r h e := by
  fin_cases h
  · exact headI0 G r e
  · exact headI1 G r e
  · exact headI2 G r e
  · exact headI3 G r e
  · exact headI4 G r e
  · exact headI5 G r e
  · exact headI6 G r e
  · exact headI7 G r e

theorem concat_heads (f : Fin 8 → FVec Ideal S256x128 .f32) (r : Fin 256) (d : Fin 1024) :
    concatenate S256x1024 1 (List.ofFn fun n => (⟨S256x128, f n⟩ : (s : Shape) × (s.Idx → Ideal .f32))) concatenates_S256x128_S256x128_S256x128_S256x128_S256x128_S256x128_S256x128_S256x128_S256x1024_d1 (ix2 r d)
      = f (⟨d.val / 128, by omega⟩ : Fin 8) (ix2 r (⟨d.val % 128, by omega⟩ : Fin 128)) :=
  concatenate_ofFn_apply (t := S256x1024) (s₁ := S256x128) 1 f _ rfl 128 rfl (ix2 r d) (⟨d.val / 128, by omega⟩ : Fin 8) rfl (ix2 r (⟨d.val % 128, by omega⟩ : Fin 128)) rfl
    (fun b hb => by fin_cases b <;> first | rfl | exact absurd rfl hb)

theorem t128_apply (G : Good A b q X) (r : Fin 256) (d : Fin 1024) : t128 X (ix2 r d) = gate A A.wa A.ba b (pos q r) d := by
  have e : t128 X = logistic (addf (concatenate S256x1024 1 (List.ofFn fun n => (⟨S256x128, headsA X n⟩ : (s : Shape) × (s.Idx → Ideal .f32))) concatenates_S256x128_S256x128_S256x128_S256x128_S256x128_S256x128_S256x128_S256x128_S256x1024_d1)
      (broadcastTo S256x1024 (shapeCast S1x1024 (t124 X) shapeCasts_S1x1024_S1x1024) broadcasts_S1x1024_S256x1024)) := rfl
  have h := (concat_heads (headsA X) r d).trans (headsA_apply G r _ _)
  rw [e]
  generalize concatenate S256x1024 1 (List.ofFn fun n => (⟨S256x128, headsA X n⟩ : (s : Shape) × (s.Idx → Ideal .f32))) concatenates_S256x128_S256x128_S256x128_S256x128_S256x128_S256x128_S256x128_S256x128_S256x1024_d1 = C at h
  pointwise [h, t124, G.hba, gate, headSum]

/-- The input gate, as the kernel has it. -/
def tI (X : Blocks) : FVec Ideal S256x1024 .f32 :=
  logistic (addf (concatenate S256x1024 1 (List.ofFn fun n => (⟨S256x128, headsI X n⟩ : (s : Shape) × (s.Idx → Ideal .f32))) concatenates_S256x128_S256x128_S256x128_S256x128_S256x128_S256x128_S256x128_S256x128_S256x1024_d1)
      (broadcastTo S256x1024 (shapeCast S1x1024 (t130 X) shapeCasts_S1x1024_S1x1024) broadcasts_S1x1024_S256x1024))

theorem tI_apply (G : Good A b q X) (r : Fin 256) (d : Fin 1024) : tI X (ix2 r d) = gate A A.wi A.bi b (pos q r) d := by
  have h := (concat_heads (headsI X) r d).trans (headsI_apply G r _ _)
  unfold tI
  generalize concatenate S256x1024 1 (List.ofFn fun n => (⟨S256x128, headsI X n⟩ : (s : Shape) × (s.Idx → Ideal .f32))) concatenates_S256x128_S256x128_S256x128_S256x128_S256x128_S256x128_S256x128_S256x128_S256x1024_d1 = C at h
  pointwise [h, t130, G.hbi, gate, headSum]

/-- The decay's logarithm, as the kernel has it. -/
def tL (X : Blocks) : FVec Ideal S256x1024 .f32 := k0_pay33 (t128 X) (t137 X)

theorem tL_apply (G : Good A b q X) (r : Fin 256) (d : Fin 1024) : tL X (ix2 r d) = logA A b (pos q r) d := by
  unfold logA softplus
  pointwise [tL, k0_pay33, t137, t128_apply G, G.hlam]
  simp only [zero_sub]
  rfl

theorem t151_apply (G : Good A b q X) (r : Fin 256) (d : Fin 1024) : t151 X (ix2 r d) = aa A b (pos q r) d :=
  congrArg Ideal.exp (tL_apply G r d)

theorem t161_apply (G : Good A b q X) (r : Fin 256) (d : Fin 1024) : t161 X (ix2 r d) = bb A b (pos q r) d := by
  have e : t161 X = mulf (sqrt (mulf (subf (broadcast S256x1024 (Scalar.ofBits .f32 0x00000000#32)) (tanh (tL X)))
      (addf (mulf (t151 X) (t151 X)) (broadcast S256x1024 (Scalar.ofBits .f32 0x3F800000#32))))) (mulf (tI X) (t61 X)) := rfl
  rw [bb_eq, e]
  pointwise [tL_apply G, t151_apply G, tI_apply G, t61_apply G]

end Cert.Proof.Mix
-- ==== Proof.MixGroups.lean ====
/-
  The mixing kernel's thirty-two groups of eight rows, each from the last row of the group before, and the tile they make.
-/
module

public import proofs.«01_k».proof.Proof.MixScan
public import proofs.«01_k».proof.Proof.MixGate
public import Idealize.ShloMosaic.Lib.Pipeline.Value

@[expose] public section

set_option maxRecDepth 16384

noncomputable section

namespace Cert.Proof.Mix

open Idealize.ShloMosaic Cert.Kernel3Ideal Cert.Kernel3Ideal.Gen

variable {A : Args} {b q : Fin 8} {X : Blocks}

/-- The groups. -/
def grp (X : Blocks) : Fin 32 → FVec Ideal S8x1024 .f32 := ![
  t211 X,
  t217 X,
  t223 X,
  t229 X,
  t235 X,
  t241 X,
  t247 X,
  t253 X,
  t259 X,
  t265 X,
  t271 X,
  t277 X,
  t283 X,
  t289 X,
  t295 X,
  t301 X,
  t307 X,
  t313 X,
  t319 X,
  t325 X,
  t331 X,
  t337 X,
  k0_pay79 (t339 X) (t340 X) (t341 X),
  k0_pay80 (t203 X) (t205 X) (t339 X) (t340 X) (t341 X),
  k0_pay81 (t203 X) (t205 X) (t339 X) (t340 X) (t341 X),
  k0_pay82 (t203 X) (t205 X) (t339 X) (t340 X) (t341 X),
  k0_pay83 (t203 X) (t205 X) (t339 X) (t340 X) (t341 X),
  k0_pay84 (t203 X) (t205 X) (t339 X) (t340 X) (t341 X),
  k0_pay85 (t203 X) (t205 X) (t339 X) (t340 X) (t341 X),
  k0_pay86 (t203 X) (t205 X) (t339 X) (t340 X) (t341 X),
  k0_pay87 (t203 X) (t205 X) (t339 X) (t340 X) (t341 X),
  k0_pay88 (t203 X) (t205 X) (t339 X) (t340 X) (t341 X)]

theorem grp0 (k : Fin 8) (d : Fin 1024) : (t211 X) (ix2 k d)
    = t203 X (ix2 (⟨8 * 0 + k.val, by omega⟩ : Fin 256) d) + t205 X (ix2 (⟨8 * 0 + k.val, by omega⟩ : Fin 256) d) * X.h0 (ix2 (0 : Fin 1) d) := by
  first
  | (pointwise [t211, k0_pay48, t206]; done)
  | (pointwise [t211, k0_pay48, t206]; rfl)

theorem grp1 (k : Fin 8) (d : Fin 1024) : (t217 X) (ix2 k d)
    = t203 X (ix2 (⟨8 * 1 + k.val, by omega⟩ : Fin 256) d) + t205 X (ix2 (⟨8 * 1 + k.val, by omega⟩ : Fin 256) d) * (t211 X) (ix2 (7 : Fin 8) d) := by
  first
  | (pointwise [t217, k0_pay49]; done)
  | (pointwise [t217, k0_pay49]; rfl)

theorem grp2 (k : Fin 8) (d : Fin 1024) : (t223 X) (ix2 k d)
    = t203 X (ix2 (⟨8 * 2 + k.val, by omega⟩ : Fin 256) d) + t205 X (ix2 (⟨8 * 2 + k.val, by omega⟩ : Fin 256) d) * (t217 X) (ix2 (7 : Fin 8) d) := by
  first
  | (pointwise [t223, k0_pay53, t219, t220, t221, k0_pay50, k0_pay51, k0_pay52]; done)
  | (pointwise [t223, k0_pay53, t219, t220, t221, k0_pay50, k0_pay51, k0_pay52]; rfl)

theorem grp3 (k : Fin 8) (d : Fin 1024) : (t229 X) (ix2 k d)
    = t203 X (ix2 (⟨8 * 3 + k.val, by omega⟩ : Fin 256) d) + t205 X (ix2 (⟨8 * 3 + k.val, by omega⟩ : Fin 256) d) * (t223 X) (ix2 (7 : Fin 8) d) := by
  first
  | (pointwise [t229, k0_pay54]; done)
  | (pointwise [t229, k0_pay54]; rfl)

theorem grp4 (k : Fin 8) (d : Fin 1024) : (t235 X) (ix2 k d)
    = t203 X (ix2 (⟨8 * 4 + k.val, by omega⟩ : Fin 256) d) + t205 X (ix2 (⟨8 * 4 + k.val, by omega⟩ : Fin 256) d) * (t229 X) (ix2 (7 : Fin 8) d) := by
  first
  | (pointwise [t235, k0_pay55]; done)
  | (pointwise [t235, k0_pay55]; rfl)

theorem grp5 (k : Fin 8) (d : Fin 1024) : (t241 X) (ix2 k d)
    = t203 X (ix2 (⟨8 * 5 + k.val, by omega⟩ : Fin 256) d) + t205 X (ix2 (⟨8 * 5 + k.val, by omega⟩ : Fin 256) d) * (t235 X) (ix2 (7 : Fin 8) d) := by
  first
  | (pointwise [t241, k0_pay56]; done)
  | (pointwise [t241, k0_pay56]; rfl)

theorem grp6 (k : Fin 8) (d : Fin 1024) : (t247 X) (ix2 k d)
    = t203 X (ix2 (⟨8 * 6 + k.val, by omega⟩ : Fin 256) d) + t205 X (ix2 (⟨8 * 6 + k.val, by omega⟩ : Fin 256) d) * (t241 X) (ix2 (7 : Fin 8) d) := by
  first
  | (pointwise [t247, k0_pay57]; done)
  | (pointwise [t247, k0_pay57]; rfl)

theorem grp7 (k : Fin 8) (d : Fin 1024) : (t253 X) (ix2 k d)
    = t203 X (ix2 (⟨8 * 7 + k.val, by omega⟩ : Fin 256) d) + t205 X (ix2 (⟨8 * 7 + k.val, by omega⟩ : Fin 256) d) * (t247 X) (ix2 (7 : Fin 8) d) := by
  first
  | (pointwise [t253, k0_pay58]; done)
  | (pointwise [t253, k0_pay58]; rfl)

theorem grp8 (k : Fin 8) (d : Fin 1024) : (t259 X) (ix2 k d)
    = t203 X (ix2 (⟨8 * 8 + k.val, by omega⟩ : Fin 256) d) + t205 X (ix2 (⟨8 * 8 + k.val, by omega⟩ : Fin 256) d) * (t253 X) (ix2 (7 : Fin 8) d) := by
  first
  | (pointwise [t259, k0_pay59]; done)
  | (pointwise [t259, k0_pay59]; rfl)

theorem grp9 (k : Fin 8) (d : Fin 1024) : (t265 X) (ix2 k d)
    = t203 X (ix2 (⟨8 * 9 + k.val, by omega⟩ : Fin 256) d) + t205 X (ix2 (⟨8 * 9 + k.val, by omega⟩ : Fin 256) d) * (t259 X) (ix2 (7 : Fin 8) d) := by
  first
  | (pointwise [t265, k0_pay60]; done)
  | (pointwise [t265, k0_pay60]; rfl)

theorem grp10 (k : Fin 8) (d : Fin 1024) : (t271 X) (ix2 k d)
    = t203 X (ix2 (⟨8 * 10 + k.val, by omega⟩ : Fin 256) d) + t205 X (ix2 (⟨8 * 10 + k.val, by omega⟩ : Fin 256) d) * (t265 X) (ix2 (7 : Fin 8) d) := by
  first
  | (pointwise [t271, k0_pay61]; done)
  | (pointwise [t271, k0_pay61]; rfl)

theorem grp11 (k : Fin 8) (d : Fin 1024) : (t277 X) (ix2 k d)
    = t203 X (ix2 (⟨8 * 11 + k.val, by omega⟩ : Fin 256) d) + t205 X (ix2 (⟨8 * 11 + k.val, by omega⟩ : Fin 256) d) * (t271 X) (ix2 (7 : Fin 8) d) := by
  first
  | (pointwise [t277, k0_pay62]; done)
  | (pointwise [t277, k0_pay62]; rfl)

theorem grp12 (k : Fin 8) (d : Fin 1024) : (t283 X) (ix2 k d)
    = t203 X (ix2 (⟨8 * 12 + k.val, by omega⟩ : Fin 256) d) + t205 X (ix2 (⟨8 * 12 + k.val, by omega⟩ : Fin 256) d) * (t277 X) (ix2 (7 : Fin 8) d) := by
  first
  | (pointwise [t283, k0_pay66, t279, t280, t281, k0_pay63, k0_pay64, k0_pay65]; done)
  | (pointwise [t283, k0_pay66, t279, t280, t281, k0_pay63, k0_pay64, k0_pay65]; rfl)

theorem grp13 (k : Fin 8) (d : Fin 1024) : (t289 X) (ix2 k d)
    = t203 X (ix2 (⟨8 * 13 + k.val, by omega⟩ : Fin 256) d) + t205 X (ix2 (⟨8 * 13 + k.val, by omega⟩ : Fin 256) d) * (t283 X) (ix2 (7 : Fin 8) d) := by
  first
  | (pointwise [t289, k0_pay67]; done)
  | (pointwise [t289, k0_pay67]; rfl)

theorem grp14 (k : Fin 8) (d : Fin 1024) : (t295 X) (ix2 k d)
    = t203 X (ix2 (⟨8 * 14 + k.val, by omega⟩ : Fin 256) d) + t205 X (ix2 (⟨8 * 14 + k.val, by omega⟩ : Fin 256) d) * (t289 X) (ix2 (7 : Fin 8) d) := by
  first
  | (pointwise [t295, k0_pay68]; done)
  | (pointwise [t295, k0_pay68]; rfl)

theorem grp15 (k : Fin 8) (d : Fin 1024) : (t301 X) (ix2 k d)
    = t203 X (ix2 (⟨8 * 15 + k.val, by omega⟩ : Fin 256) d) + t205 X (ix2 (⟨8 * 15 + k.val, by omega⟩ : Fin 256) d) * (t295 X) (ix2 (7 : Fin 8) d) := by
  first
  | (pointwise [t301, k0_pay69]; done)
  | (pointwise [t301, k0_pay69]; rfl)

theorem grp16 (k : Fin 8) (d : Fin 1024) : (t307 X) (ix2 k d)
    = t203 X (ix2 (⟨8 * 16 + k.val, by omega⟩ : Fin 256) d) + t205 X (ix2 (⟨8 * 16 + k.val, by omega⟩ : Fin 256) d) * (t301 X) (ix2 (7 : Fin 8) d) := by
  first
  | (pointwise [t307, k0_pay70]; done)
  | (pointwise [t307, k0_pay70]; rfl)

theorem grp17 (k : Fin 8) (d : Fin 1024) : (t313 X) (ix2 k d)
    = t203 X (ix2 (⟨8 * 17 + k.val, by omega⟩ : Fin 256) d) + t205 X (ix2 (⟨8 * 17 + k.val, by omega⟩ : Fin 256) d) * (t307 X) (ix2 (7 : Fin 8) d) := by
  first
  | (pointwise [t313, k0_pay71]; done)
  | (pointwise [t313, k0_pay71]; rfl)

theorem grp18 (k : Fin 8) (d : Fin 1024) : (t319 X) (ix2 k d)
    = t203 X (ix2 (⟨8 * 18 + k.val, by omega⟩ : Fin 256) d) + t205 X (ix2 (⟨8 * 18 + k.val, by omega⟩ : Fin 256) d) * (t313 X) (ix2 (7 : Fin 8) d) := by
  first
  | (pointwise [t319, k0_pay72]; done)
  | (pointwise [t319, k0_pay72]; rfl)

theorem grp19 (k : Fin 8) (d : Fin 1024) : (t325 X) (ix2 k d)
    = t203 X (ix2 (⟨8 * 19 + k.val, by omega⟩ : Fin 256) d) + t205 X (ix2 (⟨8 * 19 + k.val, by omega⟩ : Fin 256) d) * (t319 X) (ix2 (7 : Fin 8) d) := by
  first
  | (pointwise [t325, k0_pay73]; done)
  | (pointwise [t325, k0_pay73]; rfl)

theorem grp20 (k : Fin 8) (d : Fin 1024) : (t331 X) (ix2 k d)
    = t203 X (ix2 (⟨8 * 20 + k.val, by omega⟩ : Fin 256) d) + t205 X (ix2 (⟨8 * 20 + k.val, by omega⟩ : Fin 256) d) * (t325 X) (ix2 (7 : Fin 8) d) := by
  first
  | (pointwise [t331, k0_pay74]; done)
  | (pointwise [t331, k0_pay74]; rfl)

theorem grp21 (k : Fin 8) (d : Fin 1024) : (t337 X) (ix2 k d)
    = t203 X (ix2 (⟨8 * 21 + k.val, by omega⟩ : Fin 256) d) + t205 X (ix2 (⟨8 * 21 + k.val, by omega⟩ : Fin 256) d) * (t331 X) (ix2 (7 : Fin 8) d) := by
  first
  | (pointwise [t337, k0_pay75]; done)
  | (pointwise [t337, k0_pay75]; rfl)

theorem grp22 (k : Fin 8) (d : Fin 1024) : (k0_pay79 (t339 X) (t340 X) (t341 X)) (ix2 k d)
    = t203 X (ix2 (⟨8 * 22 + k.val, by omega⟩ : Fin 256) d) + t205 X (ix2 (⟨8 * 22 + k.val, by omega⟩ : Fin 256) d) * (t337 X) (ix2 (7 : Fin 8) d) := by
  first
  | (pointwise [k0_pay79, t339, t340, t341, k0_pay76, k0_pay77, k0_pay78]; done)
  | (pointwise [k0_pay79, t339, t340, t341, k0_pay76, k0_pay77, k0_pay78]; rfl)

theorem grp23 (k : Fin 8) (d : Fin 1024) : (k0_pay80 (t203 X) (t205 X) (t339 X) (t340 X) (t341 X)) (ix2 k d)
    = t203 X (ix2 (⟨8 * 23 + k.val, by omega⟩ : Fin 256) d) + t205 X (ix2 (⟨8 * 23 + k.val, by omega⟩ : Fin 256) d) * (k0_pay79 (t339 X) (t340 X) (t341 X)) (ix2 (7 : Fin 8) d) := by
  first
  | (pointwise [k0_pay80]; done)
  | (pointwise [k0_pay80]; rfl)

theorem grp24 (k : Fin 8) (d : Fin 1024) : (k0_pay81 (t203 X) (t205 X) (t339 X) (t340 X) (t341 X)) (ix2 k d)
    = t203 X (ix2 (⟨8 * 24 + k.val, by omega⟩ : Fin 256) d) + t205 X (ix2 (⟨8 * 24 + k.val, by omega⟩ : Fin 256) d) * (k0_pay80 (t203 X) (t205 X) (t339 X) (t340 X) (t341 X)) (ix2 (7 : Fin 8) d) := by
  first
  | (pointwise [k0_pay81]; done)
  | (pointwise [k0_pay81]; rfl)

theorem grp25 (k : Fin 8) (d : Fin 1024) : (k0_pay82 (t203 X) (t205 X) (t339 X) (t340 X) (t341 X)) (ix2 k d)
    = t203 X (ix2 (⟨8 * 25 + k.val, by omega⟩ : Fin 256) d) + t205 X (ix2 (⟨8 * 25 + k.val, by omega⟩ : Fin 256) d) * (k0_pay81 (t203 X) (t205 X) (t339 X) (t340 X) (t341 X)) (ix2 (7 : Fin 8) d) := by
  first
  | (pointwise [k0_pay82]; done)
  | (pointwise [k0_pay82]; rfl)

theorem grp26 (k : Fin 8) (d : Fin 1024) : (k0_pay83 (t203 X) (t205 X) (t339 X) (t340 X) (t341 X)) (ix2 k d)
    = t203 X (ix2 (⟨8 * 26 + k.val, by omega⟩ : Fin 256) d) + t205 X (ix2 (⟨8 * 26 + k.val, by omega⟩ : Fin 256) d) * (k0_pay82 (t203 X) (t205 X) (t339 X) (t340 X) (t341 X)) (ix2 (7 : Fin 8) d) := by
  first
  | (pointwise [k0_pay83]; done)
  | (pointwise [k0_pay83]; rfl)

theorem grp27 (k : Fin 8) (d : Fin 1024) : (k0_pay84 (t203 X) (t205 X) (t339 X) (t340 X) (t341 X)) (ix2 k d)
    = t203 X (ix2 (⟨8 * 27 + k.val, by omega⟩ : Fin 256) d) + t205 X (ix2 (⟨8 * 27 + k.val, by omega⟩ : Fin 256) d) * (k0_pay83 (t203 X) (t205 X) (t339 X) (t340 X) (t341 X)) (ix2 (7 : Fin 8) d) := by
  first
  | (pointwise [k0_pay84]; done)
  | (pointwise [k0_pay84]; rfl)

theorem grp28 (k : Fin 8) (d : Fin 1024) : (k0_pay85 (t203 X) (t205 X) (t339 X) (t340 X) (t341 X)) (ix2 k d)
    = t203 X (ix2 (⟨8 * 28 + k.val, by omega⟩ : Fin 256) d) + t205 X (ix2 (⟨8 * 28 + k.val, by omega⟩ : Fin 256) d) * (k0_pay84 (t203 X) (t205 X) (t339 X) (t340 X) (t341 X)) (ix2 (7 : Fin 8) d) := by
  first
  | (pointwise [k0_pay85]; done)
  | (pointwise [k0_pay85]; rfl)

theorem grp29 (k : Fin 8) (d : Fin 1024) : (k0_pay86 (t203 X) (t205 X) (t339 X) (t340 X) (t341 X)) (ix2 k d)
    = t203 X (ix2 (⟨8 * 29 + k.val, by omega⟩ : Fin 256) d) + t205 X (ix2 (⟨8 * 29 + k.val, by omega⟩ : Fin 256) d) * (k0_pay85 (t203 X) (t205 X) (t339 X) (t340 X) (t341 X)) (ix2 (7 : Fin 8) d) := by
  first
  | (pointwise [k0_pay86]; done)
  | (pointwise [k0_pay86]; rfl)

theorem grp30 (k : Fin 8) (d : Fin 1024) : (k0_pay87 (t203 X) (t205 X) (t339 X) (t340 X) (t341 X)) (ix2 k d)
    = t203 X (ix2 (⟨8 * 30 + k.val, by omega⟩ : Fin 256) d) + t205 X (ix2 (⟨8 * 30 + k.val, by omega⟩ : Fin 256) d) * (k0_pay86 (t203 X) (t205 X) (t339 X) (t340 X) (t341 X)) (ix2 (7 : Fin 8) d) := by
  first
  | (pointwise [k0_pay87]; done)
  | (pointwise [k0_pay87]; rfl)

theorem grp31 (k : Fin 8) (d : Fin 1024) : (k0_pay88 (t203 X) (t205 X) (t339 X) (t340 X) (t341 X)) (ix2 k d)
    = t203 X (ix2 (⟨8 * 31 + k.val, by omega⟩ : Fin 256) d) + t205 X (ix2 (⟨8 * 31 + k.val, by omega⟩ : Fin 256) d) * (k0_pay87 (t203 X) (t205 X) (t339 X) (t340 X) (t341 X)) (ix2 (7 : Fin 8) d) := by
  first
  | (pointwise [k0_pay88]; done)
  | (pointwise [k0_pay88]; rfl)

theorem grp_succ (n : Fin 31) (k : Fin 8) (d : Fin 1024) : grp X n.succ (ix2 k d)
    = t203 X (ix2 (⟨8 * (n.val + 1) + k.val, by omega⟩ : Fin 256) d) + t205 X (ix2 (⟨8 * (n.val + 1) + k.val, by omega⟩ : Fin 256) d) * grp X n.castSucc (ix2 (7 : Fin 8) d) := by
  fin_cases n
  · exact grp1 k d
  · exact grp2 k d
  · exact grp3 k d
  · exact grp4 k d
  · exact grp5 k d
  · exact grp6 k d
  · exact grp7 k d
  · exact grp8 k d
  · exact grp9 k d
  · exact grp10 k d
  · exact grp11 k d
  · exact grp12 k d
  · exact grp13 k d
  · exact grp14 k d
  · exact grp15 k d
  · exact grp16 k d
  · exact grp17 k d
  · exact grp18 k d
  · exact grp19 k d
  · exact grp20 k d
  · exact grp21 k d
  · exact grp22 k d
  · exact grp23 k d
  · exact grp24 k d
  · exact grp25 k d
  · exact grp26 k d
  · exact grp27 k d
  · exact grp28 k d
  · exact grp29 k d
  · exact grp30 k d
  · exact grp31 k d

/-- A tile row's decay and added part, by the row's number in the tile. -/
def rowA (A : Args) (b q : Fin 8) (d : Fin 1024) (j : ℕ) : EReal := aa A b (row (q.val * 256 + j)) d
/-- The added part. -/
def rowB (A : Args) (b q : Fin 8) (d : Fin 1024) (j : ℕ) : EReal := bb A b (row (q.val * 256 + j)) d

theorem row_pos (q : Fin 8) (r : Fin 256) : row (q.val * 256 + r.val) = pos q r :=
  Fin.ext (by show (q.val * 256 + r.val) % 2048 = q.val * 256 + r.val; omega)

theorem grp_apply (G : Good A b q X) (d : Fin 1024) (n : ℕ) : ∀ (hn : n < 32) (k : Fin 8), grp X ⟨n, hn⟩ (ix2 k d) = rec A b d (q.val * 256 + (8 * n + k.val + 1)) := by
  have hf (r : Fin 256) : t151 X (ix2 r d) = rowA A b q d r.val := by rw [t151_apply G, ← row_pos]; rfl
  have hg (r : Fin 256) : t161 X (ix2 r d) = rowB A b q d r.val := by rw [t161_apply G, ← row_pos]; rfl
  have hR (n : ℕ) (hn : n < 32) (k : Fin 8) := rounds (fun j => rec A b d (q.val * 256 + j)) (rowA A b q d) (rowB A b q d)
    (fun j _ => ⟨aa_nonneg A b _ d, aa_ne_top A b _ d⟩) (fun j _ => rfl) n k.val k.isLt hn
  induction n with
  | zero =>
    intro hn k
    refine (grp0 k d).trans ?_
    rw [t203_apply hf hg, t205_apply hf, G.hH]
    exact hR 0 hn k
  | succ n ih =>
    intro hn k
    refine (grp_succ ⟨n, by omega⟩ k d).trans ?_
    rw [t203_apply hf hg, t205_apply hf]
    refine (congrArg (_ + _ * ·) (ih (by omega) 7)).trans ?_
    exact hR (n + 1) hn k

theorem t399_apply (G : Good A b q X) (r : Fin 256) (d : Fin 1024) : t399 X (ix2 r d) = rec A b d ((pos q r).val + 1) := by
  have h := (concatenate_ofFn_apply (t := S256x1024) (s₁ := S8x1024) 0 (grp X) concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 rfl 8 rfl (ix2 r d)
    (⟨r.val / 8, by omega⟩ : Fin 32) rfl (ix2 (⟨r.val % 8, Nat.mod_lt _ (by decide)⟩ : Fin 8) d) rfl (fun b hb => by fin_cases b <;> first | rfl | exact absurd rfl hb)).trans
    (grp_apply G d (r.val / 8) (by omega) _)
  have e : q.val * 256 + (8 * (r.val / 8) + r.val % 8 + 1) = (pos q r).val + 1 := by
    show _ = q.val * 256 + r.val + 1
    omega
  exact h.trans (congrArg (rec A b d) e)

theorem t398_apply (G : Good A b q X) (d : Fin 1024) : t398 X (ix2 (0 : Fin 1) d) = rec A b d ((q.val + 1) * 256) := by
  have h : t398 X (ix2 (0 : Fin 1) d) = grp X 31 (ix2 (7 : Fin 8) d) := by
    first
    | (pointwise [t398, k0_pay89]; done)
    | (pointwise [t398, k0_pay89]; rfl)
  have e : q.val * 256 + (8 * 31 + (7 : Fin 8).val + 1) = (q.val + 1) * 256 := by
    show q.val * 256 + (8 * 31 + 7 + 1) = (q.val + 1) * 256
    omega
  exact h.trans ((grp_apply G d 31 (by decide) 7).trans (congrArg (rec A b d) e))

/-- The left half's stored block. -/
theorem sL_left (G : Good A b q X) (r : Fin 256) (d : Fin 1024) : sL X (ix3 (0 : Fin 1) r d) = left A b (pos q r) d :=
  sL_apply G (fun r d => rec A b d ((pos q r).val + 1)) (t399_apply G) r d

end Cert.Proof.Mix
-- ==== Proof.MixSgu.lean ====
/-
  The mixing kernel's spatial blocks at one grid point: sixteen stores, one for each head and chunk.
-/
module

public import proofs.«01_k».proof.Proof.MixBlock

@[expose] public section

set_option maxRecDepth 16384

noncomputable section

namespace Cert.Proof.Mix

open Idealize.ShloMosaic Cert.Kernel3Ideal Cert.Kernel3Ideal.Gen

variable {A : Args} {b q : Fin 8} {X : Blocks}

theorem mask_iota : ∀ i j : Fin 128, IntOp.cmpi CmpIPredicate.sge (BitVec.ofNat 32 i.val) (BitVec.ofNat 32 j.val) = if j.val ≤ i.val then 1#1 else 0#1 := by
  decide +kernel

theorem select_iota (i j : Fin 128) (x y : EReal) :
    Scalar.select (IntOp.cmpi CmpIPredicate.sge (BitVec.ofNat 32 i.val) (BitVec.ofNat 32 j.val)) x y = if j.val ≤ i.val then x else y := by
  rw [mask_iota]
  split <;> rfl

/-- A spatial block's value at head `h` and chunk `c` of the tile. -/
theorem right_chunk (b q h : Fin 8) (c : Fin 2) (i e : Fin 128) :
    right A b (pos q ⟨c.val * 128 + i.val, by omega⟩) ⟨h.val * 128 + e.val, by omega⟩
      = gelu (uu A b (pos q ⟨c.val * 128 + i.val, by omega⟩) ⟨h.val * 128 + e.val, by omega⟩)
        * ((∑ j : Fin 128, (if j.val ≤ i.val then A.ws (ix4 (0 : Fin 1) h i j) else 0) * vn A b (pos q ⟨c.val * 128 + j.val, by omega⟩) ⟨h.val * 128 + e.val, by omega⟩)
          + A.bs (ix3 (0 : Fin 1) h i)) := by
  have hp : (pos q ⟨c.val * 128 + i.val, by omega⟩).val = q.val * 256 + (c.val * 128 + i.val) := rfl
  have h1 : (pos q ⟨c.val * 128 + i.val, by omega⟩).val % 128 = i.val := by rw [hp]; omega
  have h2 (j : Fin 128) : (⟨(pos q ⟨c.val * 128 + i.val, by omega⟩).val / 128 * 128 + j.val, by omega⟩ : Fin 2048) = pos q ⟨c.val * 128 + j.val, by omega⟩ :=
    Fin.ext (by show (pos q ⟨c.val * 128 + i.val, by omega⟩).val / 128 * 128 + j.val = q.val * 256 + (c.val * 128 + j.val); rw [hp]; omega)
  have h3 : (⟨(h.val * 128 + e.val) / 128, by omega⟩ : Fin 8) = h := Fin.ext (by show (h.val * 128 + e.val) / 128 = h.val; omega)
  have h4 : (⟨(pos q ⟨c.val * 128 + i.val, by omega⟩).val % 128, by omega⟩ : Fin 128) = i := Fin.ext h1
  unfold right spatial
  simp only [h1, h2, h3, h4]
  congr 2
  exact Finset.sum_congr rfl fun j _ => mul_comm _ _

theorem s0_0_apply (G : Good A b q X) (i e : Fin 128) :
    s0_0 X (ix3 (0 : Fin 1) i e) = right A b (pos q ⟨0 + i.val, by omega⟩) ⟨0 + e.val, by omega⟩ := by
  refine Eq.trans ?_ (right_chunk b q 0 0 i e).symm
  have h481 (j e : Fin 128) : t481 X (ix2 j e) = t470 X (ix2 (⟨j.val, by omega⟩ : Fin 256) (⟨e.val, by omega⟩ : Fin 1024)) := by
    pointwise [t481, k0_pay98, t470]
  pointwise [s0_0, k0_pay95, k0_pay96, k0_pay97, k0_pay99, t474, t478, t479, t480, tcst_152, h481, t439_apply G, t470_apply G, G.hws, G.hbs, select_iota]

theorem s0_1_apply (G : Good A b q X) (i e : Fin 128) :
    s0_1 X (ix3 (0 : Fin 1) i e) = right A b (pos q ⟨128 + i.val, by omega⟩) ⟨0 + e.val, by omega⟩ := by
  refine Eq.trans ?_ (right_chunk b q 0 1 i e).symm
  pointwise [s0_1, k0_pay100, k0_pay95, k0_pay96, k0_pay97, t474, t478, t479, t480, t439_apply G, t470_apply G, G.hws, G.hbs, select_iota]

theorem s1_0_apply (G : Good A b q X) (i e : Fin 128) :
    s1_0 X (ix3 (0 : Fin 1) i e) = right A b (pos q ⟨0 + i.val, by omega⟩) ⟨128 + e.val, by omega⟩ := by
  refine Eq.trans ?_ (right_chunk b q 1 0 i e).symm
  pointwise [s1_0, k0_pay101, k0_pay102, k0_pay103, k0_pay95, t473, t501, t506, t439_apply G, t470_apply G, G.hws, G.hbs, select_iota]

theorem s1_1_apply (G : Good A b q X) (i e : Fin 128) :
    s1_1 X (ix3 (0 : Fin 1) i e) = right A b (pos q ⟨128 + i.val, by omega⟩) ⟨128 + e.val, by omega⟩ := by
  refine Eq.trans ?_ (right_chunk b q 1 1 i e).symm
  pointwise [s1_1, k0_pay101, k0_pay102, k0_pay104, k0_pay105, k0_pay106, k0_pay95, t473, t501, t506, t519, t520, t439_apply G, t470_apply G, G.hws, G.hbs, select_iota]

theorem s2_0_apply (G : Good A b q X) (i e : Fin 128) :
    s2_0 X (ix3 (0 : Fin 1) i e) = right A b (pos q ⟨0 + i.val, by omega⟩) ⟨256 + e.val, by omega⟩ := by
  refine Eq.trans ?_ (right_chunk b q 2 0 i e).symm
  pointwise [s2_0, k0_pay107, k0_pay108, k0_pay109, k0_pay95, t473, t528, t533, t439_apply G, t470_apply G, G.hws, G.hbs, select_iota]

theorem s2_1_apply (G : Good A b q X) (i e : Fin 128) :
    s2_1 X (ix3 (0 : Fin 1) i e) = right A b (pos q ⟨128 + i.val, by omega⟩) ⟨256 + e.val, by omega⟩ := by
  refine Eq.trans ?_ (right_chunk b q 2 1 i e).symm
  pointwise [s2_1, k0_pay107, k0_pay108, k0_pay110, k0_pay95, t473, t528, t533, t439_apply G, t470_apply G, G.hws, G.hbs, select_iota]

theorem s3_0_apply (G : Good A b q X) (i e : Fin 128) :
    s3_0 X (ix3 (0 : Fin 1) i e) = right A b (pos q ⟨0 + i.val, by omega⟩) ⟨384 + e.val, by omega⟩ := by
  refine Eq.trans ?_ (right_chunk b q 3 0 i e).symm
  pointwise [s3_0, k0_pay111, k0_pay112, k0_pay113, k0_pay114, k0_pay95, t473, t555, t556, t560, tcst_188, t439_apply G, t470_apply G, G.hws, G.hbs, select_iota]

theorem s3_1_apply (G : Good A b q X) (i e : Fin 128) :
    s3_1 X (ix3 (0 : Fin 1) i e) = right A b (pos q ⟨128 + i.val, by omega⟩) ⟨384 + e.val, by omega⟩ := by
  refine Eq.trans ?_ (right_chunk b q 3 1 i e).symm
  pointwise [s3_1, k0_pay111, k0_pay112, k0_pay113, k0_pay115, k0_pay95, t473, t555, t556, t560, tcst_188, t439_apply G, t470_apply G, G.hws, G.hbs, select_iota]

theorem s4_0_apply (G : Good A b q X) (i e : Fin 128) :
    s4_0 X (ix3 (0 : Fin 1) i e) = right A b (pos q ⟨0 + i.val, by omega⟩) ⟨512 + e.val, by omega⟩ := by
  refine Eq.trans ?_ (right_chunk b q 4 0 i e).symm
  pointwise [s4_0, k0_pay116, k0_pay117, k0_pay118, k0_pay119, k0_pay95, t473, t582, t587, t595, t439_apply G, t470_apply G, G.hws, G.hbs, select_iota]

theorem s4_1_apply (G : Good A b q X) (i e : Fin 128) :
    s4_1 X (ix3 (0 : Fin 1) i e) = right A b (pos q ⟨128 + i.val, by omega⟩) ⟨512 + e.val, by omega⟩ := by
  refine Eq.trans ?_ (right_chunk b q 4 1 i e).symm
  pointwise [s4_1, k0_pay116, k0_pay117, k0_pay120, k0_pay95, t473, t582, t586, t587, t588, t439_apply G, t470_apply G, G.hws, G.hbs, select_iota]

theorem s5_0_apply (G : Good A b q X) (i e : Fin 128) :
    s5_0 X (ix3 (0 : Fin 1) i e) = right A b (pos q ⟨0 + i.val, by omega⟩) ⟨640 + e.val, by omega⟩ := by
  refine Eq.trans ?_ (right_chunk b q 5 0 i e).symm
  pointwise [s5_0, k0_pay121, k0_pay122, k0_pay123, k0_pay95, t473, t609, t614, t439_apply G, t470_apply G, G.hws, G.hbs, select_iota]

theorem s5_1_apply (G : Good A b q X) (i e : Fin 128) :
    s5_1 X (ix3 (0 : Fin 1) i e) = right A b (pos q ⟨128 + i.val, by omega⟩) ⟨640 + e.val, by omega⟩ := by
  refine Eq.trans ?_ (right_chunk b q 5 1 i e).symm
  pointwise [s5_1, k0_pay121, k0_pay122, k0_pay124, k0_pay125, k0_pay95, t473, t609, t614, t632, t439_apply G, t470_apply G, G.hws, G.hbs, select_iota]

theorem s6_0_apply (G : Good A b q X) (i e : Fin 128) :
    s6_0 X (ix3 (0 : Fin 1) i e) = right A b (pos q ⟨0 + i.val, by omega⟩) ⟨768 + e.val, by omega⟩ := by
  refine Eq.trans ?_ (right_chunk b q 6 0 i e).symm
  pointwise [s6_0, k0_pay126, k0_pay127, k0_pay128, k0_pay95, t473, t636, t641, t439_apply G, t470_apply G, G.hws, G.hbs, select_iota]

theorem s6_1_apply (G : Good A b q X) (i e : Fin 128) :
    s6_1 X (ix3 (0 : Fin 1) i e) = right A b (pos q ⟨128 + i.val, by omega⟩) ⟨768 + e.val, by omega⟩ := by
  refine Eq.trans ?_ (right_chunk b q 6 1 i e).symm
  pointwise [s6_1, k0_pay126, k0_pay127, k0_pay129, k0_pay95, t473, t636, t641, t439_apply G, t470_apply G, G.hws, G.hbs, select_iota]

theorem s7_0_apply (G : Good A b q X) (i e : Fin 128) :
    s7_0 X (ix3 (0 : Fin 1) i e) = right A b (pos q ⟨0 + i.val, by omega⟩) ⟨896 + e.val, by omega⟩ := by
  refine Eq.trans ?_ (right_chunk b q 7 0 i e).symm
  pointwise [s7_0, k0_pay1, k0_pay130, k0_pay131, k0_pay132, k0_pay95, t473, t663, t667, t668, t669, t670, t439_apply G, t470_apply G, G.hws, G.hbs, select_iota]

theorem s7_1_apply (G : Good A b q X) (i e : Fin 128) :
    s7_1 X (ix3 (0 : Fin 1) i e) = right A b (pos q ⟨128 + i.val, by omega⟩) ⟨896 + e.val, by omega⟩ := by
  refine Eq.trans ?_ (right_chunk b q 7 1 i e).symm
  pointwise [s7_1, k0_pay130, k0_pay131, k0_pay2, k0_pay95, t473, t663, t667, t668, t669, t439_apply G, t470_apply G, G.hws, G.hbs, select_iota]

end Cert.Proof.Mix
-- ==== Proof.MixOut.lean ====
/-
  The seventeen blocks a grid point stores, read back as one block of the result.
-/
module

public import proofs.«01_k».proof.Proof.MixGroups
public import proofs.«01_k».proof.Proof.MixSgu
public import Idealize.ShloMosaic.Lib.Ring

@[expose] public section

set_option maxRecDepth 16384

noncomputable section

namespace Cert.Proof.Mix

open Idealize.ShloMosaic Idealize.ShloMosaic.TcCoe Idealize.SL.Sem Cert.Kernel3Ideal Cert.Kernel3Ideal.Gen

/-- The blocks stored at a point, last first. -/
def pieces (X : Blocks) : List (View.Piece (Elt Ideal) S1x256x2048 .bf16) :=
  [⟨Rect.unit ![0, 128, 1920] ![1, 128, 128] inb_S1x256x2048_S1x128x128_0_128_1920, s7_1 X⟩,
   ⟨Rect.unit ![0, 0, 1920] ![1, 128, 128] inb_S1x256x2048_S1x128x128_0_0_1920, s7_0 X⟩,
   ⟨Rect.unit ![0, 128, 1792] ![1, 128, 128] inb_S1x256x2048_S1x128x128_0_128_1792, s6_1 X⟩,
   ⟨Rect.unit ![0, 0, 1792] ![1, 128, 128] inb_S1x256x2048_S1x128x128_0_0_1792, s6_0 X⟩,
   ⟨Rect.unit ![0, 128, 1664] ![1, 128, 128] inb_S1x256x2048_S1x128x128_0_128_1664, s5_1 X⟩,
   ⟨Rect.unit ![0, 0, 1664] ![1, 128, 128] inb_S1x256x2048_S1x128x128_0_0_1664, s5_0 X⟩,
   ⟨Rect.unit ![0, 128, 1536] ![1, 128, 128] inb_S1x256x2048_S1x128x128_0_128_1536, s4_1 X⟩,
   ⟨Rect.unit ![0, 0, 1536] ![1, 128, 128] inb_S1x256x2048_S1x128x128_0_0_1536, s4_0 X⟩,
   ⟨Rect.unit ![0, 128, 1408] ![1, 128, 128] inb_S1x256x2048_S1x128x128_0_128_1408, s3_1 X⟩,
   ⟨Rect.unit ![0, 0, 1408] ![1, 128, 128] inb_S1x256x2048_S1x128x128_0_0_1408, s3_0 X⟩,
   ⟨Rect.unit ![0, 128, 1280] ![1, 128, 128] inb_S1x256x2048_S1x128x128_0_128_1280, s2_1 X⟩,
   ⟨Rect.unit ![0, 0, 1280] ![1, 128, 128] inb_S1x256x2048_S1x128x128_0_0_1280, s2_0 X⟩,
   ⟨Rect.unit ![0, 128, 1152] ![1, 128, 128] inb_S1x256x2048_S1x128x128_0_128_1152, s1_1 X⟩,
   ⟨Rect.unit ![0, 0, 1152] ![1, 128, 128] inb_S1x256x2048_S1x128x128_0_0_1152, s1_0 X⟩,
   ⟨Rect.unit ![0, 128, 1024] ![1, 128, 128] inb_S1x256x2048_S1x128x128_0_128_1024, s0_1 X⟩,
   ⟨Rect.unit ![0, 0, 1024] ![1, 128, 128] inb_S1x256x2048_S1x128x128_0_0_1024, s0_0 X⟩,
   ⟨Rect.unit ![0, 0, 0] ![1, 256, 1024] inb_S1x256x2048_S1x256x1024_0_0_0, sL X⟩]

variable {A : Args} {b q : Fin 8} {X : Blocks}

/-- Every index of the block lies in a stored one. -/
theorem pieces_cover (X : Blocks) (y : S1x256x2048.Idx) : ∃ p ∈ pieces X, y ∈ p.1.set :=
  View.cover_of_tiledBy (pieces X) ![1, 128, 128] (by sl_kernel_rfl) y

/-- The only index of a single row. -/
theorem fin1 (u : Fin 1) : u = 0 := Fin.ext (by have := u.isLt; omega)

/-- A left column of the result. -/
theorem out_left (A : Args) (b : Fin 8) (n : Fin 2048) (d : Fin 2048) (e : Fin 1024) (he : d.val = e.val) : out A (ix3 b n d) = left A b n e := by
  have h : d.val < 1024 := he ▸ e.isLt
  show (if h : d.val < 1024 then left A b n ⟨d.val, h⟩ else right A b n ⟨d.val - 1024, _⟩) = _
  rw [dif_pos h]
  congr 1
  exact Fin.ext he

/-- A right column of the result. -/
theorem out_right (A : Args) (b : Fin 8) (n : Fin 2048) (d : Fin 2048) (e : Fin 1024) (he : d.val = 1024 + e.val) : out A (ix3 b n d) = right A b n e := by
  have h : ¬ d.val < 1024 := by omega
  show (if h : d.val < 1024 then left A b n ⟨d.val, h⟩ else right A b n ⟨d.val - 1024, _⟩) = _
  rw [dif_neg h]
  congr 1
  exact Fin.ext (by show d.val - 1024 = e.val; omega)

/-- What a point stores, at an index. -/
theorem pieces_apply (G : Good A b q X) (i : Fin 256) (d : Fin 2048) :
    View.canon (pieces X) (ix3 (0 : Fin 1) i d) = out A (ix3 b (pos q i) d) := by
  refine View.canon_eq_of_allAt _ _ _ (pieces_cover X _) ?_
  refine View.allAt_cons_unit _ _ _ _ _ (fun x hx => ?_) ?_
  · have h1 : i.val = 128 + (x 1).val := hx 1
    have h2 : d.val = 1920 + (x 2).val := hx 2
    have e2 : (x 2).val < 128 := (x 2).isLt
    refine (congrArg _ (eq_ix3 x)).trans ?_
    rw [fin1 (x 0)]
    refine (s7_1_apply G (x 1) (x 2)).trans ?_
    refine Eq.trans ?_ (out_right A b (pos q i) d ⟨896 + (x 2).val, by omega⟩ (by show d.val = 1024 + (896 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1920 + (x 2).val := hx 2
    have e2 : (x 2).val < 128 := (x 2).isLt
    refine (congrArg _ (eq_ix3 x)).trans ?_
    rw [fin1 (x 0)]
    refine (s7_0_apply G (x 1) (x 2)).trans ?_
    refine Eq.trans ?_ (out_right A b (pos q i) d ⟨896 + (x 2).val, by omega⟩ (by show d.val = 1024 + (896 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1792 + (x 2).val := hx 2
    have e2 : (x 2).val < 128 := (x 2).isLt
    refine (congrArg _ (eq_ix3 x)).trans ?_
    rw [fin1 (x 0)]
    refine (s6_1_apply G (x 1) (x 2)).trans ?_
    refine Eq.trans ?_ (out_right A b (pos q i) d ⟨768 + (x 2).val, by omega⟩ (by show d.val = 1024 + (768 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1792 + (x 2).val := hx 2
    have e2 : (x 2).val < 128 := (x 2).isLt
    refine (congrArg _ (eq_ix3 x)).trans ?_
    rw [fin1 (x 0)]
    refine (s6_0_apply G (x 1) (x 2)).trans ?_
    refine Eq.trans ?_ (out_right A b (pos q i) d ⟨768 + (x 2).val, by omega⟩ (by show d.val = 1024 + (768 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1664 + (x 2).val := hx 2
    have e2 : (x 2).val < 128 := (x 2).isLt
    refine (congrArg _ (eq_ix3 x)).trans ?_
    rw [fin1 (x 0)]
    refine (s5_1_apply G (x 1) (x 2)).trans ?_
    refine Eq.trans ?_ (out_right A b (pos q i) d ⟨640 + (x 2).val, by omega⟩ (by show d.val = 1024 + (640 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1664 + (x 2).val := hx 2
    have e2 : (x 2).val < 128 := (x 2).isLt
    refine (congrArg _ (eq_ix3 x)).trans ?_
    rw [fin1 (x 0)]
    refine (s5_0_apply G (x 1) (x 2)).trans ?_
    refine Eq.trans ?_ (out_right A b (pos q i) d ⟨640 + (x 2).val, by omega⟩ (by show d.val = 1024 + (640 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1536 + (x 2).val := hx 2
    have e2 : (x 2).val < 128 := (x 2).isLt
    refine (congrArg _ (eq_ix3 x)).trans ?_
    rw [fin1 (x 0)]
    refine (s4_1_apply G (x 1) (x 2)).trans ?_
    refine Eq.trans ?_ (out_right A b (pos q i) d ⟨512 + (x 2).val, by omega⟩ (by show d.val = 1024 + (512 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1536 + (x 2).val := hx 2
    have e2 : (x 2).val < 128 := (x 2).isLt
    refine (congrArg _ (eq_ix3 x)).trans ?_
    rw [fin1 (x 0)]
    refine (s4_0_apply G (x 1) (x 2)).trans ?_
    refine Eq.trans ?_ (out_right A b (pos q i) d ⟨512 + (x 2).val, by omega⟩ (by show d.val = 1024 + (512 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1408 + (x 2).val := hx 2
    have e2 : (x 2).val < 128 := (x 2).isLt
    refine (congrArg _ (eq_ix3 x)).trans ?_
    rw [fin1 (x 0)]
    refine (s3_1_apply G (x 1) (x 2)).trans ?_
    refine Eq.trans ?_ (out_right A b (pos q i) d ⟨384 + (x 2).val, by omega⟩ (by show d.val = 1024 + (384 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1408 + (x 2).val := hx 2
    have e2 : (x 2).val < 128 := (x 2).isLt
    refine (congrArg _ (eq_ix3 x)).trans ?_
    rw [fin1 (x 0)]
    refine (s3_0_apply G (x 1) (x 2)).trans ?_
    refine Eq.trans ?_ (out_right A b (pos q i) d ⟨384 + (x 2).val, by omega⟩ (by show d.val = 1024 + (384 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1280 + (x 2).val := hx 2
    have e2 : (x 2).val < 128 := (x 2).isLt
    refine (congrArg _ (eq_ix3 x)).trans ?_
    rw [fin1 (x 0)]
    refine (s2_1_apply G (x 1) (x 2)).trans ?_
    refine Eq.trans ?_ (out_right A b (pos q i) d ⟨256 + (x 2).val, by omega⟩ (by show d.val = 1024 + (256 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1280 + (x 2).val := hx 2
    have e2 : (x 2).val < 128 := (x 2).isLt
    refine (congrArg _ (eq_ix3 x)).trans ?_
    rw [fin1 (x 0)]
    refine (s2_0_apply G (x 1) (x 2)).trans ?_
    refine Eq.trans ?_ (out_right A b (pos q i) d ⟨256 + (x 2).val, by omega⟩ (by show d.val = 1024 + (256 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1152 + (x 2).val := hx 2
    have e2 : (x 2).val < 128 := (x 2).isLt
    refine (congrArg _ (eq_ix3 x)).trans ?_
    rw [fin1 (x 0)]
    refine (s1_1_apply G (x 1) (x 2)).trans ?_
    refine Eq.trans ?_ (out_right A b (pos q i) d ⟨128 + (x 2).val, by omega⟩ (by show d.val = 1024 + (128 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1152 + (x 2).val := hx 2
    have e2 : (x 2).val < 128 := (x 2).isLt
    refine (congrArg _ (eq_ix3 x)).trans ?_
    rw [fin1 (x 0)]
    refine (s1_0_apply G (x 1) (x 2)).trans ?_
    refine Eq.trans ?_ (out_right A b (pos q i) d ⟨128 + (x 2).val, by omega⟩ (by show d.val = 1024 + (128 + (x 2).val); omega)).symm
    exact congrArg (fun z => right A b (pos q z) _) (Fin.ext h1.symm)
  refine View.allAt_cons_unit _ _ _ _ _ (fun x hx => ?_) ?_
  · have h1 : i.val = 128 + (x 1).val := hx 1
    have h2 : d.val = 1024 + (x 2).val := hx 2
    have e2 : (x 2).val < 128 := (x 2).isLt
    refine (congrArg _ (eq_ix3 x)).trans ?_
    rw [fin1 (x 0)]
    refine (s0_1_apply G (x 1) (x 2)).trans ?_
    refine Eq.trans ?_ (out_right A b (pos q i) d ⟨0 + (x 2).val, by omega⟩ (by show d.val = 1024 + (0 + (x 2).val); omega)).symm
    exact congrArg (fun z => right A b (pos q z) _) (Fin.ext h1.symm)
  refine View.allAt_cons_unit _ _ _ _ _ (fun x hx => ?_) ?_
  · have h1 : i.val = 0 + (x 1).val := hx 1
    have h2 : d.val = 1024 + (x 2).val := hx 2
    have e2 : (x 2).val < 128 := (x 2).isLt
    refine (congrArg _ (eq_ix3 x)).trans ?_
    rw [fin1 (x 0)]
    refine (s0_0_apply G (x 1) (x 2)).trans ?_
    refine Eq.trans ?_ (out_right A b (pos q i) d ⟨0 + (x 2).val, by omega⟩ (by show d.val = 1024 + (0 + (x 2).val); omega)).symm
    exact congrArg (fun z => right A b (pos q z) _) (Fin.ext h1.symm)
  refine View.allAt_cons_unit _ _ _ _ _ (fun x hx => ?_) (View.allAt_nil _ _)
  have h1 : i.val = 0 + (x 1).val := hx 1
  have h2 : d.val = 0 + (x 2).val := hx 2
  refine (congrArg _ (eq_ix3 x)).trans ?_
  rw [fin1 (x 0)]
  refine (sL_left G (x 1) (x 2)).trans ?_
  refine Eq.trans ?_ (out_left A b (pos q i) d (x 2) (by omega)).symm
  exact congrArg (fun z => left A b (pos q z) _) (Fin.ext (by omega))

end Cert.Proof.Mix
-- ==== Proof.MixRead.lean ====
/-
  The mixing call's blocks at a grid point, read off the arrays it is launched on.
-/
module

public import proofs.«01_k».proof.Proof.MixBlock
public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

namespace Cert.Proof.Mix

open Idealize.ShloMosaic Idealize.ShloMosaic.TcCoe Idealize.SL.Sem Cert.Kernel3Ideal Cert.Kernel3Ideal.Gen

/-- Which block each window takes at a grid point. -/
theorem idx : ∀ t : Fin grid0.N, t.val < 64 ∧ win0_0.index t = ![t.val / 8, t.val % 8, 0] ∧ win0_1.index t = ![t.val / 8, 0, 0]
    ∧ win0_2.index t = ![0, 0]
    ∧ win0_3.index t = ![0, 0]
    ∧ win0_4.index t = ![0, 0]
    ∧ win0_5.index t = ![0, 0]
    ∧ win0_6.index t = ![0, 0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0]
    ∧ win0_14.index t = ![t.val / 8, t.val % 8, 0] := by
  decide +kernel

/-- A point's batch entry. -/
def bt (t : Fin grid0.N) : Fin 8 := ⟨t.val / 8, by have := (idx t).1; omega⟩
/-- A point's tile. -/
def qt (t : Fin grid0.N) : Fin 8 := ⟨t.val % 8, by omega⟩

variable (m : (ℓ : Loc nD τ sig) → Buf (Elt Ideal) ℓ) (c : Dev nD) (t : Fin grid0.N)

/-- The arrays the call is launched on. -/
abbrev AA : Args where
  x := m ((c : Thread nD τ).loc main_arg0)
  md := m ((c : Thread nD τ).loc main_arg1)
  g := m ((c : Thread nD τ).loc main_arg2)
  win := m ((c : Thread nD τ).loc main_arg3)
  cw := m ((c : Thread nD τ).loc main_arg4)
  cb := m ((c : Thread nD τ).loc main_arg5)
  wa := m ((c : Thread nD τ).loc main_arg6)
  ba := m ((c : Thread nD τ).loc main_arg7)
  wi := m ((c : Thread nD τ).loc main_arg8)
  bi := m ((c : Thread nD τ).loc main_arg9)
  lam := m ((c : Thread nD τ).loc main_arg10)
  gv := m ((c : Thread nD τ).loc main_arg11)
  ws := m ((c : Thread nD τ).loc main_arg12)
  bs := m ((c : Thread nD τ).loc main_arg13)

theorem in0 (u : Fin 1) (r : Fin 256) (k : Fin 2048) : iblk m c 0 t (ix3 u r k) = (AA m c).x (ix3 (bt t) (pos (qt t) r) k) := by
  blk_ext [iblk, V_main_arg0, bt, qt, pos, (idx t).2.1]
theorem in1 (u : Fin 1) (r : Fin 6) (k : Fin 2048) : iblk m c 1 t (ix3 u r k) = (AA m c).md (ix3 (bt t) r k) := by
  blk_ext [iblk, V_main_arg1, bt, (idx t).2.2.1]
theorem in2 (u : Fin 1) (k : Fin 2048) : iblk m c 2 t (ix2 u k) = (AA m c).g (ix2 (0 : Fin 1) k) := by
  blk_simp [iblk, (idx t).2.2.2.1]
  entry_read
  pointwise
  blk_ext [(idx t).2.2.2.1]
theorem in3 (k : Fin 2048) (e : Fin 4096) : iblk m c 3 t (ix2 k e) = (AA m c).win (ix3 (0 : Fin 1) k e) := by
  blk_simp [iblk, (idx t).2.2.2.2.1]
  entry_read
  pointwise
  blk_ext [(idx t).2.2.2.2.1]
theorem in4 (j : Fin 4) (d : Fin 1024) : iblk m c 4 t (ix2 j d) = (AA m c).cw (ix3 (0 : Fin 1) j d) := by
  blk_simp [iblk, (idx t).2.2.2.2.2.1]
  entry_read
  pointwise
  blk_ext [(idx t).2.2.2.2.2.1]
theorem in5 (u : Fin 1) (d : Fin 1024) : iblk m c 5 t (ix2 u d) = (AA m c).cb (ix2 (0 : Fin 1) d) := by
  blk_simp [iblk, (idx t).2.2.2.2.2.2.1]
  entry_read
  pointwise
  blk_ext [(idx t).2.2.2.2.2.2.1]
theorem in6 (h : Fin 8) (k l : Fin 128) : iblk m c 6 t (ix3 h k l) = (AA m c).wa (ix4 (0 : Fin 1) h k l) := by
  blk_simp [iblk, (idx t).2.2.2.2.2.2.2.1]
  entry_read
  pointwise
  blk_ext [(idx t).2.2.2.2.2.2.2.1]
theorem in7 (u : Fin 1) (d : Fin 1024) : iblk m c 7 t (ix2 u d) = (AA m c).ba (ix3 (0 : Fin 1) (⟨d.val / 128, by omega⟩ : Fin 8) (⟨d.val % 128, by omega⟩ : Fin 128)) := by
  blk_simp [iblk, (idx t).2.2.2.2.2.2.2.2.1]
  entry_read
  pointwise
  blk_ext [(idx t).2.2.2.2.2.2.2.2.1]
theorem in8 (h : Fin 8) (k l : Fin 128) : iblk m c 8 t (ix3 h k l) = (AA m c).wi (ix4 (0 : Fin 1) h k l) := by
  blk_simp [iblk, (idx t).2.2.2.2.2.2.2.2.2.1]
  entry_read
  pointwise
  blk_ext [(idx t).2.2.2.2.2.2.2.2.2.1]
theorem in9 (u : Fin 1) (d : Fin 1024) : iblk m c 9 t (ix2 u d) = (AA m c).bi (ix3 (0 : Fin 1) (⟨d.val / 128, by omega⟩ : Fin 8) (⟨d.val % 128, by omega⟩ : Fin 128)) := by
  blk_simp [iblk, (idx t).2.2.2.2.2.2.2.2.2.2.1]
  entry_read
  pointwise
  blk_ext [(idx t).2.2.2.2.2.2.2.2.2.2.1]
theorem in10 (u : Fin 1) (d : Fin 1024) : iblk m c 10 t (ix2 u d) = (AA m c).lam (ix2 (0 : Fin 1) d) := by
  blk_simp [iblk, (idx t).2.2.2.2.2.2.2.2.2.2.2.1]
  entry_read
  pointwise
  blk_ext [(idx t).2.2.2.2.2.2.2.2.2.2.2.1]
theorem in11 (u : Fin 1) (d : Fin 1024) : iblk m c 11 t (ix2 u d) = (AA m c).gv (ix2 (0 : Fin 1) d) := by
  blk_simp [iblk, (idx t).2.2.2.2.2.2.2.2.2.2.2.2.1]
  entry_read
  pointwise
  blk_ext [(idx t).2.2.2.2.2.2.2.2.2.2.2.2.1]
theorem in12 (h : Fin 8) (k l : Fin 128) : iblk m c 12 t (ix3 h k l) = (AA m c).ws (ix4 (0 : Fin 1) h k l) := by
  blk_simp [iblk, (idx t).2.2.2.2.2.2.2.2.2.2.2.2.2.1]
  entry_read
  pointwise
  blk_ext [(idx t).2.2.2.2.2.2.2.2.2.2.2.2.2.1]
theorem in13 (i : Fin 128) (g : Fin 8) : iblk m c 13 t (ix2 i g) = (AA m c).bs (ix3 (0 : Fin 1) g i) := by
  blk_simp [iblk, (idx t).2.2.2.2.2.2.2.2.2.2.2.2.2.2.1]
  entry_read
  pointwise
  blk_ext [(idx t).2.2.2.2.2.2.2.2.2.2.2.2.2.2.1]

end Cert.Proof.Mix
-- ==== Proof.MixPoint.lean ====
/-
  What the mixing kernel leaves at a grid point: its result block and the two buffers it keeps, over the point's blocks.
-/
module

public import proofs.«01_k».proof.Proof.MixOut
public import proofs.«01_k».proof.Proof.MixRead

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The projected rows the convolution runs over. -/
def rowsT : FVec Ideal S256x1024 .f32 :=
  k0_pay6 (iblk m c 0 t) (View.ld (iblk m c 1 t) (Rect.unit (s := S1x6x2048) ![0, 0, 0] ![1, 1, 2048] inb_S1x6x2048_S1x1x2048_0_0_0))
    (View.ld (iblk m c 1 t) (Rect.unit (s := S1x6x2048) ![0, 1, 0] ![1, 1, 2048] inb_S1x6x2048_S1x1x2048_0_1_0)) (iblk m c 2 t)
    (View.ld (iblk m c 3 t) (Rect.unit (s := S2048x4096) ![0, 0] ![2048, 1024] inb_S2048x4096_S2048x1024_0_0))

/-- A point's blocks, with its three shifted reads and its starting row. -/
def blocks (e46 e52 e58 : Vec Ideal S256x1024 .f32) (h0 : Vec Ideal S1x1024 .f32) : Blocks where
  a2 := iblk m c 0 t
  a3 := iblk m c 1 t
  a4 := iblk m c 2 t
  a5 := iblk m c 3 t
  a6 := iblk m c 4 t
  a7 := iblk m c 5 t
  a8 := iblk m c 6 t
  a9 := iblk m c 7 t
  a10 := iblk m c 8 t
  a11 := iblk m c 9 t
  a12 := iblk m c 10 t
  a13 := iblk m c 11 t
  a14 := iblk m c 12 t
  a15 := iblk m c 13 t
  e46 := e46
  e52 := e52
  e58 := e58
  h0 := h0

/-- What the row buffer is written with at a first tile, before it is read. -/
abbrev listA : List (View.Piece (Elt Ideal) S264x1024 .f32) :=
  [⟨Rect.unit ![8, 0] ![256, 1024] inb_S264x1024_S256x1024_8_0, k0_pay7 (rowsT m c t)⟩,
   ⟨Rect.unit ![0, 0] ![8, 1024] inb_S264x1024_S8x1024_0_0, k0_pay3 (F := Ideal)⟩]
/-- At a later tile. -/
abbrev listB : List (View.Piece (Elt Ideal) S264x1024 .f32) :=
  [⟨Rect.unit ![8, 0] ![256, 1024] inb_S264x1024_S256x1024_8_0, k0_pay7 (rowsT m c t)⟩]
/-- What the point before leaves. -/
abbrev prev := outsAt0 m c (t.val - 1) (Nat.lt_of_le_of_lt (Nat.sub_le _ _) t.isLt)
/-- The row buffer at a later tile, when it is read. -/
abbrev bufB : Vec Ideal S264x1024 .f32 :=
  View.read (Elt Ideal) (View.whole cc0_scratch0)
    ((View.whole cc0_scratch0).writes (Elt Ideal) ((Memref.isWhole_whole cc0_scratch0).unread (prev m c t).2.1) (listB m c t))

/-- The blocks at a first tile. -/
def XA : Blocks :=
  blocks m c t ((View.whole cc0_scratch0).readCov (listA m c t) (Rect.unit (s := S264x1024) ![5, 0] ![256, 1024] inb_S264x1024_S256x1024_5_0).toLoadRect)
    ((View.whole cc0_scratch0).readCov (listA m c t) (Rect.unit (s := S264x1024) ![6, 0] ![256, 1024] inb_S264x1024_S256x1024_6_0).toLoadRect)
    ((View.whole cc0_scratch0).readCov (listA m c t) (Rect.unit (s := S264x1024) ![7, 0] ![256, 1024] inb_S264x1024_S256x1024_7_0).toLoadRect)
    (View.ld (k0_pay4 (F := Ideal)) (Rect.unit (s := S8x1024) ![0, 0] ![1, 1024] inb_S8x1024_S1x1024_0_0))

/-- The blocks at a later tile. -/
def XB : Blocks :=
  blocks m c t (View.ld (bufB m c t) (Rect.unit (s := S264x1024) ![5, 0] ![256, 1024] inb_S264x1024_S256x1024_5_0))
    (View.ld (bufB m c t) (Rect.unit (s := S264x1024) ![6, 0] ![256, 1024] inb_S264x1024_S256x1024_6_0))
    (View.ld (bufB m c t) (Rect.unit (s := S264x1024) ![7, 0] ![256, 1024] inb_S264x1024_S256x1024_7_0))
    (View.ld (View.read (Elt Ideal) (View.whole cc0_scratch1) ((Memref.isWhole_whole cc0_scratch1).unread (prev m c t).2.2)) (Rect.unit (s := S8x1024) ![0, 0] ![1, 1024] inb_S8x1024_S1x1024_0_0))

/-- The kept rows after a first tile. -/
theorem keptA (h : t.val % 8 = 0) (i : Fin 264) (d : Fin 1024) :
    (outsAt0 m c t.val t.isLt).2.1 (ix2 i d)
      = View.canon ((⟨Rect.unit ![0, 0] ![8, 1024] inb_S264x1024_S8x1024_0_0, k0_pay9 (rowsT m c t)⟩ : View.Piece (Elt Ideal) S264x1024 .f32) :: listA m c t) (ix2 i d) := by
  rw [outsAt0_A m c t h]
  frame_open
  simp (disch := decide) only [↓ View.readCov_skip, ↓ View.readCov_cons_toLoadRect, ↓ View.readCov_fill]
  frame_out
  rfl

/-- The kept rows after a later tile. -/
theorem keptB (h : ¬ t.val % 8 = 0) (i : Fin 264) (d : Fin 1024) :
    (outsAt0 m c t.val t.isLt).2.1 (ix2 i d)
      = View.canon ((⟨Rect.unit ![0, 0] ![8, 1024] inb_S264x1024_S8x1024_0_0, k0_pay9 (rowsT m c t)⟩ : View.Piece (Elt Ideal) S264x1024 .f32) :: listB m c t) (ix2 i d) := by
  rw [outsAt0_B m c t h]
  frame_open
  simp (disch := decide) only [↓ View.readCov_skip, ↓ View.readCov_cons_toLoadRect, ↓ View.readCov_fill]
  frame_out
  rfl

end Cert.Proof.Mix
-- ==== Proof.MixPointA.lean ====
/-
  The result block the mixing kernel stores at a first tile.
-/
module

public import proofs.«01_k».proof.Proof.MixPoint

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The stored block. -/
theorem blockA (h : t.val % 8 = 0) (u : Fin 1) (i : Fin 256) (d : Fin 2048) :
    (outsAt0 m c t.val t.isLt).1 (ix3 u i d) = View.canon (pieces (XA m c t)) (ix3 u i d) := by
  rw [outsAt0_A m c t h]
  frame_open
  simp (disch := decide) only [↓ View.readCov_skip, ↓ View.readCov_cons_toLoadRect, ↓ View.readCov_fill]
  frame_out
  sl_kernel_rfl

end Cert.Proof.Mix
-- ==== Proof.MixPointB.lean ====
/-
  The result block the mixing kernel stores at a later tile.
-/
module

public import proofs.«01_k».proof.Proof.MixPoint

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The stored block. -/
theorem blockB (h : ¬ t.val % 8 = 0) (u : Fin 1) (i : Fin 256) (d : Fin 2048) :
    (outsAt0 m c t.val t.isLt).1 (ix3 u i d) = View.canon (pieces (XB m c t)) (ix3 u i d) := by
  rw [outsAt0_B m c t h]
  frame_open
  simp (disch := decide) only [↓ View.readCov_skip, ↓ View.readCov_cons_toLoadRect, ↓ View.readCov_fill]
  frame_out
  sl_kernel_rfl

end Cert.Proof.Mix
-- ==== Proof.MixCarryA.lean ====
/-
  The row of the recurrence the mixing kernel keeps at a first tile.
-/
module

public import proofs.«01_k».proof.Proof.MixPoint

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The recurrence's row kept after a first tile. -/
theorem carryA (h : t.val % 8 = 0) (d : Fin 1024) :
    (outsAt0 m c t.val t.isLt).2.2 (ix2 (0 : Fin 8) d)
      = View.canon [(⟨Rect.unit ![0, 0] ![1, 1024] inb_S8x1024_S1x1024_0_0, k0_pay91 (t398 (XA m c t))⟩ : View.Piece (Elt Ideal) S8x1024 .f32),
          ⟨Rect.unit ![0, 0] ![8, 1024] (by decide), k0_pay4 (F := Ideal)⟩] (ix2 (0 : Fin 8) d) := by
  rw [outsAt0_A m c t h]
  frame_open
  simp (disch := decide) only [↓ View.readCov_skip, ↓ View.readCov_cons_toLoadRect, ↓ View.readCov_fill]
  frame_out
  sl_kernel_rfl

end Cert.Proof.Mix
-- ==== Proof.MixCarryB.lean ====
/-
  The row of the recurrence the mixing kernel keeps at a later tile.
-/
module

public import proofs.«01_k».proof.Proof.MixPoint

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The recurrence's row kept after a later tile. -/
theorem carryB (h : ¬ t.val % 8 = 0) (d : Fin 1024) :
    (outsAt0 m c t.val t.isLt).2.2 (ix2 (0 : Fin 8) d)
      = View.read (Elt Ideal) (View.whole cc0_scratch1)
          ((View.whole cc0_scratch1).writes (Elt Ideal) ((Memref.isWhole_whole cc0_scratch1).unread (prev m c t).2.2)
            [⟨Rect.unit ![0, 0] ![1, 1024] inb_S8x1024_S1x1024_0_0, k0_pay91 (t398 (XB m c t))⟩]) (ix2 (0 : Fin 8) d) := by
  rw [outsAt0_B m c t h]
  frame_open
  simp (disch := decide) only [↓ View.readCov_skip, ↓ View.readCov_cons_toLoadRect, ↓ View.readCov_fill]
  frame_out
  sl_kernel_rfl

end Cert.Proof.Mix
-- ==== Proof.MixState.lean ====
/-
  The mixing call's state from point to point: the kept rows are the projected rows the next tile's convolution needs, the kept row is where its recurrence starts, and each
  point's block is that tile of the result.
-/
module

public import proofs.«01_k».proof.Proof.MixPointA
public import proofs.«01_k».proof.Proof.MixPointB
public import proofs.«01_k».proof.Proof.MixCarryA
public import proofs.«01_k».proof.Proof.MixCarryB
public import Idealize.ShloMosaic.Lib.WritesUnit

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

set_option maxHeartbeats 4000000 in
/-- A point's blocks are the launched arrays' when its shifted reads and its starting row are the formulas'. -/
theorem good_blocks (e46 e52 e58 : Vec Ideal S256x1024 .f32) (h0 : Vec Ideal S1x1024 .f32)
    (hE0 : ∀ r d, e46 (ix2 r d) = xpad (AA m c) (bt t) ((pos (qt t) r).val) d)
    (hE1 : ∀ r d, e52 (ix2 r d) = xpad (AA m c) (bt t) ((pos (qt t) r).val + 1) d)
    (hE2 : ∀ r d, e58 (ix2 r d) = xpad (AA m c) (bt t) ((pos (qt t) r).val + 2) d)
    (hH : ∀ d, h0 (ix2 (0 : Fin 1) d) = rec (AA m c) (bt t) d ((qt t).val * 256)) :
    Good (AA m c) (bt t) (qt t) (blocks m c t e46 e52 e58 h0) := by
  refine ⟨?_, ?_, ?_, ?_, ?_, ?_, ?_, ?_, ?_, ?_, ?_, ?_, ?_, ?_, hE0, hE1, hE2, hH⟩
  · exact fun r k => in0 m c t 0 r k
  · exact fun i k => in1 m c t 0 i k
  · exact fun k => in2 m c t 0 k
  · exact fun k e => in3 m c t k e
  · exact fun j d => in4 m c t j d
  · exact fun d => in5 m c t 0 d
  · exact fun h k l => in6 m c t h k l
  · exact fun d => in7 m c t 0 d
  · exact fun h k l => in8 m c t h k l
  · exact fun d => in9 m c t 0 d
  · exact fun d => in10 m c t 0 d
  · exact fun d => in11 m c t 0 d
  · exact fun h k l => in12 m c t h k l
  · exact fun i g => in13 m c t i g

/-- The projected rows, row by row. -/
theorem rowsT_apply (r : Fin 256) (d : Fin 1024) : rowsT m c t (ix2 r d) = xl (AA m c) (bt t) (pos (qt t) r) d :=
  t32_apply (good_blocks m c t (fun i => xpad (AA m c) (bt t) ((pos (qt t) (i 0)).val) (i 1)) (fun i => xpad (AA m c) (bt t) ((pos (qt t) (i 0)).val + 1) (i 1))
    (fun i => xpad (AA m c) (bt t) ((pos (qt t) (i 0)).val + 2) (i 1)) (fun i => rec (AA m c) (bt t) (i 1) ((qt t).val * 256))
    (fun _ _ => rfl) (fun _ _ => rfl) (fun _ _ => rfl) (fun _ => rfl)) r d

theorem pay7_apply (v : FVec Ideal S256x1024 .f32) (r : Fin 256) (d : Fin 1024) : k0_pay7 v (ix2 r d) = v (ix2 r d) := by
  pointwise [k0_pay7]

theorem pay9_apply (v : FVec Ideal S256x1024 .f32) (i : Fin 8) (d : Fin 1024) : k0_pay9 v (ix2 i d) = v (ix2 (⟨248 + i.val, by omega⟩ : Fin 256) d) := by
  pointwise [k0_pay9]

theorem pay91_apply (v : FVec Ideal S1x1024 .f32) (d : Fin 1024) : k0_pay91 v (ix2 (0 : Fin 1) d) = v (ix2 (0 : Fin 1) d) := by
  pointwise [k0_pay91]

/-- The rows a tile keeps are its last eight. -/
theorem kept (i : Fin 8) (d : Fin 1024) :
    (outsAt0 m c t.val t.isLt).2.1 (ix2 (⟨i.val, by omega⟩ : Fin 264) d) = xl (AA m c) (bt t) (pos (qt t) ⟨248 + i.val, by omega⟩) d := by
  have key (L : List (View.Piece (Elt Ideal) S264x1024 .f32)) :
      View.canon ((⟨Rect.unit ![0, 0] ![8, 1024] inb_S264x1024_S8x1024_0_0, k0_pay9 (rowsT m c t)⟩ : View.Piece (Elt Ideal) S264x1024 .f32) :: L)
        (ix2 (⟨i.val, by omega⟩ : Fin 264) d) = xl (AA m c) (bt t) (pos (qt t) ⟨248 + i.val, by omega⟩) d := by
    refine (View.read_writes_junk_apply_eq_canon (View.whole cc0_scratch0) _ _).symm.trans ?_
    refine (View.read_writes_cons_rows_of_mem (View.whole cc0_scratch0) _ (o := 0) inb_S264x1024_S8x1024_0_0 _ L _ (ix2 i d) rfl (Nat.zero_add _).symm rfl).trans ?_
    exact (pay9_apply _ i d).trans (rowsT_apply m c t _ d)
  by_cases h : t.val % 8 = 0
  · exact (keptA m c t h _ d).trans (key _)
  · exact (keptB m c t h _ d).trans (key _)

/-- A padded row past the padding. -/
theorem xpad_row (A : Args) (b : Fin 8) (n : ℕ) (s : Fin 2048) (d : Fin 1024) (h3 : 3 ≤ n) (hs : s.val = n - 3) : xpad A b n d = xl A b s d := by
  have h : 3 ≤ n ∧ n - 3 < 2048 := ⟨h3, hs ▸ s.isLt⟩
  unfold xpad
  rw [dif_pos h]
  exact congrArg (fun z => xl A b z d) (Fin.ext hs.symm)

/-- A padded row inside the padding. -/
theorem xpad_pad (A : Args) (b : Fin 8) (n : ℕ) (d : Fin 1024) (h3 : n < 3) : xpad A b n d = 0 := by
  have h : ¬ (3 ≤ n ∧ n - 3 < 2048) := by omega
  unfold xpad
  rw [dif_neg h]

/-- The row buffer as a tile reads it, when its first rows hold what they should. -/
theorem buf_apply (f : (View.whole cc0_scratch0).ty.Contents (Elt Ideal)) (L : List (View.Piece (Elt Ideal) S264x1024 .f32))
    (hlo : ∀ (i : Fin 264) (d : Fin 1024), 5 ≤ i.val → i.val < 8 →
      View.read (Elt Ideal) (View.whole cc0_scratch0) ((View.whole cc0_scratch0).writes (Elt Ideal) f L) (ix2 i d) = xpad (AA m c) (bt t) ((qt t).val * 256 + (i.val - 5)) d)
    (i : Fin 264) (d : Fin 1024) (hi : 5 ≤ i.val) :
    View.read (Elt Ideal) (View.whole cc0_scratch0) ((View.whole cc0_scratch0).writes (Elt Ideal) f
      ((⟨Rect.unit ![8, 0] ![256, 1024] inb_S264x1024_S256x1024_8_0, k0_pay7 (rowsT m c t)⟩ : View.Piece (Elt Ideal) S264x1024 .f32) :: L)) (ix2 i d)
      = xpad (AA m c) (bt t) ((qt t).val * 256 + (i.val - 5)) d := by
  by_cases h : i.val < 8
  · refine (View.read_writes_cons_rows_of_not_mem (View.whole cc0_scratch0) f (o := 8) (W := 256) inb_S264x1024_S256x1024_8_0 _ L (ix2 i d) rfl rfl (Or.inl h)).trans ?_
    exact hlo i d hi h
  · have hr : i.val - 8 < 256 := by omega
    refine (View.read_writes_cons_rows_of_mem (View.whole cc0_scratch0) f (o := 8) inb_S264x1024_S256x1024_8_0 _ L (ix2 i d) (ix2 (⟨i.val - 8, hr⟩ : Fin 256) d) rfl
      (show i.val = 8 + (i.val - 8) by omega) rfl).trans ?_
    refine (pay7_apply _ _ d).trans ((rowsT_apply m c t _ d).trans (xpad_row _ _ _ _ d (by omega) ?_).symm)
    show (qt t).val * 256 + (i.val - 8) = (qt t).val * 256 + (i.val - 5) - 3
    omega

/-- A first tile's rows before the first are zeros. -/
theorem lowA (h : t.val % 8 = 0) (f : (View.whole cc0_scratch0).ty.Contents (Elt Ideal)) (i : Fin 264) (d : Fin 1024) (hi : 5 ≤ i.val) (h8 : i.val < 8) :
    View.read (Elt Ideal) (View.whole cc0_scratch0) ((View.whole cc0_scratch0).writes (Elt Ideal) f
      [(⟨Rect.unit ![0, 0] ![8, 1024] inb_S264x1024_S8x1024_0_0, k0_pay3 (F := Ideal)⟩ : View.Piece (Elt Ideal) S264x1024 .f32)]) (ix2 i d)
      = xpad (AA m c) (bt t) ((qt t).val * 256 + (i.val - 5)) d := by
  refine (View.read_writes_cons_rows_of_mem (View.whole cc0_scratch0) f (o := 0) inb_S264x1024_S8x1024_0_0 _ [] (ix2 i d) (ix2 (⟨i.val, h8⟩ : Fin 8) d) rfl
    (Nat.zero_add _).symm rfl).trans ?_
  have hq : (qt t).val = 0 := h
  refine Eq.trans ?_ (xpad_pad _ _ _ d (by omega)).symm
  pointwise [k0_pay3]

/-- The point before, in the same batch entry. -/
theorem prev_point (h : ¬ t.val % 8 = 0) (s : Fin cfg0.N) (hs : s.val = t.val - 1) : bt s = bt t ∧ (qt s).val + 1 = (qt t).val := by
  refine ⟨Fin.ext ?_, ?_⟩
  · show s.val / 8 = t.val / 8
    omega
  · show s.val % 8 + 1 = t.val % 8
    omega

/-- A later tile's rows before the first are the point before's last. -/
theorem lowB (h : ¬ t.val % 8 = 0) (i : Fin 264) (d : Fin 1024) (hi : 5 ≤ i.val) (h8 : i.val < 8) :
    View.read (Elt Ideal) (View.whole cc0_scratch0) ((View.whole cc0_scratch0).writes (Elt Ideal) ((Memref.isWhole_whole cc0_scratch0).unread (prev m c t).2.1) []) (ix2 i d)
      = xpad (AA m c) (bt t) ((qt t).val * 256 + (i.val - 5)) d := by
  refine (congrFun (read_unread_whole cc0_scratch0 (Memref.isWhole_whole cc0_scratch0) (prev m c t).2.1) (ix2 i d)).trans ?_
  have hp : t.val - 1 < cfg0.N := Nat.lt_of_le_of_lt (Nat.sub_le _ _) t.isLt
  obtain ⟨hb, hq⟩ := prev_point t h ⟨t.val - 1, hp⟩ rfl
  refine (kept m c ⟨t.val - 1, hp⟩ (⟨i.val, h8⟩ : Fin 8) d).trans ?_
  rw [hb]
  refine (xpad_row _ _ _ _ d (by omega) ?_).symm
  show (qt ⟨t.val - 1, hp⟩).val * 256 + (248 + i.val) = (qt t).val * 256 + (i.val - 5) - 3
  omega

/-- The row buffer at a first tile, when it is read. -/
abbrev bufA : Vec Ideal S264x1024 .f32 :=
  View.read (Elt Ideal) (View.whole cc0_scratch0) ((View.whole cc0_scratch0).writes (Elt Ideal) (View.whole cc0_scratch0).junk (listA m c t))

/-- A shifted read of a first tile's rows. -/
theorem readA (o : ℕ) (inb : ∀ a, (![o, 0] : Fin 2 → ℕ) a + (![256, 1024] : Fin 2 → ℕ) a ≤ S264x1024.size a) (ho : o ≤ 8) (r : Fin 256) (d : Fin 1024) :
    (View.whole cc0_scratch0).readCov (listA m c t) (Rect.unit (s := S264x1024) ![o, 0] ![256, 1024] inb).toLoadRect (ix2 r d)
      = bufA m c t (ix2 (⟨o + r.val, by omega⟩ : Fin 264) d) := by
  rw [View.readCov_eq_canon']
  refine (View.read_writes_junk_apply_eq_canon (View.whole cc0_scratch0) _ _).symm.trans (congrArg (bufA m c t) ?_)
  funext a
  refine Fin.ext ?_
  fin_cases a
  · show o + 1 * r.val = o + r.val
    omega
  · show 0 + 1 * d.val = d.val
    omega

/-- A first tile's blocks are the launched arrays'. -/
theorem goodA (h : t.val % 8 = 0) : Good (AA m c) (bt t) (qt t) (XA m c t) := by
  have hb (i : Fin 264) (d : Fin 1024) (hi : 5 ≤ i.val) : bufA m c t (ix2 i d) = xpad (AA m c) (bt t) ((qt t).val * 256 + (i.val - 5)) d :=
    buf_apply m c t (View.whole cc0_scratch0).junk [⟨Rect.unit ![0, 0] ![8, 1024] inb_S264x1024_S8x1024_0_0, k0_pay3 (F := Ideal)⟩] (lowA m c t h _) i d hi
  unfold XA
  refine good_blocks m c t _ _ _ _ (fun r d => ?_) (fun r d => ?_) (fun r d => ?_) (fun d => ?_)
  · refine (readA m c t 5 _ (by omega) r d).trans ((hb (⟨5 + r.val, by omega⟩ : Fin 264) d (by show 5 ≤ 5 + r.val; omega)).trans ?_)
    exact congrArg (fun n => xpad (AA m c) (bt t) n d) (show (qt t).val * 256 + (5 + r.val - 5) = (qt t).val * 256 + r.val by omega)
  · refine (readA m c t 6 _ (by omega) r d).trans ((hb (⟨6 + r.val, by omega⟩ : Fin 264) d (by show 5 ≤ 6 + r.val; omega)).trans ?_)
    exact congrArg (fun n => xpad (AA m c) (bt t) n d) (show (qt t).val * 256 + (6 + r.val - 5) = (qt t).val * 256 + r.val + 1 by omega)
  · refine (readA m c t 7 _ (by omega) r d).trans ((hb (⟨7 + r.val, by omega⟩ : Fin 264) d (by show 5 ≤ 7 + r.val; omega)).trans ?_)
    exact congrArg (fun n => xpad (AA m c) (bt t) n d) (show (qt t).val * 256 + (7 + r.val - 5) = (qt t).val * 256 + r.val + 2 by omega)
  · have hq : (qt t).val * 256 = 0 := by rw [show (qt t).val = 0 from h]
    rw [hq]
    show View.ld (Val := Elt Ideal) (e' := .f32) (S := S8x1024) (k0_pay4 (F := Ideal)) (Rect.unit (s := S8x1024) ![0, 0] ![1, 1024] inb_S8x1024_S1x1024_0_0) (ix2 (0 : Fin 1) d) = 0
    pointwise [k0_pay4]

/-- A later tile's blocks are the launched arrays', when the point before kept where the recurrence stood. -/
theorem goodB (h : ¬ t.val % 8 = 0) (hp : ∀ d, (prev m c t).2.2 (ix2 (0 : Fin 8) d) = rec (AA m c) (bt t) d ((qt t).val * 256)) :
    Good (AA m c) (bt t) (qt t) (XB m c t) := by
  have hb (i : Fin 264) (d : Fin 1024) (hi : 5 ≤ i.val) :=
    buf_apply m c t ((Memref.isWhole_whole cc0_scratch0).unread (prev m c t).2.1) [] (lowB m c t h) i d hi
  refine good_blocks m c t _ _ _ _ (fun r d => ?_) (fun r d => ?_) (fun r d => ?_) (fun d => ?_)
  · refine Eq.trans (congrArg (bufB m c t) ?_) ((hb (⟨5 + r.val, by omega⟩ : Fin 264) d (by show 5 ≤ 5 + r.val; omega)).trans ?_)
    · idx_ext
    · exact congrArg (fun n => xpad (AA m c) (bt t) n d) (show (qt t).val * 256 + (5 + r.val - 5) = (qt t).val * 256 + r.val by omega)
  · refine Eq.trans (congrArg (bufB m c t) ?_) ((hb (⟨6 + r.val, by omega⟩ : Fin 264) d (by show 5 ≤ 6 + r.val; omega)).trans ?_)
    · idx_ext
    · exact congrArg (fun n => xpad (AA m c) (bt t) n d) (show (qt t).val * 256 + (6 + r.val - 5) = (qt t).val * 256 + r.val + 1 by omega)
  · refine Eq.trans (congrArg (bufB m c t) ?_) ((hb (⟨7 + r.val, by omega⟩ : Fin 264) d (by show 5 ≤ 7 + r.val; omega)).trans ?_)
    · idx_ext
    · exact congrArg (fun n => xpad (AA m c) (bt t) n d) (show (qt t).val * 256 + (7 + r.val - 5) = (qt t).val * 256 + r.val + 2 by omega)
  · refine Eq.trans ?_ (hp d)
    rw [read_unread_whole]
    refine congrArg (prev m c t).2.2 ?_
    idx_ext

/-- What each point leaves: where the recurrence stands, and its tile of the result. -/
theorem point : ∀ (n : ℕ) (hn : n < cfg0.N),
    (∀ d, (outsAt0 m c n hn).2.2 (ix2 (0 : Fin 8) d) = rec (AA m c) (bt ⟨n, hn⟩) d (((qt ⟨n, hn⟩).val + 1) * 256))
    ∧ ∀ (i : Fin 256) (d : Fin 2048), (outsAt0 m c n hn).1 (ix3 (0 : Fin 1) i d) = out (AA m c) (ix3 (bt ⟨n, hn⟩) (pos (qt ⟨n, hn⟩) i) d)
  | n, hn => by
    by_cases h : n % 8 = 0
    · have G := goodA m c ⟨n, hn⟩ h
      refine ⟨fun d => ?_, fun i d => (blockA m c ⟨n, hn⟩ h 0 i d).trans (pieces_apply G i d)⟩
      refine (carryA m c ⟨n, hn⟩ h d).trans ?_
      refine (View.read_writes_junk_apply_eq_canon (View.whole cc0_scratch1) _ _).symm.trans ?_
      refine (View.read_writes_cons_rows_of_mem (View.whole cc0_scratch1) _ (o := 0) inb_S8x1024_S1x1024_0_0 _ _ _ (ix2 (0 : Fin 1) d) rfl rfl rfl).trans ?_
      exact (pay91_apply _ d).trans (t398_apply G d)
    · match n, hn, h with
      | 0, _, h => exact absurd rfl h
      | k + 1, hn, h =>
        have hk : k < cfg0.N := Nat.lt_of_succ_lt hn
        obtain ⟨hb, hq⟩ := prev_point ⟨k + 1, hn⟩ h ⟨k, hk⟩ rfl
        have G := goodB m c ⟨k + 1, hn⟩ h fun d => by
          refine ((point k hk).1 d).trans ?_
          rw [hb, hq]
        refine ⟨fun d => ?_, fun i d => (blockB m c ⟨k + 1, hn⟩ h 0 i d).trans (pieces_apply G i d)⟩
        refine (carryB m c ⟨k + 1, hn⟩ h d).trans ?_
        refine (View.read_writes_cons_rows_of_mem (View.whole cc0_scratch1) _ (o := 0) inb_S8x1024_S1x1024_0_0 _ _ _ (ix2 (0 : Fin 1) d) rfl rfl rfl).trans ?_
        exact (pay91_apply _ d).trans (t398_apply G d)

end Cert.Proof.Mix
-- ==== Proof.MixKernel.lean ====
/-
  The mixing call: its result array after the run is the formula of MixSpec over the arrays it is launched on.
-/
module

public import proofs.«01_k».proof.Proof.MixState

@[expose] public section

set_option maxRecDepth 16384

noncomputable section

namespace Cert.Proof.Mix

open Idealize.ShloMosaic Idealize.ShloMosaic.TcCoe Idealize.SL.Sem Cert.Kernel3Ideal Cert.Kernel3Ideal.Gen

variable (m : (ℓ : Loc nD τ sig) → Buf (Elt Ideal) ℓ)

/-- The result after the run. -/
theorem arr14 (c : Dev nD) : (dats m 0 c).arrAt 14 cfg0.N = out (AA m c) := by
  refine (dats m 0 c).arrAt_eq_of_covers 14 _ (by decide +kernel) fun t hf y => ?_
  blk_simp
  rw [after0_14]
  refine (congrArg _ (eq_ix3 y)).trans ?_
  rw [fin1 (y 0)]
  refine ((point m c t.val t.isLt).2 (y 1) (y 2)).trans (congrArg (out (AA m c)) ?_)
  blk_ext [bt, qt, pos, (idx t).2.2.2.2.2.2.2.2.2.2.2.2.2.2.2]

/-- Every run of the call ends with that result, and its arguments as they were. -/
theorem run_mix (ρ : Dev nD → PrngReg) : θ_run (defs (F := Ideal)) (onTc (τ := τ) (main (F := Ideal))) ⟨m, fun _ => 0, ρ⟩ (fun r =>
    (∀ c : Dev nD, r.2.mem ((c.tc : Thread nD τ).loc main_v22) = out (AA m c))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  θ_run_and ((θ_run _ _ _).mono (fun _ h c => ((h c).1 14).trans (arr14 m c)) (run_main m ρ)) (unchanged m ρ)

end Cert.Proof.Mix
-- ==== Proof.MixRef.lean ====
/-
  The mixing call's reference before its loop: what each position's values are, by the formulas of MixSpec.
-/
module

public import proofs.«01_k».proof.Proof.MixSpec
public import proofs.«01_k».proof.Proof.Gen.Reference3Ideal.Step

@[expose] public section

set_option maxRecDepth 16384

noncomputable section

namespace Cert.Proof.Mix

open Idealize.ShloMosaic Cert.Reference3Ideal Cert.Reference3Ideal.Gen Cert.Reference3Ideal.Step

theorem sitofp_zero : (FloatOps.sitofp FTy.f32 (0#32) : Ideal .f32) = (0 : EReal) := by
  show ((((0#32 : BitVec 32).toInt : ℝ)) : EReal) = 0
  simp

theorem mask_eq : ∀ i j : Fin 128, Scalar.select (IntOp.cmpi CmpIPredicate.sge (IntOp.addi (BitVec.ofNat 32 i.val) 0#32) (BitVec.ofNat 32 j.val)) 1#1 0#1
    = if j.val ≤ i.val then 1#1 else 0#1 := by decide +kernel

theorem select_mask (i j : Fin 128) (x y : EReal) :
    Scalar.select (Scalar.select (IntOp.cmpi CmpIPredicate.sge (IntOp.addi (BitVec.ofNat 32 i.val) 0#32) (BitVec.ofNat 32 j.val)) 1#1 0#1) x y
      = if j.val ≤ i.val then x else y := by
  rw [mask_eq]
  split <;> rfl

variable (A : Args)

theorem ref_hn (b : Fin 8) (s : Fin 2048) (d : Fin 2048) :
    A_main_v25 (F := Ideal) A.x A.md A.g A.win A.cw A.cb A.wa A.ba A.wi A.bi A.lam A.gv A.ws A.bs (ix3 b s d) = hn A b s d := by
  pointwise [A_main_v25, A_main_v22, A_main_v13, A_main_v10, A_main_v9, A_main_v8, A_main_v7, A_main_v5, A_main_v3, A_main_v2, A_main_v1, K_main_cst, K_main_v4, K_main_cst_0, K_main_v6, K_main_cst_1, A_main_v12, A_main_v11, A_main_v0, A_main_v21, A_main_v20, K_main_v19, K_main_cst_2, A_main_v18, A_main_v17, A_main_v16, A_main_v24, A_main_v23, A_main_v15, A_main_v14, hn, meanSq]

theorem ref_proj (b : Fin 8) (s : Fin 2048) (e : Fin 4096) :
    A_main_v27 (F := Ideal) A.x A.md A.g A.win A.cw A.cb A.wa A.ba A.wi A.bi A.lam A.gv A.ws A.bs (ix3 b s e) = proj A b s e := by
  pointwise [A_main_v27, A_main_v26, ref_hn, proj]

theorem ref_xl (b : Fin 8) (s : Fin 2048) (d : Fin 1024) :
    A_main_v28 (F := Ideal) A.x A.md A.g A.win A.cw A.cb A.wa A.ba A.wi A.bi A.lam A.gv A.ws A.bs (ix3 b s d) = xl A b s d := by
  pointwise [A_main_v28, ref_proj, xl]

theorem ref_yg (b : Fin 8) (s : Fin 2048) (d : Fin 1024) :
    A_main_v29 (F := Ideal) A.x A.md A.g A.win A.cw A.cb A.wa A.ba A.wi A.bi A.lam A.gv A.ws A.bs (ix3 b s d) = yg A b s d := by
  pointwise [A_main_v29, ref_proj, yg]

theorem ref_uu (b : Fin 8) (s : Fin 2048) (d : Fin 1024) :
    A_main_v30 (F := Ideal) A.x A.md A.g A.win A.cw A.cb A.wa A.ba A.wi A.bi A.lam A.gv A.ws A.bs (ix3 b s d) = uu A b s d := by
  pointwise [A_main_v30, ref_proj, uu]

theorem ref_vv (b : Fin 8) (s : Fin 2048) (d : Fin 1024) :
    A_main_v31 (F := Ideal) A.x A.md A.g A.win A.cw A.cb A.wa A.ba A.wi A.bi A.lam A.gv A.ws A.bs (ix3 b s d) = vv A b s d := by
  pointwise [A_main_v31, ref_proj, vv]

theorem ref_pad (b : Fin 8) (s : Fin 2051) (d : Fin 1024) :
    A_main_v34 (F := Ideal) A.x A.md A.g A.win A.cw A.cb A.wa A.ba A.wi A.bi A.lam A.gv A.ws A.bs (ix3 b s d) = xpad A b s.val d := by
  pointwise [A_main_v34, K_main_call0_v0, K_main_c, ref_xl, xpad]
  rw [sitofp_zero]

theorem ref_xc (b : Fin 8) (s : Fin 2048) (d : Fin 1024) :
    A_main_v64 (F := Ideal) A.x A.md A.g A.win A.cw A.cb A.wa A.ba A.wi A.bi A.lam A.gv A.ws A.bs (ix3 b s d) = xc A b s d := by
  pointwise [A_main_v64, A_main_v61, A_main_v54, A_main_v47, A_main_v40, A_main_v39, A_main_v38, A_main_v36, A_main_v35, A_main_v32, A_main_v37, A_main_v46, A_main_v45, A_main_v44, A_main_v42, A_main_v41, A_main_v43, A_main_v53, A_main_v52, A_main_v51, A_main_v49, A_main_v48, A_main_v50, A_main_v60, A_main_v59, A_main_v58, A_main_v56, A_main_v55, A_main_v57, A_main_v63, A_main_v62, A_main_v33, ref_pad, xc]
  rw [Nat.add_comm 1 s.val, Nat.add_comm 2 s.val, Nat.add_comm 3 s.val]

theorem ref_gateA (b : Fin 8) (s : Fin 2048) (d : Fin 1024) :
    A_main_v82 (F := Ideal) A.x A.md A.g A.win A.cw A.cb A.wa A.ba A.wi A.bi A.lam A.gv A.ws A.bs (ix3 b s d) = gate A A.wa A.ba b s d := by
  pointwise [A_main_v82, A_main_v81, K_main_v80, K_main_cst_4, A_main_v79, K_main_v78, K_main_cst_3, A_main_v77, A_main_v76, A_main_v75, A_main_v72, A_main_v71, A_main_v65, A_main_v70, A_main_v74, A_main_v73, A_main_v66, ref_xc, gate, Ideal.logistic]

theorem ref_gateI (b : Fin 8) (s : Fin 2048) (d : Fin 1024) :
    A_main_v94 (F := Ideal) A.x A.md A.g A.win A.cw A.cb A.wa A.ba A.wi A.bi A.lam A.gv A.ws A.bs (ix3 b s d) = gate A A.wi A.bi b s d := by
  pointwise [A_main_v94, A_main_v93, K_main_v92, K_main_cst_6, A_main_v91, K_main_v90, K_main_cst_5, A_main_v89, A_main_v88, A_main_v87, A_main_v84, A_main_v83, A_main_v67, A_main_v70, A_main_v86, A_main_v85, A_main_v68, ref_xc, gate, Ideal.logistic]

theorem ref_logA (b : Fin 8) (s : Fin 2048) (d : Fin 1024) :
    A_main_v101 (F := Ideal) A.x A.md A.g A.win A.cw A.cb A.wa A.ba A.wi A.bi A.lam A.gv A.ws A.bs (ix3 b s d) = logA A b s d := by
  pointwise [A_main_v101, A_main_v96, K_main_v95, K_main_cst_7, A_main_v100, A_main_v99, A_main_v98, A_main_call1_v4, A_main_call1_v3, A_main_v97, A_main_v69, K_main_call1_v2, K_main_call1_cst, A_main_call1_v6, K_main_call1_v5, A_main_call1_v11, A_main_call1_v1, K_main_call1_v0, A_main_call1_v10, A_main_call1_v9, A_main_call1_v8, A_main_call1_v7, ref_gateA, logA, softplus]
  rw [if_neg (fun h => h rfl)]
  rfl

theorem ref_aa (b : Fin 8) (s : Fin 2048) (d : Fin 1024) :
    A_main_v102 (F := Ideal) A.x A.md A.g A.win A.cw A.cb A.wa A.ba A.wi A.bi A.lam A.gv A.ws A.bs (ix3 b s d) = aa A b s d := by
  pointwise [A_main_v102, ref_logA, aa]

theorem ref_bb (b : Fin 8) (s : Fin 2048) (d : Fin 1024) :
    A_main_v109 (F := Ideal) A.x A.md A.g A.win A.cw A.cb A.wa A.ba A.wi A.bi A.lam A.gv A.ws A.bs (ix3 b s d) = bb A b s d := by
  pointwise [A_main_v109, A_main_v107, A_main_v106, A_main_v105, A_main_v104, K_main_v103, K_main_cst_8, A_main_v108, ref_logA, ref_gateI, ref_xc, bb]

theorem ref_gu (b : Fin 8) (s : Fin 2048) (d : Fin 1024) :
    A_main_v122 (F := Ideal) A.x A.md A.g A.win A.cw A.cb A.wa A.ba A.wi A.bi A.lam A.gv A.ws A.bs (ix3 b s d) = gelu (uu A b s d) := by
  pointwise [A_main_v122, A_main_v121, K_main_v120, K_main_cst_12, A_main_v119, K_main_v118, K_main_cst_11, A_main_v117, A_main_v116, K_main_v115, K_main_cst_10, A_main_v114, A_main_v113, K_main_v112, K_main_cst_9, A_main_v111, A_main_v110, ref_uu, gelu]

theorem ref_gv (b : Fin 8) (s : Fin 2048) (d : Fin 1024) :
    A_main_v135 (F := Ideal) A.x A.md A.g A.win A.cw A.cb A.wa A.ba A.wi A.bi A.lam A.gv A.ws A.bs (ix3 b s d) = gelu (vv A b s d) := by
  pointwise [A_main_v135, A_main_v134, K_main_v133, K_main_cst_16, A_main_v132, K_main_v131, K_main_cst_15, A_main_v130, A_main_v129, K_main_v128, K_main_cst_14, A_main_v127, A_main_v126, K_main_v125, K_main_cst_13, A_main_v124, A_main_v123, ref_vv, gelu]

theorem ref_gy (b : Fin 8) (s : Fin 2048) (d : Fin 1024) :
    A_main_v177 (F := Ideal) A.x A.md A.g A.win A.cw A.cb A.wa A.ba A.wi A.bi A.lam A.gv A.ws A.bs (ix3 b s d) = gelu (yg A b s d) := by
  pointwise [A_main_v177, A_main_v176, K_main_v175, K_main_cst_25, A_main_v174, K_main_v173, K_main_cst_24, A_main_v172, A_main_v171, K_main_v170, K_main_cst_23, A_main_v169, A_main_v168, K_main_v167, K_main_cst_22, A_main_v166, A_main_v165, ref_yg, gelu]

theorem ref_vn (b : Fin 8) (s : Fin 2048) (d : Fin 1024) :
    A_main_v151 (F := Ideal) A.x A.md A.g A.win A.cw A.cb A.wa A.ba A.wi A.bi A.lam A.gv A.ws A.bs (ix3 b s d) = vn A b s d := by
  pointwise [A_main_v151, A_main_v148, A_main_v147, A_main_v146, A_main_v145, A_main_v143, A_main_v141, A_main_v140, A_main_v139, K_main_cst_17, K_main_v142, K_main_cst_18, K_main_v144, K_main_cst_19, A_main_v150, A_main_v149, A_main_v136, ref_gv, vn, meanSqV]

theorem ref_right (b : Fin 8) (s : Fin 2048) (d : Fin 1024) :
    A_main_v164 (F := Ideal) A.x A.md A.g A.win A.cw A.cb A.wa A.ba A.wi A.bi A.lam A.gv A.ws A.bs (ix3 b s d) = right A b s d := by
  pointwise [A_main_v164, A_main_v163, A_main_v162, A_main_v158, A_main_v157, A_main_v152, A_main_v156, K_main_call3_v1, K_main_v155, K_main_v154, K_main_call2_v4, K_main_call2_v2, K_main_call2_v0, K_main_call2_v1, K_main_call2_c, K_main_call2_v3, K_main_v153, K_main_c_20, K_main_call2_v5, K_main_call2_c_0, A_main_v137, K_main_call3_v2, K_main_call3_v0, K_main_c_21, A_main_v161, A_main_v160, A_main_v159, A_main_v138, ref_gu, ref_vn, right, spatial]
  refine congrArg (gelu (uu A b s d) * ·) (congrArg (· + _) (Finset.sum_congr rfl fun j _ => congrArg (vn A b _ d * ·) ?_))
  rw [sitofp_zero]
  exact select_mask ⟨s.val % 128, by omega⟩ j _ _

end Cert.Proof.Mix
-- ==== Proof.MixLoop.lean ====
/-
  The mixing call's reference: its loop carries the recurrence and writes one row of each half of the result at each trip.
-/
module

public import proofs.«01_k».proof.Proof.MixRef
public import Idealize.ShloMosaic.Lib.Claim

@[expose] public section

set_option maxRecDepth 16384

noncomputable section

namespace Cert.Proof.Mix

open Idealize.ShloMosaic Cert.Reference3Ideal Cert.Reference3Ideal.Gen Cert.Reference3Ideal.Step

/-- A trip's start. -/
theorem start_eq (n : ℕ) (hn : n < 2048) : (min (max ((BitVec.ofNat 32 n).toInt) 0) ((2048 - 1 : ℕ) : Int)).toNat = n := by
  have h : (BitVec.ofNat 32 n).toInt = n := by
    rw [BitVec.toInt_eq_toNat_cond, BitVec.toNat_ofNat]
    have : n % 2 ^ 32 = n := Nat.mod_eq_of_lt (by omega)
    rw [this, if_pos (by omega)]
  rw [h]
  omega
/-- A trip's starts, of the three axes. -/
abbrev starts (n : ℕ) : Fin 3 → (⟨S_, .i32⟩ : BufTy).Contents (Elt Ideal) := ![constantI S_ 32 (BitVec.ofNat 32 n), constantI S_ 32 0#32, constantI S_ 32 0#32]
theorem start0 (n : ℕ) (hn : n < 2048) (h) : Host.clampedStart S2048x8x1024 S1x8x1024 h (fun k => BitVec.toInt (starts n k (Shape.Idx.first h_S_))) 0 = n := by
  exact start_eq n hn
theorem start1 (n : ℕ) (h) : Host.clampedStart S2048x8x1024 S1x8x1024 h (fun k => BitVec.toInt (starts n k (Shape.Idx.first h_S_))) 1 = 0 := rfl
theorem start2 (n : ℕ) (h) : Host.clampedStart S2048x8x1024 S1x8x1024 h (fun k => BitVec.toInt (starts n k (Shape.Idx.first h_S_))) 2 = 0 := rfl
theorem b3_apply (n : ℕ) (hn : n < 2048) (s : State Ideal) (b : Fin 8) (d : Fin 1024) : b3 n s (ix2 b d) = s.main_v187_0 (ix3 (⟨n, hn⟩ : Fin 2048) b d) := by
  pointwise [b3, b2, b0, b1]
  simp only [start0 n hn, start1, start2, Nat.zero_add]

theorem b7_apply (n : ℕ) (hn : n < 2048) (s : State Ideal) (b : Fin 8) (d : Fin 1024) : b7 n s (ix2 b d) = s.main_v187_1 (ix3 (⟨n, hn⟩ : Fin 2048) b d) := by
  pointwise [b7, b6, b4, b5]
  simp only [start0 n hn, start1, start2, Nat.zero_add]

theorem b11_apply (n : ℕ) (hn : n < 2048) (s : State Ideal) (b : Fin 8) (d : Fin 1024) : b11 n s (ix2 b d) = s.main_v187_2 (ix3 (⟨n, hn⟩ : Fin 2048) b d) := by
  pointwise [b11, b10, b8, b9]
  simp only [start0 n hn, start1, start2, Nat.zero_add]

theorem b15_apply (n : ℕ) (hn : n < 2048) (s : State Ideal) (b : Fin 8) (d : Fin 1024) : b15 n s (ix2 b d) = s.main_v187_3 (ix3 (⟨n, hn⟩ : Fin 2048) b d) := by
  pointwise [b15, b14, b12, b13]
  simp only [start0 n hn, start1, start2, Nat.zero_add]

theorem b24_apply (n : ℕ) (hn : n < 2048) (s : State Ideal) (i : Fin 2048) (b : Fin 8) (d : Fin 1024) :
    b24 n s (ix3 i b d) = if i.val = n then b19 n s (ix2 b d) else s.main_v187_6 (ix3 i b d) := by
  pointwise [b24, b21, b22, b23]
  by_cases hi : i.val = n
  · rw [if_pos hi, dif_pos ⟨⟨(start0 n hn _).le.trans hi.ge, hi.le.trans_lt (Nat.lt_succ_of_le (start0 n hn _).ge)⟩, Nat.zero_le _, Nat.zero_le _⟩]
    rfl
  · rw [if_neg hi, dif_neg]
    rintro ⟨⟨h1, h2⟩, -⟩
    have h0 := start0 n hn rfl
    exact hi (Nat.le_antisymm ((Nat.lt_succ_iff.mp h2).trans h0.le) (h0.ge.trans h1))

theorem b28_apply (n : ℕ) (hn : n < 2048) (s : State Ideal) (i : Fin 2048) (b : Fin 8) (d : Fin 1024) :
    b28 n s (ix3 i b d) = if i.val = n then b20 n s (ix2 b d) else s.main_v187_7 (ix3 i b d) := by
  pointwise [b28, b25, b26, b27]
  by_cases hi : i.val = n
  · rw [if_pos hi, dif_pos ⟨⟨(start0 n hn _).le.trans hi.ge, hi.le.trans_lt (Nat.lt_succ_of_le (start0 n hn _).ge)⟩, Nat.zero_le _, Nat.zero_le _⟩]
    rfl
  · rw [if_neg hi, dif_neg]
    rintro ⟨⟨h1, h2⟩, -⟩
    have h0 := start0 n hn rfl
    exact hi (Nat.le_antisymm ((Nat.lt_succ_iff.mp h2).trans h0.le) (h0.ge.trans h1))

variable (A : Args)

/-- The loop's states. -/
def states : ℕ → State Ideal
  | 0 => init A.x A.md A.g A.win A.cw A.cb A.wa A.ba A.wi A.bi A.lam A.gv A.ws A.bs
  | n + 1 => step n (states n)

theorem state_a (n : ℕ) (i : Fin 2048) (b : Fin 8) (d : Fin 1024) : (states A n).main_v187_0 (ix3 i b d) = aa A b i d := by
  induction n with
  | zero =>
    show A_main_v178 (F := Ideal) A.x A.md A.g A.win A.cw A.cb A.wa A.ba A.wi A.bi A.lam A.gv A.ws A.bs (ix3 i b d) = _
    pointwise [A_main_v178, ref_aa]
  | succ n ih => exact ih

theorem state_b (n : ℕ) (i : Fin 2048) (b : Fin 8) (d : Fin 1024) : (states A n).main_v187_1 (ix3 i b d) = bb A b i d := by
  induction n with
  | zero =>
    show A_main_v179 (F := Ideal) A.x A.md A.g A.win A.cw A.cb A.wa A.ba A.wi A.bi A.lam A.gv A.ws A.bs (ix3 i b d) = _
    pointwise [A_main_v179, ref_bb]
  | succ n ih => exact ih

theorem state_y (n : ℕ) (i : Fin 2048) (b : Fin 8) (d : Fin 1024) : (states A n).main_v187_2 (ix3 i b d) = gelu (yg A b i d) := by
  induction n with
  | zero =>
    show A_main_v180 (F := Ideal) A.x A.md A.g A.win A.cw A.cb A.wa A.ba A.wi A.bi A.lam A.gv A.ws A.bs (ix3 i b d) = _
    pointwise [A_main_v180, ref_gy]
  | succ n ih => exact ih

theorem state_r (n : ℕ) (i : Fin 2048) (b : Fin 8) (d : Fin 1024) : (states A n).main_v187_3 (ix3 i b d) = right A b i d := by
  induction n with
  | zero =>
    show A_main_v181 (F := Ideal) A.x A.md A.g A.win A.cw A.cb A.wa A.ba A.wi A.bi A.lam A.gv A.ws A.bs (ix3 i b d) = _
    pointwise [A_main_v181, ref_right]
  | succ n ih => exact ih

theorem row_eq (n : ℕ) (hn : n < 2048) : row n = ⟨n, hn⟩ := Fin.ext (Nat.mod_eq_of_lt hn)

theorem state_h (n : ℕ) (hn : n ≤ 2048) (b : Fin 8) (d : Fin 1024) : (states A n).main_v187_5 (ix2 b d) = rec A b d n := by
  induction n with
  | zero =>
    show K_main_v184 (F := Ideal) (ix2 b d) = 0
    pointwise [K_main_v184, K_main_cst_26]
  | succ n ih =>
    have h : b17 n (states A n) (ix2 b d) = b3 n (states A n) (ix2 b d) * (states A n).main_v187_5 (ix2 b d) + b7 n (states A n) (ix2 b d) := by
      pointwise [b17, b16]
    refine h.trans ?_
    rw [b3_apply n (by omega), b7_apply n (by omega), state_a, state_b, ih (by omega), ← row_eq n (by omega)]
    rfl

theorem trip_left (n : ℕ) (hn : n < 2048) (b : Fin 8) (d : Fin 1024) : b19 n (states A n) (ix2 b d) = left A b ⟨n, hn⟩ d := by
  have h : b19 n (states A n) (ix2 b d) = b17 n (states A n) (ix2 b d) * b11 n (states A n) (ix2 b d) := by
    pointwise [b19, b18]
  rw [h, b11_apply n hn, state_y]
  exact congrArg (· * _) (state_h A (n + 1) (by omega) b d)

theorem trip_right (n : ℕ) (hn : n < 2048) (b : Fin 8) (d : Fin 1024) : b20 n (states A n) (ix2 b d) = right A b ⟨n, hn⟩ d := by
  have h : b20 n (states A n) (ix2 b d) = b15 n (states A n) (ix2 b d) := by
    pointwise [b20]
  rw [h, b15_apply n hn, state_r]

theorem state_left (n : ℕ) (hn : n ≤ 2048) (i : Fin 2048) (hi : i.val < n) (b : Fin 8) (d : Fin 1024) : (states A n).main_v187_6 (ix3 i b d) = left A b i d := by
  induction n with
  | zero => omega
  | succ n ih =>
    refine (b24_apply n (by omega) (states A n) i b d).trans ?_
    by_cases hc : i.val = n
    · rw [if_pos hc, trip_left A n (by omega)]
      exact congrArg (left A b · d) (Fin.ext hc.symm)
    · rw [if_neg hc]
      exact ih (by omega) (by omega)

theorem state_right (n : ℕ) (hn : n ≤ 2048) (i : Fin 2048) (hi : i.val < n) (b : Fin 8) (d : Fin 1024) : (states A n).main_v187_7 (ix3 i b d) = right A b i d := by
  induction n with
  | zero => omega
  | succ n ih =>
    refine (b28_apply n (by omega) (states A n) i b d).trans ?_
    by_cases hc : i.val = n
    · rw [if_pos hc, trip_right A n (by omega)]
      exact congrArg (right A b · d) (Fin.ext hc.symm)
    · rw [if_neg hc]
      exact ih (by omega) (by omega)

/-- The reference's result. -/
theorem ref_out : R_main_v189 (states A 2048) = out A := by
  funext i
  idx_vars i
  have hL (s : Fin 2048) (b : Fin 8) (d : Fin 1024) := state_left A 2048 (le_refl _) s s.isLt b d
  have hR (s : Fin 2048) (b : Fin 8) (d : Fin 1024) := state_right A 2048 (le_refl _) s s.isLt b d
  pointwise [R_main_v189, hL, hR, out]

end Cert.Proof.Mix
-- ==== Proof.MixRun.lean ====
/-
  The mixing call's reference as a loop: one trip of its run is `step` of the state, and its result is read off the last state.
-/
module

public import proofs.«01_k».proof.Proof.Gen.Reference3Ideal.Run
public import proofs.«01_k».proof.Proof.Gen.Reference3Ideal.Step

@[expose] public section

noncomputable section

namespace Cert.Proof.Mix.Trip

open Idealize.ShloMosaic Idealize.ShloMosaic.TcCoe Idealize.SL.Sem Idealize.ShloMosaic.StableHlo
open Cert.Reference3Ideal Cert.Reference3Ideal.Gen Cert.Reference3Ideal.Value
open Cert.Reference3Ideal.Step (State step init)

variable {F : FTy → Type} [FloatOps F]

variable (V0 : Valuation τ sig (Elt F)) (s : State F) (j : ℕ)

/-- What the run's buffers hold before trip `j`: the state, the loop's constant operands, the counter. -/
structure Holds : Prop where
  f_5 : V0 (Proc.devRef .tc main_v187_5) = s.main_v187_5
  f_6 : V0 (Proc.devRef .tc main_v187_6) = s.main_v187_6
  f_7 : V0 (Proc.devRef .tc main_v187_7) = s.main_v187_7
  f_0 : V0 (Proc.devRef .tc main_v187_0) = s.main_v187_0
  f_1 : V0 (Proc.devRef .tc main_v187_1) = s.main_v187_1
  f_2 : V0 (Proc.devRef .tc main_v187_2) = s.main_v187_2
  f_3 : V0 (Proc.devRef .tc main_v187_3) = s.main_v187_3
  n_4 : V0 (Proc.devRef .tc main_v187_4) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.Reference3Ideal.Step.b0 j s := by
  unfold Cert.Reference3Ideal.Step.b0
  rfl
set_option maxRecDepth 8192 in
theorem al_1 (h : Holds V0 s j) : (constantI S_ 32 0#32 : (Proc.devRef .tc main_while0b_call4_c_0 : DevRef τ sig).ty.Contents (Elt F)) = Cert.Reference3Ideal.Step.b1 j s := by
  unfold Cert.Reference3Ideal.Step.b1
  rfl
set_option maxRecDepth 8192 in
theorem al_2 (h : Holds V0 s j) : (Host.dynamicSlice S1x8x1024 (V0 (Proc.devRef .tc main_v187_0)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call4_v0 : DevRef τ sig).ty.Contents (Elt F)) = Cert.Reference3Ideal.Step.b2 j s := by
  unfold Cert.Reference3Ideal.Step.b2
  rw [← al_0 h, ← al_1 h, h.f_0, h.n_4]
  try rfl
set_option maxRecDepth 8192 in
theorem al_3 (h : Holds V0 s j) : (shapeCast S8x1024 (Host.dynamicSlice S1x8x1024 (V0 (Proc.devRef .tc main_v187_0)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v190 : DevRef τ sig).ty.Contents (Elt F)) = Cert.Reference3Ideal.Step.b3 j s := by
  unfold Cert.Reference3Ideal.Step.b3
  rw [← al_2 h]
  try rfl
set_option maxRecDepth 8192 in
theorem al_4 (h : Holds V0 s j) : (constantI S_ 32 0#32 : (Proc.devRef .tc main_while0b_call5_c : DevRef τ sig).ty.Contents (Elt F)) = Cert.Reference3Ideal.Step.b4 j s := by
  unfold Cert.Reference3Ideal.Step.b4
  rfl
set_option maxRecDepth 8192 in
theorem al_5 (h : Holds V0 s j) : (constantI S_ 32 0#32 : (Proc.devRef .tc main_while0b_call5_c_0 : DevRef τ sig).ty.Contents (Elt F)) = Cert.Reference3Ideal.Step.b5 j s := by
  unfold Cert.Reference3Ideal.Step.b5
  rfl
set_option maxRecDepth 8192 in
theorem al_6 (h : Holds V0 s j) : (Host.dynamicSlice S1x8x1024 (V0 (Proc.devRef .tc main_v187_1)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call5_v0 : DevRef τ sig).ty.Contents (Elt F)) = Cert.Reference3Ideal.Step.b6 j s := by
  unfold Cert.Reference3Ideal.Step.b6
  rw [← al_4 h, ← al_5 h, h.f_1, h.n_4]
  try rfl
set_option maxRecDepth 8192 in
theorem al_7 (h : Holds V0 s j) : (shapeCast S8x1024 (Host.dynamicSlice S1x8x1024 (V0 (Proc.devRef .tc main_v187_1)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v191 : DevRef τ sig).ty.Contents (Elt F)) = Cert.Reference3Ideal.Step.b7 j s := by
  unfold Cert.Reference3Ideal.Step.b7
  rw [← al_6 h]
  try rfl
set_option maxRecDepth 8192 in
theorem al_8 (h : Holds V0 s j) : (constantI S_ 32 0#32 : (Proc.devRef .tc main_while0b_call6_c : DevRef τ sig).ty.Contents (Elt F)) = Cert.Reference3Ideal.Step.b8 j s := by
  unfold Cert.Reference3Ideal.Step.b8
  rfl
set_option maxRecDepth 8192 in
theorem al_9 (h : Holds V0 s j) : (constantI S_ 32 0#32 : (Proc.devRef .tc main_while0b_call6_c_0 : DevRef τ sig).ty.Contents (Elt F)) = Cert.Reference3Ideal.Step.b9 j s := by
  unfold Cert.Reference3Ideal.Step.b9
  rfl
set_option maxRecDepth 8192 in
theorem al_10 (h : Holds V0 s j) : (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call6_v0 : DevRef τ sig).ty.Contents (Elt F)) = Cert.Reference3Ideal.Step.b10 j s := by
  unfold Cert.Reference3Ideal.Step.b10
  rw [← al_8 h, ← al_9 h, h.f_2, h.n_4]
  try rfl
set_option maxRecDepth 8192 in
theorem al_11 (h : Holds V0 s j) : (shapeCast S8x1024 (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v192 : DevRef τ sig).ty.Contents (Elt F)) = Cert.Reference3Ideal.Step.b11 j s := by
  unfold Cert.Reference3Ideal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.Reference3Ideal.Step.b12 j s := by
  unfold Cert.Reference3Ideal.Step.b12
  rfl
set_option maxRecDepth 8192 in
theorem al_13 (h : Holds V0 s j) : (constantI S_ 32 0#32 : (Proc.devRef .tc main_while0b_call7_c_0 : DevRef τ sig).ty.Contents (Elt F)) = Cert.Reference3Ideal.Step.b13 j s := by
  unfold Cert.Reference3Ideal.Step.b13
  rfl
set_option maxRecDepth 8192 in
theorem al_14 (h : Holds V0 s j) : (Host.dynamicSlice S1x8x1024 (V0 (Proc.devRef .tc main_v187_3)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call7_v0 : DevRef τ sig).ty.Contents (Elt F)) = Cert.Reference3Ideal.Step.b14 j s := by
  unfold Cert.Reference3Ideal.Step.b14
  rw [← al_12 h, ← al_13 h, h.f_3, h.n_4]
  try rfl
set_option maxRecDepth 8192 in
theorem al_15 (h : Holds V0 s j) : (shapeCast S8x1024 (Host.dynamicSlice S1x8x1024 (V0 (Proc.devRef .tc main_v187_3)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024 : (Proc.devRef .tc main_while0b_v193 : DevRef τ sig).ty.Contents (Elt F)) = Cert.Reference3Ideal.Step.b15 j s := by
  unfold Cert.Reference3Ideal.Step.b15
  rw [← al_14 h]
  try rfl
set_option maxRecDepth 8192 in
theorem al_16 (h : Holds V0 s j) : (mulf (shapeCast S8x1024 (Host.dynamicSlice S1x8x1024 (V0 (Proc.devRef .tc main_v187_0)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) (V0 (Proc.devRef .tc main_v187_5)) : (Proc.devRef .tc main_while0b_v194 : DevRef τ sig).ty.Contents (Elt F)) = Cert.Reference3Ideal.Step.b16 j s := by
  unfold Cert.Reference3Ideal.Step.b16
  rw [← al_3 h, h.f_5]
  try rfl
set_option maxRecDepth 8192 in
theorem al_17 (h : Holds V0 s j) : (res_main_while0b_v195 V0 : (Proc.devRef .tc main_while0b_v195 : DevRef τ sig).ty.Contents (Elt F)) = Cert.Reference3Ideal.Step.b17 j s := by
  unfold res_main_while0b_v195 Cert.Reference3Ideal.Step.b17
  rw [← al_16 h, ← al_7 h]
  try rfl
set_option maxRecDepth 8192 in
theorem al_18 (h : Holds V0 s j) : (mulf (res_main_while0b_v195 V0) (shapeCast S8x1024 (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) : (Proc.devRef .tc main_while0b_v196 : DevRef τ sig).ty.Contents (Elt F)) = Cert.Reference3Ideal.Step.b18 j s := by
  unfold Cert.Reference3Ideal.Step.b18
  rw [← al_17 h, ← al_11 h]
  try rfl
set_option maxRecDepth 8192 in
theorem al_19 (h : Holds V0 s j) : (truncf .bf16 (mulf (res_main_while0b_v195 V0) (shapeCast S8x1024 (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024)) bitsLt_bf16_f32 : (Proc.devRef .tc main_while0b_v197 : DevRef τ sig).ty.Contents (Elt F)) = Cert.Reference3Ideal.Step.b19 j s := by
  unfold Cert.Reference3Ideal.Step.b19
  rw [← al_18 h]
  try rfl
set_option maxRecDepth 8192 in
theorem al_20 (h : Holds V0 s j) : (truncf .bf16 (shapeCast S8x1024 (Host.dynamicSlice S1x8x1024 (V0 (Proc.devRef .tc main_v187_3)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) bitsLt_bf16_f32 : (Proc.devRef .tc main_while0b_v198 : DevRef τ sig).ty.Contents (Elt F)) = Cert.Reference3Ideal.Step.b20 j s := by
  unfold Cert.Reference3Ideal.Step.b20
  rw [← al_15 h]
  try rfl
set_option maxRecDepth 8192 in
theorem al_21 (h : Holds V0 s j) : (broadcastInDim S1x8x1024 ![1, 2] bcast_S8x1024_S1x8x1024_1_2 (truncf .bf16 (mulf (res_main_while0b_v195 V0) (shapeCast S8x1024 (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024)) bitsLt_bf16_f32) : (Proc.devRef .tc main_while0b_call8_v0 : DevRef τ sig).ty.Contents (Elt F)) = Cert.Reference3Ideal.Step.b21 j s := by
  unfold Cert.Reference3Ideal.Step.b21
  rw [← al_19 h]
  try rfl
set_option maxRecDepth 8192 in
theorem al_22 (h : Holds V0 s j) : (constantI S_ 32 0#32 : (Proc.devRef .tc main_while0b_call8_c : DevRef τ sig).ty.Contents (Elt F)) = Cert.Reference3Ideal.Step.b22 j s := by
  unfold Cert.Reference3Ideal.Step.b22
  rfl
set_option maxRecDepth 8192 in
theorem al_23 (h : Holds V0 s j) : (constantI S_ 32 0#32 : (Proc.devRef .tc main_while0b_call8_c_0 : DevRef τ sig).ty.Contents (Elt F)) = Cert.Reference3Ideal.Step.b23 j s := by
  unfold Cert.Reference3Ideal.Step.b23
  rfl
set_option maxRecDepth 8192 in
theorem al_24 (h : Holds V0 s j) : (Host.dynamicUpdateSlice (V0 (Proc.devRef .tc main_v187_6)) (broadcastInDim S1x8x1024 ![1, 2] bcast_S8x1024_S1x8x1024_1_2 (truncf .bf16 (mulf (res_main_while0b_v195 V0) (shapeCast S8x1024 (Host.dynamicSlice S1x8x1024 (V0 (Proc.devRef .tc main_v187_2)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024)) bitsLt_bf16_f32)) (fun k => (((![V0 (Proc.devRef .tc main_v187_4), constantI S_ 32 0#32, constantI S_ 32 0#32] : Fin 3 → (⟨S_, .i32⟩ : BufTy).Contents (Elt F))) k (Shape.Idx.first h_S_)).toInt) updateFits_S2048x8x1024_S1x8x1024 : (Proc.devRef .tc main_while0b_v199 : DevRef τ sig).ty.Contents (Elt F)) = Cert.Reference3Ideal.Step.b24 j s := by
  unfold Cert.Reference3Ideal.Step.b24
  rw [← al_21 h, ← al_22 h, ← al_23 h, h.f_6, h.n_4]
  try rfl
set_option maxRecDepth 8192 in
theorem al_25 (h : Holds V0 s j) : (broadcastInDim S1x8x1024 ![1, 2] bcast_S8x1024_S1x8x1024_1_2 (truncf .bf16 (shapeCast S8x1024 (Host.dynamicSlice S1x8x1024 (V0 (Proc.devRef .tc main_v187_3)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) bitsLt_bf16_f32) : (Proc.devRef .tc main_while0b_call9_v0 : DevRef τ sig).ty.Contents (Elt F)) = Cert.Reference3Ideal.Step.b25 j s := by
  unfold Cert.Reference3Ideal.Step.b25
  rw [← al_20 h]
  try rfl
set_option maxRecDepth 8192 in
theorem al_26 (h : Holds V0 s j) : (constantI S_ 32 0#32 : (Proc.devRef .tc main_while0b_call9_c : DevRef τ sig).ty.Contents (Elt F)) = Cert.Reference3Ideal.Step.b26 j s := by
  unfold Cert.Reference3Ideal.Step.b26
  rfl
set_option maxRecDepth 8192 in
theorem al_27 (h : Holds V0 s j) : (constantI S_ 32 0#32 : (Proc.devRef .tc main_while0b_call9_c_0 : DevRef τ sig).ty.Contents (Elt F)) = Cert.Reference3Ideal.Step.b27 j s := by
  unfold Cert.Reference3Ideal.Step.b27
  rfl
set_option maxRecDepth 8192 in
theorem al_28 (h : Holds V0 s j) : (Host.dynamicUpdateSlice (V0 (Proc.devRef .tc main_v187_7)) (broadcastInDim S1x8x1024 ![1, 2] bcast_S8x1024_S1x8x1024_1_2 (truncf .bf16 (shapeCast S8x1024 (Host.dynamicSlice S1x8x1024 (V0 (Proc.devRef .tc main_v187_3)) (fun k => (((![V0 (Proc.devRef .tc main_v187_4), constantI S_ 32 0#32, constantI S_ 32 0#32] : Fin 3 → (⟨S_, .i32⟩ : BufTy).Contents (Elt F))) k (Shape.Idx.first h_S_)).toInt) sliceFits_S2048x8x1024_S1x8x1024) shapeCasts_S1x8x1024_S8x1024) bitsLt_bf16_f32)) (fun k => (((![V0 (Proc.devRef .tc main_v187_4), constantI S_ 32 0#32, constantI S_ 32 0#32] : Fin 3 → (⟨S_, .i32⟩ : BufTy).Contents (Elt F))) k (Shape.Idx.first h_S_)).toInt) updateFits_S2048x8x1024_S1x8x1024 : (Proc.devRef .tc main_while0b_v200 : DevRef τ sig).ty.Contents (Elt F)) = Cert.Reference3Ideal.Step.b28 j s := by
  unfold Cert.Reference3Ideal.Step.b28
  rw [← al_25 h, ← al_26 h, ← al_27 h, h.f_7, h.n_4]
  try rfl

/-! One trip's step of the carried values is `step`, field by field; a counter steps to the next number. -/

theorem step_5 (h : Holds V0 s j) : step_main_v187_5 V0 = (step j s).main_v187_5 := by
  unfold step_main_v187_5 Cert.Reference3Ideal.Step.step
  show id (res_main_while0b_v195 V0) = _
  rw [al_17 h]
  try rfl
set_option maxRecDepth 8192 in
theorem step_6 (h : Holds V0 s j) : step_main_v187_6 V0 = (step j s).main_v187_6 := by
  unfold step_main_v187_6 Cert.Reference3Ideal.Step.step
  exact al_24 h

set_option maxRecDepth 8192 in
theorem step_7 (h : Holds V0 s j) : step_main_v187_7 V0 = (step j s).main_v187_7 := by
  unfold step_main_v187_7 Cert.Reference3Ideal.Step.step
  exact al_28 h

theorem step_4 (h : Holds V0 s j) : step_main_v187_4 V0 = constantI S_ 32 (BitVec.ofNat 32 (j + 1)) := by
  unfold step_main_v187_4
  rw [h.n_4]
  funext i
  show BitVec.ofNat 32 j + 1#32 = BitVec.ofNat 32 (j + 1)
  simp only [BitVec.ofNat_add]

set_option maxRecDepth 8192 in
theorem out_main_v189_holds (h : Holds V0 s j) : out_main_v189 V0 = Cert.Reference3Ideal.Step.R_main_v189 s := by
  unfold out_main_v189 Cert.Reference3Ideal.Step.R_main_v189
  rw [h.f_6, h.f_7]
  try rfl

/-- A trip takes a held state to its `step`. -/
theorem holds_step (h : Holds V0 s j) : Holds (STEP V0) (step j s) (j + 1) where
  f_5 := (STEP_main_v187_5 V0).trans (step_5 h)
  f_6 := (STEP_main_v187_6 V0).trans (step_6 h)
  f_7 := (STEP_main_v187_7 V0).trans (step_7 h)
  n_4 := (STEP_main_v187_4 V0).trans (step_4 h)
  f_0 := (STEP_main_v187_0 V0).trans h.f_0
  f_1 := (STEP_main_v187_1 V0).trans h.f_1
  f_2 := (STEP_main_v187_2 V0).trans h.f_2
  f_3 := (STEP_main_v187_3 V0).trans h.f_3

/-- The first state. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

variable (m : (ℓ : Loc nD τ sig) → Buf (Elt F) ℓ) (c : Dev nD)

set_option maxRecDepth 65536 in
set_option maxHeartbeats 1200000 in
/-- The operations before the loop leave the first state, at trip 0. -/
theorem entry_holds : Holds (entryContents preI m c) (initState m c) 0 := by
  constructor <;> (simp only [entryContents, afterL_cons, afterL_nil]; after_reads_simp) <;> rfl

/-- Before trip `k` the buffers hold state `k`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every run of the reference ends with the result of state 2048, and its arguments as they were. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v189) = Cert.Reference3Ideal.Step.R_main_v189 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 2048
    ⟨(h c).1.trans (out_main_v189_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.Proof.Mix.Trip

end
-- ==== Proof.MixValue.lean ====
/-
  The mixing call against its reference: on the same arrays both leave the same result.
-/
module

public import proofs.«01_k».proof.Defs
public import proofs.«01_k».proof.Proof.MixKernel
public import proofs.«01_k».proof.Proof.MixLoop
public import proofs.«01_k».proof.Proof.MixRun

@[expose] public section

set_option maxRecDepth 16384

noncomputable section

namespace Cert.Proof.Mix

open Idealize.ShloMosaic Idealize.ShloMosaic.TcCoe Idealize.SL.Sem

/-- The arrays the reference is launched on. -/
abbrev RA (m : (ℓ : Loc Cert.Reference3Ideal.nD Cert.Reference3Ideal.τ Cert.Reference3Ideal.sig) → Buf (Elt Ideal) ℓ) (c : Dev Cert.Reference3Ideal.nD) : Args where
  x := m ((c.tc : Thread Cert.Reference3Ideal.nD Cert.Reference3Ideal.τ).loc Cert.Reference3Ideal.main_arg0)
  md := m ((c.tc : Thread Cert.Reference3Ideal.nD Cert.Reference3Ideal.τ).loc Cert.Reference3Ideal.main_arg1)
  g := m ((c.tc : Thread Cert.Reference3Ideal.nD Cert.Reference3Ideal.τ).loc Cert.Reference3Ideal.main_arg2)
  win := m ((c.tc : Thread Cert.Reference3Ideal.nD Cert.Reference3Ideal.τ).loc Cert.Reference3Ideal.main_arg3)
  cw := m ((c.tc : Thread Cert.Reference3Ideal.nD Cert.Reference3Ideal.τ).loc Cert.Reference3Ideal.main_arg4)
  cb := m ((c.tc : Thread Cert.Reference3Ideal.nD Cert.Reference3Ideal.τ).loc Cert.Reference3Ideal.main_arg5)
  wa := m ((c.tc : Thread Cert.Reference3Ideal.nD Cert.Reference3Ideal.τ).loc Cert.Reference3Ideal.main_arg6)
  ba := m ((c.tc : Thread Cert.Reference3Ideal.nD Cert.Reference3Ideal.τ).loc Cert.Reference3Ideal.main_arg7)
  wi := m ((c.tc : Thread Cert.Reference3Ideal.nD Cert.Reference3Ideal.τ).loc Cert.Reference3Ideal.main_arg8)
  bi := m ((c.tc : Thread Cert.Reference3Ideal.nD Cert.Reference3Ideal.τ).loc Cert.Reference3Ideal.main_arg9)
  lam := m ((c.tc : Thread Cert.Reference3Ideal.nD Cert.Reference3Ideal.τ).loc Cert.Reference3Ideal.main_arg10)
  gv := m ((c.tc : Thread Cert.Reference3Ideal.nD Cert.Reference3Ideal.τ).loc Cert.Reference3Ideal.main_arg11)
  ws := m ((c.tc : Thread Cert.Reference3Ideal.nD Cert.Reference3Ideal.τ).loc Cert.Reference3Ideal.main_arg12)
  bs := m ((c.tc : Thread Cert.Reference3Ideal.nD Cert.Reference3Ideal.τ).loc Cert.Reference3Ideal.main_arg13)

/-- The reference keeps its arguments, and it declares no semaphore that could be left counted up. -/
theorem frame_reference : Cert.quiescent_Reference3Ideal (hReference3Ideal := Cert.Reference3Ideal.Gen.facts) :=
  fun m g _ => (θ_run _ _ _).mono
    (fun r hr => ⟨fun c => (hr c).2, sem_eq_zero_of_no_sems rfl r.2⟩) (Trip.run_iter m g (fun c => states (RA m c)) (fun _ => rfl) (fun _ _ => rfl))

/-- The mixing call's result is its reference's. -/
theorem algebraic_mix : Cert.algebraic_Kernel3Ideal_Reference3Ideal
    (hKernel3Ideal := Cert.Kernel3Ideal.Gen.facts) (hReference3Ideal := Cert.Reference3Ideal.Gen.facts) := by
  intro m g m' g' _ hagree
  refine ⟨fun c => out (AA m c),
    (θ_run _ _ _).mono (fun r hr c => ⟨hr.1 c, hr.2 c⟩) (run_mix m g),
    (θ_run _ _ _).mono (fun r hr c => ⟨?_, (hr c).2⟩) (Trip.run_iter m' g' (fun c => states (RA m' c)) (fun _ => rfl) (fun _ _ => rfl))⟩
  obtain ⟨a0, a1, a2, a3, a4, a5, a6, a7, a8, a9, a10, a11, a12, a13⟩ := hagree c
  have e : RA m' c = AA m c := by
    unfold RA AA
    rw [a0, a1, a2, a3, a4, a5, a6, a7, a8, a9, a10, a11, a12, a13]
  exact (hr c).1.trans ((ref_out (RA m' c)).trans (congrArg out e))

end Cert.Proof.Mix
-- ==== Proof.AdaSpec.lean ====
/-
  The value of the modulation's call, as a formula over its argument arrays.
-/
module

public import Idealize.ShloMosaic.PureOps
public import Idealize.ShloMosaic.Lib.Pointwise

@[expose] public section

set_option maxRecDepth 16384

noncomputable section

namespace Cert.Proof.Ada

open Idealize.ShloMosaic

/-- Every sequence's conditioning vector. -/
abbrev SC : Shape := ⟨2, ![8, 2048]⟩
/-- The projection. -/
abbrev SW : Shape := ⟨3, ![1, 2048, 12288]⟩
/-- Its offset. -/
abbrev SB : Shape := ⟨2, ![1, 12288]⟩
/-- Every sequence's six modulation rows, side by side. -/
abbrev SO : Shape := ⟨2, ![8, 12288]⟩

/-- A number times its logistic value. -/
def silu (z : EReal) : EReal := z * Ideal.logistic z

/-- The conditioning through `silu`, projected, plus the offset. -/
def modulation (c : Vec Ideal SC .f32) (w : Vec Ideal SW .f32) (b : Vec Ideal SB .f32) : Vec Ideal SO .f32 :=
  fun i => (∑ k : Fin 2048, silu (c (ix2 (i 0 : Fin 8) k)) * w (ix3 (0 : Fin 1) k (i 1 : Fin 12288))) + b (ix2 (0 : Fin 1) (i 1 : Fin 12288))

end Cert.Proof.Ada
-- ==== Proof.AdaKernel.lean ====
/-
  The modulation's call: its result array after the run is the formula of AdaSpec over the arrays it is launched on.
-/
module

public import proofs.«01_k».proof.Proof.AdaSpec
public import proofs.«01_k».proof.Proof.Gen.Kernel4Ideal
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Proof.Ada

open Idealize.ShloMosaic Idealize.ShloMosaic.TcCoe Idealize.SL.Sem Cert.Kernel4Ideal Cert.Kernel4Ideal.Gen

/-- The body at one grid point, from any blocks it may load. -/
theorem pay1_apply (C : Vec Ideal S8x2048 .f32) (W : Vec Ideal S2048x1024 .f32) (B : Vec Ideal S1x1024 .f32) (r : Fin 8) (d : Fin 1024) :
    k0_pay1 C W B (ix2 r d) = (∑ k : Fin 2048, silu (C (ix2 r k)) * W (ix2 k d)) + B (ix2 (0 : Fin 1) d) := by
  pointwise [k0_pay1, silu]

/-- The body's result block, read back. -/
theorem out3_apply (C : Vec Ideal S8x2048 .f32) (W : Vec Ideal S2048x1024 .f32) (B : Vec Ideal S1x1024 .f32) (y : S8x1024.Idx) :
    out0_3 C W B y = (∑ k : Fin 2048, silu (C (ix2 (y 0 : Fin 8) k)) * W (ix2 k (y 1 : Fin 1024))) + B (ix2 (0 : Fin 1) (y 1 : Fin 1024)) := by
  unfold out0_3
  idx_vars y
  canon_tiles x h
  idx_vars x
  have h0' : y0 = x0 := Fin.ext (h0.trans (by pointwise))
  have h1' : y1 = x1 := Fin.ext (h1.trans (by pointwise))
  subst h0' h1'
  refine (pay1_apply _ _ _ _ _).trans ?_
  pointwise

/-- Which block each window takes at a grid point. -/
theorem idx : ∀ t : Fin grid0.N, t.val < 12 ∧ win0_0.index t = ![0, 0] ∧ win0_1.index t = ![0, t.val] ∧ win0_2.index t = ![0, t.val] ∧ win0_3.index t = ![0, t.val] := by
  decide +kernel

/-- A column of a point's block, in the array. -/
def col (t : Fin grid0.N) (d : Fin 1024) : Fin 12288 := ⟨t.val * 1024 + d.val, by have := (idx t).1; omega⟩

variable (m : (ℓ : Loc nD τ sig) → Buf (Elt Ideal) ℓ) (c : Dev nD) (t : Fin grid0.N)

theorem in0 (r : Fin 8) (k : Fin 2048) : iblk m c 0 t (ix2 r k) = m ((c : Thread nD τ).loc main_arg0) (ix2 r k) := by
  blk_ext [iblk, V_main_arg0, (idx t).2.1]
theorem in1 (k : Fin 2048) (d : Fin 1024) : iblk m c 1 t (ix2 k d) = m ((c : Thread nD τ).loc main_arg1) (ix3 (0 : Fin 1) k (col t d)) := by
  blk_simp [iblk, (idx t).2.2.1]
  entry_read
  pointwise
  blk_ext [col, (idx t).2.2.1]
theorem in2 (u : Fin 1) (d : Fin 1024) : iblk m c 2 t (ix2 u d) = m ((c : Thread nD τ).loc main_arg2) (ix2 (0 : Fin 1) (col t d)) := by
  blk_simp [iblk, (idx t).2.2.2.1]
  entry_read
  pointwise
  blk_ext [col, (idx t).2.2.2.1]

/-- The result, of the launched arrays. -/
abbrev MOD : Vec Ideal SO .f32 :=
  modulation (m ((c : Thread nD τ).loc main_arg0)) (m ((c : Thread nD τ).loc main_arg1)) (m ((c : Thread nD τ).loc main_arg2))

/-- The result after the run. -/
theorem arr3 : (dats m 0 c).arrAt 3 cfg0.N = MOD m c := by
  refine (dats m 0 c).arrAt_eq_of_covers 3 _ (by decide +kernel) fun t hf y => ?_
  blk_simp
  rw [after0_3]
  refine (out3_apply _ _ _ y).trans ?_
  have he : (win0_3.blk t).view.emb y = ix2 (y 0 : Fin 8) (col t (y 1)) := by
    blk_ext [col, (idx t).2.2.2.2]
  refine Eq.trans ?_ (congrArg (MOD m c) he.symm)
  exact congrArg₂ (fun a b : EReal => a + b)
    (Finset.sum_congr rfl fun k _ => congrArg₂ (fun a b : EReal => silu a * b) (in0 m c t _ k) (in1 m c t k _)) (in2 m c t _ _)

end Cert.Proof.Ada
-- ==== Proof.AdaValue.lean ====
/-
  The modulation's call against its reference: on the same arrays both leave the same result.
-/
module

public import proofs.«01_k».proof.Defs
public import proofs.«01_k».proof.Proof.AdaKernel
public import proofs.«01_k».proof.Proof.Gen.Reference4Ideal
public import proofs.«01_k».proof.Proof.Gen.Reference4Ideal.Run

@[expose] public section

set_option maxRecDepth 16384

noncomputable section

namespace Cert.Proof.Ada

open Idealize.ShloMosaic Idealize.ShloMosaic.TcCoe Idealize.SL.Sem

section Ref
open Cert.Reference4Ideal Cert.Reference4Ideal.Gen

/-- The reference's result, at every index. -/
theorem ref_modulation (c : Vec Ideal SC .f32) (w : Vec Ideal SW .f32) (b : Vec Ideal SB .f32) :
    addf (Host.dotGeneral (F := Ideal) (φ₁ := .f32) (φ₂ := .f32) dot_S8x2048_S2048x12288_S8x12288_1_0_0_1_n_n none (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))) (shapeCast _ w shapeCasts_S1x2048x12288_S2048x12288)) (broadcastInDim S8x12288 ![0, 1] bcast_S1x12288_S8x12288_0_1 (broadcastInDim S1x12288 ![1] bcast_S12288_S1x12288_1 (shapeCast _ b shapeCasts_S1x12288_S12288)))
      = modulation c w b := by
  funext i
  idx_vars i
  pointwise [modulation, silu, Ideal.logistic]

end Ref

/-- The reference keeps its arguments, and it declares no semaphore that could be left counted up. -/
theorem frame_reference : Cert.quiescent_Reference4Ideal (hReference4Ideal := Cert.Reference4Ideal.Gen.facts) :=
  fun m g _ => (θ_run _ _ _).mono
    (fun r hr => ⟨fun c => (hr c).2, sem_eq_zero_of_no_sems rfl r.2⟩) (Cert.Reference4Ideal.Value.run m g)

/-- The result of the modulation's call is its reference's. -/
theorem algebraic_ada : Cert.algebraic_Kernel4Ideal_Reference4Ideal
    (hKernel4Ideal := Cert.Kernel4Ideal.Gen.facts) (hReference4Ideal := Cert.Reference4Ideal.Gen.facts) := by
  intro m g m' g' _ hagree
  refine ⟨fun c => MOD m c, (θ_run _ _ _).mono (fun r hr c => ?_) (Cert.Kernel4Ideal.Value.run_blocks m g),
    (θ_run _ _ _).mono (fun r hr c => ?_) (Cert.Reference4Ideal.Value.run m' g')⟩
  · obtain ⟨e, hk⟩ := hr c
    exact ⟨e.trans (arr3 m c), hk⟩
  · obtain ⟨e, hk⟩ := hr c
    obtain ⟨a0, a1, a2⟩ := hagree c
    have s := e.trans (ref_modulation _ _ _)
    rw [a0, a1, a2] at s
    exact ⟨s, hk⟩

end Cert.Proof.Ada
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Step
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference.Value
public import proofs.«01_k».proof.Proof.PackBits
public import proofs.«01_k».proof.Proof.RouteValue
public import proofs.«01_k».proof.Proof.MixValue
public import proofs.«01_k».proof.Proof.AdaValue
public import Idealize.ShloMosaic.Adequacy
public import Idealize.ShloMosaic.Init

@[expose] public section

noncomputable section

namespace Cert.Proof

open Idealize.ShloMosaic Idealize.SL.Sem Cert.Kernel

/-- Every claim of the certificate: the pack call's frame and its words, the routing call's, the mixing call's and the modulation call's frames and their results. -/
theorem claim : Cert.Claim := ⟨Cert.Kernel.Gen.facts, Cert.Reference.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Proof.Pack.frame_pack, fun m ρ _ => Cert.Reference.Gen.frame m ρ,
  fun m ρ _ => Cert.Kernel2.Gen.frame m ρ, fun m ρ _ => Cert.Kernel2Ideal.Gen.frame m ρ, Cert.Proof.Route.frame_reference,
  fun m ρ _ => Cert.Kernel3.Gen.frame m ρ, fun m ρ _ => Cert.Kernel3Ideal.Gen.frame m ρ, Cert.Proof.Mix.frame_reference,
  fun m ρ _ => Cert.Kernel4.Gen.frame m ρ, fun m ρ _ => Cert.Kernel4Ideal.Gen.frame m ρ, Cert.Proof.Ada.frame_reference,
  Cert.Proof.Pack.bitexact_pack, trivial, Cert.Proof.Route.algebraic_route, trivial, Cert.Proof.Mix.algebraic_mix,
  trivial, Cert.Proof.Ada.algebraic_ada⟩

end Cert.Proof

end
